-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x732x4096 : Shape := ⟨3, ![7, 732, 4096]⟩
abbrev S7x732x32 : Shape := ⟨3, ![7, 732, 32]⟩
abbrev S7 : Shape := ⟨1, ![7]⟩
abbrev S7x4096x12288 : Shape := ⟨3, ![7, 4096, 12288]⟩
abbrev S7x32x96 : Shape := ⟨3, ![7, 32, 96]⟩
abbrev S7x12288x4096 : Shape := ⟨3, ![7, 12288, 4096]⟩
abbrev S7x96x32 : Shape := ⟨3, ![7, 96, 32]⟩
abbrev S7x732x12288 : Shape := ⟨3, ![7, 732, 12288]⟩
abbrev S7x732x96 : Shape := ⟨3, ![7, 732, 96]⟩
abbrev S1x736x4096 : Shape := ⟨3, ![1, 736, 4096]⟩
abbrev S1x736x32 : Shape := ⟨3, ![1, 736, 32]⟩
abbrev S1x4096x256 : Shape := ⟨3, ![1, 4096, 256]⟩
abbrev S1x32x96 : Shape := ⟨3, ![1, 32, 96]⟩
abbrev S1x256x4096 : Shape := ⟨3, ![1, 256, 4096]⟩
abbrev S1x96x32 : Shape := ⟨3, ![1, 96, 32]⟩
abbrev S1x736x256 : Shape := ⟨3, ![1, 736, 256]⟩
abbrev S1x736x96 : Shape := ⟨3, ![1, 736, 96]⟩
abbrev S736x4096 : Shape := ⟨2, ![736, 4096]⟩
abbrev S4096x512 : Shape := ⟨2, ![4096, 512]⟩
abbrev S256x4096 : Shape := ⟨2, ![256, 4096]⟩
abbrev S256x256 : Shape := ⟨2, ![256, 256]⟩
abbrev S1 : Shape := ⟨1, ![1]⟩
abbrev S736x32 : Shape := ⟨2, ![736, 32]⟩
abbrev S736 : Shape := ⟨1, ![736]⟩
abbrev S736x1 : Shape := ⟨2, ![736, 1]⟩
abbrev S736x128 : Shape := ⟨2, ![736, 128]⟩
abbrev S1x736x128 : Shape := ⟨3, ![1, 736, 128]⟩
abbrev S1x1x1 : Shape := ⟨3, ![1, 1, 1]⟩
abbrev S128x128 : Shape := ⟨2, ![128, 128]⟩
abbrev S1x128x128 : Shape := ⟨3, ![1, 128, 128]⟩
abbrev S256x512 : Shape := ⟨2, ![256, 512]⟩
abbrev S256x128 : Shape := ⟨2, ![256, 128]⟩
abbrev S256x96 : Shape := ⟨2, ![256, 96]⟩
abbrev S1x256x96 : Shape := ⟨3, ![1, 256, 96]⟩
abbrev S256 : Shape := ⟨1, ![256]⟩
abbrev S256x1 : Shape := ⟨2, ![256, 1]⟩
abbrev S1x256x128 : Shape := ⟨3, ![1, 256, 128]⟩
abbrev S736x256 : Shape := ⟨2, ![736, 256]⟩

abbrev nBuf : Space → Nat
  | .hbm => 11
  | .vmem => 21
  | .smem => 7
  | _ => 0

abbrev bufTy : (tb : Table) → Fin (tcTables nBuf tb) → BufTy
  | .hbm, ⟨0, _⟩ => ⟨S7x732x4096, .fp8e4m3⟩
  | .hbm, ⟨1, _⟩ => ⟨S7x732x32, .f32⟩
  | .hbm, ⟨2, _⟩ => ⟨S7x4096x12288, .fp8e4m3⟩
  | .hbm, ⟨3, _⟩ => ⟨S7x32x96, .f32⟩
  | .hbm, ⟨4, _⟩ => ⟨S7x4096x12288, .fp8e4m3⟩
  | .hbm, ⟨5, _⟩ => ⟨S7x32x96, .f32⟩
  | .hbm, ⟨6, _⟩ => ⟨S7x12288x4096, .fp8e4m3⟩
  | .hbm, ⟨7, _⟩ => ⟨S7x96x32, .f32⟩
  | .hbm, ⟨8, _⟩ => ⟨S7x732x4096, .bf16⟩
  | .hbm, ⟨9, _⟩ => ⟨S7x732x12288, .fp8e4m3⟩
  | .hbm, ⟨10, _⟩ => ⟨S7x732x96, .f32⟩
  | .local _ .vmem, ⟨0, _⟩ => ⟨S1x736x4096, .fp8e4m3⟩
  | .local _ .vmem, ⟨1, _⟩ => ⟨S1x736x4096, .fp8e4m3⟩
  | .local _ .vmem, ⟨2, _⟩ => ⟨S1x736x32, .f32⟩
  | .local _ .vmem, ⟨3, _⟩ => ⟨S1x736x32, .f32⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x4096x256, .fp8e4m3⟩
  | .local _ .vmem, ⟨7, _⟩ => ⟨S1x4096x256, .fp8e4m3⟩
  | .local _ .vmem, ⟨8, _⟩ => ⟨S1x256x4096, .fp8e4m3⟩
  | .local _ .vmem, ⟨9, _⟩ => ⟨S1x256x4096, .fp8e4m3⟩
  | .local _ .vmem, ⟨10, _⟩ => ⟨S1x736x4096, .bf16⟩
  | .local _ .vmem, ⟨11, _⟩ => ⟨S1x736x4096, .bf16⟩
  | .local _ .vmem, ⟨12, _⟩ => ⟨S1x736x256, .fp8e4m3⟩
  | .local _ .vmem, ⟨13, _⟩ => ⟨S1x736x256, .fp8e4m3⟩
  | .local _ .vmem, ⟨14, _⟩ => ⟨S1x736x96, .f32⟩
  | .local _ .vmem, ⟨15, _⟩ => ⟨S1x736x96, .f32⟩
  | .local _ .vmem, ⟨16, _⟩ => ⟨S736x4096, .bf16⟩
  | .local _ .vmem, ⟨17, _⟩ => ⟨S4096x512, .bf16⟩
  | .local _ .vmem, ⟨18, _⟩ => ⟨S256x4096, .bf16⟩
  | .local _ .vmem, ⟨19, _⟩ => ⟨S736x4096, .f32⟩
  | .local _ .vmem, ⟨20, _⟩ => ⟨S256x256, .bf16⟩
  | .local _ .smem, ⟨0, _⟩ => ⟨S7, .i32⟩
  | .local _ .smem, ⟨1, _⟩ => ⟨S1x32x96, .f32⟩
  | .local _ .smem, ⟨2, _⟩ => ⟨S1x32x96, .f32⟩
  | .local _ .smem, ⟨3, _⟩ => ⟨S1x32x96, .f32⟩
  | .local _ .smem, ⟨4, _⟩ => ⟨S1x32x96, .f32⟩
  | .local _ .smem, ⟨5, _⟩ => ⟨S1x96x32, .f32⟩
  | .local _ .smem, ⟨6, _⟩ => ⟨S1x96x32, .f32⟩
  | _, _ => ⟨S7x732x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg3_0 : Ref sig .tc := ⟨.smem, 1, rfl⟩
abbrev cc0_stg3_1 : Ref sig .tc := ⟨.smem, 2, rfl⟩
abbrev cc0_stg5_0 : Ref sig .tc := ⟨.smem, 3, rfl⟩
abbrev cc0_stg5_1 : Ref sig .tc := ⟨.smem, 4, rfl⟩
abbrev cc0_stg7_0 : Ref sig .tc := ⟨.smem, 5, rfl⟩
abbrev cc0_stg7_1 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![7, 48], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_6 : BitVec 32 := 0#32
  let v21 : BitVec 1 := Scalar.cmpi .eq arg1 c0_i32_6
  let v22 : BitVec 32 := Scalar.extui v21
  let c0_i32_7 : BitVec 32 := 0#32
  let v23 : BitVec 1 := Scalar.cmpi .ne v22 c0_i32_7
  v23

@[reducible] def k0_t1_loop : Scf.Loop 32 :=
  let c0_i32_20 : BitVec 32 := 0#32
  let c32_i32 : BitVec 32 := 32#32
  let v38 : BitVec 32 := Scalar.addi c0_i32_20 c32_i32
  let c1_i32_21 : BitVec 32 := 1#32
  ⟨c0_i32_20, v38, c1_i32_21⟩
def k0_mult1 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32 : BitVec 32 := 128#32
  let v51 : BitVec 32 := Scalar.muli arg19 c128_i32
  v51
def k0_off2 (k0_t1 : Fin k0_t1_loop.trips) : Fin 3 → Nat :=
  let c0_28 : Index := 0#32
  let c0_29 : Index := 0#32
  let c0_i32_20 : BitVec 32 := 0#32
  let c1_i32_21 : BitVec 32 := 1#32
  let arg19 : BitVec 32 := Scf.iv c0_i32_20 c1_i32_21 k0_t1
  let c128_i32 : BitVec 32 := 128#32
  let v51 : BitVec 32 := Scalar.muli arg19 c128_i32
  let v52 : BitVec 32 := v51
  let v53 : Index := Scalar.indexCast v52
  ![0, 0, v53.toNat]
def k0_off3 (k0_t1 : Fin k0_t1_loop.trips) : Fin 2 → Nat :=
  let c0_30 : Index := 0#32
  let c0_i32_20 : BitVec 32 := 0#32
  let c1_i32_21 : BitVec 32 := 1#32
  let arg19 : BitVec 32 := Scf.iv c0_i32_20 c1_i32_21 k0_t1
  let c128_i32 : BitVec 32 := 128#32
  let v51 : BitVec 32 := Scalar.muli arg19 c128_i32
  let v52 : BitVec 32 := v51
  let v58 : Index := Scalar.indexCast v52
  ![0, v58.toNat]
@[reducible] def k0_t2_loop : Scf.Loop 32 :=
  let c0_i32_13 : BitVec 32 := 0#32
  let c32_i32 : BitVec 32 := 32#32
  let v32 : BitVec 32 := Scalar.addi c0_i32_13 c32_i32
  let c1_i32_14 : BitVec 32 := 1#32
  ⟨c0_i32_13, v32, c1_i32_14⟩
def k0_mult2 (k0_t2 : Fin k0_t2_loop.trips) : BitVec 32 :=
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  v39
def k0_off4 (i : grid0.Coords) (k0_t2 : Fin k0_t2_loop.trips) (c0_i32_25 : BitVec 32) : Fin 3 → Nat :=
  let c0_26 : Index := 0#32
  let c0_i32_13 : BitVec 32 := 0#32
  let c1_i32_14 : BitVec 32 := 1#32
  let arg19 : BitVec 32 := Scf.iv c0_i32_13 c1_i32_14 k0_t2
  let v43 : Index := Scalar.indexCast arg19
  let arg1 : BitVec 32 := BitVec.ofNat 32 (i 1).val
  let c2_i32 : BitVec 32 := 2#32
  let v41 : BitVec 32 := Scalar.muli arg1 c2_i32
  let v42 : BitVec 32 := Scalar.addi v41 c0_i32_25
  let v44 : Index := Scalar.indexCast v42
  ![0, v43.toNat, v44.toNat]
def k0_off5 (k0_t2 : Fin k0_t2_loop.trips) : Fin 3 → Nat :=
  let c0_27 : Index := 0#32
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v48 : Index := Scalar.indexCast v40
  let c0_28 : Index := 0#32
  ![0, v48.toNat, 0]
def k0_off6 (k0_t2 : Fin k0_t2_loop.trips) : Fin 2 → Nat :=
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v53 : Index := Scalar.indexCast v40
  let c0_29 : Index := 0#32
  ![v53.toNat, 0]
def k0_off7 (k0_t2 : Fin k0_t2_loop.trips) : Fin 3 → Nat :=
  let c0_33 : Index := 0#32
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v64 : Index := Scalar.indexCast v40
  let c128 : Index := 128#32
  ![0, v64.toNat, 128]
def k0_off8 (k0_t2 : Fin k0_t2_loop.trips) : Fin 2 → Nat :=
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v69 : Index := Scalar.indexCast v40
  let c128_34 : Index := 128#32
  ![v69.toNat, 128]
def k0_off9 (k0_t2 : Fin k0_t2_loop.trips) : Fin 2 → Nat :=
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v85 : Index := Scalar.indexCast v40
  let c256 : Index := 256#32
  ![v85.toNat, 256]
def k0_off10 (k0_t2 : Fin k0_t2_loop.trips) : Fin 2 → Nat :=
  let c0_i32_13 : BitVec 32 := 0#32
  let c1_i32_14 : BitVec 32 := 1#32
  let arg19 : BitVec 32 := Scf.iv c0_i32_13 c1_i32_14 k0_t2
  let c128_i32 : BitVec 32 := 128#32
  let v39 : BitVec 32 := Scalar.muli arg19 c128_i32
  let v40 : BitVec 32 := v39
  let v101 : Index := Scalar.indexCast v40
  let c384 : Index := 384#32
  ![v101.toNat, 384]
@[reducible] def k0_t3_loop : Scf.Loop 32 :=
  let c0_i32_16 : BitVec 32 := 0#32
  let c32_i32_17 : BitVec 32 := 32#32
  let v33 : BitVec 32 := Scalar.addi c0_i32_16 c32_i32_17
  let c1_i32_18 : BitVec 32 := 1#32
  ⟨c0_i32_16, v33, c1_i32_18⟩
def k0_mult3 (k0_t3 : Fin k0_t3_loop.trips) : BitVec 32 :=
  let c0_i32_16 : BitVec 32 := 0#32
  let c1_i32_18 : BitVec 32 := 1#32
  let arg19 : BitVec 32 := Scf.iv c0_i32_16 c1_i32_18 k0_t3
  let c128_i32 : BitVec 32 := 128#32
  let v39 : BitVec 32 := Scalar.muli arg19 c128_i32
  v39
def k0_off11 (i : grid0.Coords) (k0_t3 : Fin k0_t3_loop.trips) (c0_i32_25 : BitVec 32) : Fin 3 → Nat :=
  let c0_26 : Index := 0#32
  let arg1 : BitVec 32 := BitVec.ofNat 32 (i 1).val
  let c2_i32 : BitVec 32 := 2#32
  let v41 : BitVec 32 := Scalar.muli arg1 c2_i32
  let v42 : BitVec 32 := Scalar.addi v41 c0_i32_25
  let v43 : Index := Scalar.indexCast v42
  let c0_i32_16 : BitVec 32 := 0#32
  let c1_i32_18 : BitVec 32 := 1#32
  let arg19 : BitVec 32 := Scf.iv c0_i32_16 c1_i32_18 k0_t3
  let v44 : Index := Scalar.indexCast arg19
  ![0, v43.toNat, v44.toNat]
def k0_off12 (k0_t3 : Fin k0_t3_loop.trips) : Fin 3 → Nat :=
  let c0_27 : Index := 0#32
  let c0_28 : Index := 0#32
  let c0_i32_16 : BitVec 32 := 0#32
  let c1_i32_18 : BitVec 32 := 1#32
  let arg19 : BitVec 32 := Scf.iv c0_i32_16 c1_i32_18 k0_t3
  let c128_i32 : BitVec 32 := 128#32
  let v39 : BitVec 32 := Scalar.muli arg19 c128_i32
  let v40 : BitVec 32 := v39
  let v48 : Index := Scalar.indexCast v40
  ![0, 0, v48.toNat]
def k0_off13 (k0_t3 : Fin k0_t3_loop.trips) : Fin 2 → Nat :=
  let c0_29 : Index := 0#32
  let c0_i32_16 : BitVec 32 := 0#32
  let c1_i32_18 : BitVec 32 := 1#32
  let arg19 : BitVec 32 := Scf.iv c0_i32_16 c1_i32_18 k0_t3
  let c128_i32 : BitVec 32 := 128#32
  let v39 : BitVec 32 := Scalar.muli arg19 c128_i32
  let v40 : BitVec 32 := v39
  let v53 : Index := Scalar.indexCast v40
  ![0, v53.toNat]
def k0_off14 (k0_t3 : Fin k0_t3_loop.trips) : Fin 3 → Nat :=
  let c0_33 : Index := 0#32
  let c128 : Index := 128#32
  let c0_i32_16 : BitVec 32 := 0#32
  let c1_i32_18 : BitVec 32 := 1#32
  let arg19 : BitVec 32 := Scf.iv c0_i32_16 c1_i32_18 k0_t3
  let c128_i32 : BitVec 32 := 128#32
  let v39 : BitVec 32 := Scalar.muli arg19 c128_i32
  let v40 : BitVec 32 := v39
  let v64 : Index := Scalar.indexCast v40
  ![0, 128, v64.toNat]
def k0_off15 (k0_t3 : Fin k0_t3_loop.trips) : Fin 2 → Nat :=
  let c128_34 : Index := 128#32
  let c0_i32_16 : BitVec 32 := 0#32
  let c1_i32_18 : BitVec 32 := 1#32
  let arg19 : BitVec 32 := Scf.iv c0_i32_16 c1_i32_18 k0_t3
  let c128_i32 : BitVec 32 := 128#32
  let v39 : BitVec 32 := Scalar.muli arg19 c128_i32
  let v40 : BitVec 32 := v39
  let v69 : Index := Scalar.indexCast v40
  ![128, v69.toNat]
@[reducible] def k0_t4_loop (v1 : BitVec 32) : Scf.Loop 32 :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_23 : BitVec 32 := 1#32
  ⟨c0_i32_21, v38, c1_i32_23⟩
def k0_cond2 (v1 : BitVec 32) : BitVec 1 :=
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let c0_i32_10 : BitVec 32 := 0#32
  let v26 : BitVec 1 := Scalar.cmpi .sgt v20 c0_i32_10
  let v27 : BitVec 32 := Scalar.extui v26
  let c0_i32_11 : BitVec 32 := 0#32
  let v28 : BitVec 1 := Scalar.cmpi .ne v27 c0_i32_11
  v28

def k0_mult4 (v1 : BitVec 32) (k0_t4 : Fin (k0_t4_loop v1).trips) : BitVec 32 :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  v40
def k0_off16 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v42 : Index := Scalar.indexCast v41
  let c0_26 : Index := 0#32
  ![v42.toNat, 0]
def k0_off17 (v1 : BitVec 32) (k0_t4 : Fin (k0_t4_loop v1).trips) : Fin 3 → Nat :=
  let c0_30 : Index := 0#32
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v50 : Index := Scalar.indexCast v41
  let c0_31 : Index := 0#32
  ![0, v50.toNat, 0]
def k0_off18 (v1 : BitVec 32) (k0_t4 : Fin (k0_t4_loop v1).trips) : Fin 3 → Nat :=
  let c0_51 : Index := 0#32
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v145 : Index := Scalar.indexCast v41
  let c0_52 : Index := 0#32
  ![0, v145.toNat, 0]
def k0_off19 (v1 : BitVec 32) (k0_t4 : Fin (k0_t4_loop v1).trips) : Fin 3 → Nat :=
  let c0_85 : Index := 0#32
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v256 : Index := Scalar.indexCast v41
  let c128 : Index := 128#32
  ![0, v256.toNat, 128]
def k0_off20 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v288 : Index := Scalar.indexCast v41
  let c0_98 : Index := 0#32
  ![v288.toNat, 0]
def k0_off21 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v302 : Index := Scalar.indexCast v41
  let c256_105 : Index := 256#32
  ![v302.toNat, 256]
def k0_off22 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v316 : Index := Scalar.indexCast v41
  let c512_112 : Index := 512#32
  ![v316.toNat, 512]
def k0_off23 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v330 : Index := Scalar.indexCast v41
  let c768_119 : Index := 768#32
  ![v330.toNat, 768]
def k0_off24 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v344 : Index := Scalar.indexCast v41
  let c1024_126 : Index := 1024#32
  ![v344.toNat, 1024]
def k0_off25 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v358 : Index := Scalar.indexCast v41
  let c1280_133 : Index := 1280#32
  ![v358.toNat, 1280]
def k0_off26 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v372 : Index := Scalar.indexCast v41
  let c1536_140 : Index := 1536#32
  ![v372.toNat, 1536]
def k0_off27 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v386 : Index := Scalar.indexCast v41
  let c1792_147 : Index := 1792#32
  ![v386.toNat, 1792]
def k0_off28 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v400 : Index := Scalar.indexCast v41
  let c2048_154 : Index := 2048#32
  ![v400.toNat, 2048]
def k0_off29 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v414 : Index := Scalar.indexCast v41
  let c2304_161 : Index := 2304#32
  ![v414.toNat, 2304]
def k0_off30 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v428 : Index := Scalar.indexCast v41
  let c2560_168 : Index := 2560#32
  ![v428.toNat, 2560]
def k0_off31 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v442 : Index := Scalar.indexCast v41
  let c2816_175 : Index := 2816#32
  ![v442.toNat, 2816]
def k0_off32 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v456 : Index := Scalar.indexCast v41
  let c3072_182 : Index := 3072#32
  ![v456.toNat, 3072]
def k0_off33 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v470 : Index := Scalar.indexCast v41
  let c3328_189 : Index := 3328#32
  ![v470.toNat, 3328]
def k0_off34 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v484 : Index := Scalar.indexCast v41
  let c3584_196 : Index := 3584#32
  ![v484.toNat, 3584]
def k0_off35 (v1 : BitVec 32) (k0_t4 : Fin (k0_t4_loop v1).trips) : Fin 2 → Nat :=
  let c0_i32_21 : BitVec 32 := 0#32
  let c1_i32_23 : BitVec 32 := 1#32
  let arg19 : BitVec 32 := Scf.iv c0_i32_21 c1_i32_23 k0_t4
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v498 : Index := Scalar.indexCast v41
  let c3840_203 : Index := 3840#32
  ![v498.toNat, 3840]
@[reducible] def k0_t5_loop (v1 : BitVec 32) : Scf.Loop 32 :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let v35 : BitVec 32 := Scalar.addi c0_i32_21 v34
  let c1_i32_24 : BitVec 32 := 1#32
  ⟨v38, v35, c1_i32_24⟩
def k0_mult5 (v1 : BitVec 32) (k0_t5 : Fin (k0_t5_loop v1).trips) : BitVec 32 :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  v40
def k0_off36 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v42 : Index := Scalar.indexCast v41
  let c0_26 : Index := 0#32
  ![v42.toNat, 0]
def k0_off37 (v1 : BitVec 32) (k0_t5 : Fin (k0_t5_loop v1).trips) : Fin 3 → Nat :=
  let c0_30 : Index := 0#32
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v50 : Index := Scalar.indexCast v41
  let c0_31 : Index := 0#32
  ![0, v50.toNat, 0]
def k0_off38 (v1 : BitVec 32) (k0_t5 : Fin (k0_t5_loop v1).trips) : Fin 3 → Nat :=
  let c0_51 : Index := 0#32
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v145 : Index := Scalar.indexCast v41
  let c0_52 : Index := 0#32
  ![0, v145.toNat, 0]
def k0_off39 (v1 : BitVec 32) (k0_t5 : Fin (k0_t5_loop v1).trips) : Fin 3 → Nat :=
  let c0_85 : Index := 0#32
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v256 : Index := Scalar.indexCast v41
  let c128 : Index := 128#32
  ![0, v256.toNat, 128]
def k0_off40 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v288 : Index := Scalar.indexCast v41
  let c0_98 : Index := 0#32
  ![v288.toNat, 0]
def k0_off41 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v302 : Index := Scalar.indexCast v41
  let c256_105 : Index := 256#32
  ![v302.toNat, 256]
def k0_off42 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v316 : Index := Scalar.indexCast v41
  let c512_112 : Index := 512#32
  ![v316.toNat, 512]
def k0_off43 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v330 : Index := Scalar.indexCast v41
  let c768_119 : Index := 768#32
  ![v330.toNat, 768]
def k0_off44 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v344 : Index := Scalar.indexCast v41
  let c1024_126 : Index := 1024#32
  ![v344.toNat, 1024]
def k0_off45 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v358 : Index := Scalar.indexCast v41
  let c1280_133 : Index := 1280#32
  ![v358.toNat, 1280]
def k0_off46 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v372 : Index := Scalar.indexCast v41
  let c1536_140 : Index := 1536#32
  ![v372.toNat, 1536]
def k0_off47 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v386 : Index := Scalar.indexCast v41
  let c1792_147 : Index := 1792#32
  ![v386.toNat, 1792]
def k0_off48 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v400 : Index := Scalar.indexCast v41
  let c2048_154 : Index := 2048#32
  ![v400.toNat, 2048]
def k0_off49 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v414 : Index := Scalar.indexCast v41
  let c2304_161 : Index := 2304#32
  ![v414.toNat, 2304]
def k0_off50 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v428 : Index := Scalar.indexCast v41
  let c2560_168 : Index := 2560#32
  ![v428.toNat, 2560]
def k0_off51 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v442 : Index := Scalar.indexCast v41
  let c2816_175 : Index := 2816#32
  ![v442.toNat, 2816]
def k0_off52 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v456 : Index := Scalar.indexCast v41
  let c3072_182 : Index := 3072#32
  ![v456.toNat, 3072]
def k0_off53 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v470 : Index := Scalar.indexCast v41
  let c3328_189 : Index := 3328#32
  ![v470.toNat, 3328]
def k0_off54 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v484 : Index := Scalar.indexCast v41
  let c3584_196 : Index := 3584#32
  ![v484.toNat, 3584]
def k0_off55 (v1 : BitVec 32) (k0_t5 : Fin (k0_t5_loop v1).trips) : Fin 2 → Nat :=
  let c0_i32_21 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v34 : BitVec 32 := Scalar.subi v20 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_24 : BitVec 32 := 1#32
  let arg19 : BitVec 32 := Scf.iv v38 c1_i32_24 k0_t5
  let c256_i32_25 : BitVec 32 := 256#32
  let v39 : BitVec 32 := Scalar.muli arg19 c256_i32_25
  let c480_i32 : BitVec 32 := 480#32
  let v40 : BitVec 32 := Scalar.minsi v39 c480_i32
  let v41 : BitVec 32 := v40
  let v498 : Index := Scalar.indexCast v41
  let c3840_203 : Index := 3840#32
  ![v498.toNat, 3840]

def k0_chk1_0 (v1 : BitVec 32) : Prop :=
  (∀ (k0_h2 : k0_cond2 v1 = 1#1), (k0_t4_loop v1).OK) ∧
  (∀ k0_t4 : Fin (k0_t4_loop v1).trips, ∀ (k0_h2 : k0_cond2 v1 = 1#1), 32 ∣ (k0_mult4 v1 k0_t4).toNat) ∧
  (∀ k0_t4 : Fin (k0_t4_loop v1).trips, ∀ (k0_h2 : k0_cond2 v1 = 1#1), ∀ a, (k0_off16 v1 k0_t4) a + S256x4096.size a ≤ S736x4096.size a) ∧
  (∀ k0_t4 : Fin (k0_t4_loop v1).trips, ∀ (k0_h2 : k0_cond2 v1 = 1#1), ∀ a, (k0_off17 v1 k0_t4) a + S1x256x96.size a ≤ S1x736x96.size a) ∧
  (∀ k0_t4 : Fin (k0_t4_loop v1).trips, ∀ (k0_h2 : k0_cond2 v1 = 1#1), ∀ a, (k0_off18 v1 k0_t4) a + S1x256x128.size a ≤ S1x736x256.size a) ∧
  (∀ k0_t4 : Fin (k0_t4_loop v1).trips, ∀ (k0_h2 : k0_cond2 v1 = 1#1), ∀ (hinb : ∀ a, (k0_off18 v1 k0_t4) a + S1x256x128.size a ≤ S1x736x256.size a), (Rect.unit (s := S1x736x256) (k0_off18 v1 k0_t4) S1x256x128.size hinb).PackedRows (EltTy.packing .fp8e4m3)) ∧
  (∀ k0_t4 : Fin (k0_t4_loop v1).trips, ∀ (k0_h2 : k0_cond2 v1 = 1#1), ∀ a, (k0_off19 v1 k0_t4) a + S1x256x128.size a ≤ S1x736x256.size a) ∧
  (∀ k0_t4 : Fin (k0_t4_loop v1).trips, ∀ (k0_h2 : k0_cond2 v1 = 1#1), ∀ (hinb : ∀ a, (k0_off19 v1 k0_t4) a + S1x256x128.size a ≤ S1x736x256.size a), (Rect.unit (s := S1x736x256) (k0_off19 v1 k0_t4) S1x256x128.size hinb).PackedRows (EltTy.packing .fp8e4m3)) ∧
  (∀ k0_t4 : Fin (k0_t4_loop v1).trips, ∀ (k0_h2 : k0_cond2 v1 = 1#1), ∀ a, (k0_off20 v1 k0_t4) a + S256x256.size a ≤ S736x4096.size a) ∧
  (∀ k0_t4 : Fin (k0_t4_loop v1).trips, ∀ (k0_h2 : k0_cond2 v1 = 1#1), ∀ a, (k0_off21 v1 k0_t4) a + S256x256.size a ≤ S736x4096.size a) ∧
  (∀ k0_t4 : Fin (k0_t4_loop v1).trips, ∀ (k0_h2 : k0_cond2 v1 = 1#1), ∀ a, (k0_off22 v1 k0_t4) a + S256x256.size a ≤ S736x4096.size a) ∧
  (∀ k0_t4 : Fin (k0_t4_loop v1).trips, ∀ (k0_h2 : k0_cond2 v1 = 1#1), ∀ a, (k0_off23 v1 k0_t4) a + S256x256.size a ≤ S736x4096.size a) ∧
  (∀ k0_t4 : Fin (k0_t4_loop v1).trips, ∀ (k0_h2 : k0_cond2 v1 = 1#1), ∀ a, (k0_off24 v1 k0_t4) a + S256x256.size a ≤ S736x4096.size a) ∧
  (∀ k0_t4 : Fin (k0_t4_loop v1).trips, ∀ (k0_h2 : k0_cond2 v1 = 1#1), ∀ a, (k0_off25 v1 k0_t4) a + S256x256.size a ≤ S736x4096.size a) ∧
  (∀ k0_t4 : Fin (k0_t4_loop v1).trips, ∀ (k0_h2 : k0_cond2 v1 = 1#1), ∀ a, (k0_off26 v1 k0_t4) a + S256x256.size a ≤ S736x4096.size a) ∧
  (∀ k0_t4 : Fin (k0_t4_loop v1).trips, ∀ (k0_h2 : k0_cond2 v1 = 1#1), ∀ a, (k0_off27 v1 k0_t4) a + S256x256.size a ≤ S736x4096.size a) ∧
  (∀ k0_t4 : Fin (k0_t4_loop v1).trips, ∀ (k0_h2 : k0_cond2 v1 = 1#1), ∀ a, (k0_off28 v1 k0_t4) a + S256x256.size a ≤ S736x4096.size a) ∧
  (∀ k0_t4 : Fin (k0_t4_loop v1).trips, ∀ (k0_h2 : k0_cond2 v1 = 1#1), ∀ a, (k0_off29 v1 k0_t4) a + S256x256.size a ≤ S736x4096.size a) ∧
  (∀ k0_t4 : Fin (k0_t4_loop v1).trips, ∀ (k0_h2 : k0_cond2 v1 = 1#1), ∀ a, (k0_off30 v1 k0_t4) a + S256x256.size a ≤ S736x4096.size a) ∧
  (∀ k0_t4 : Fin (k0_t4_loop v1).trips, ∀ (k0_h2 : k0_cond2 v1 = 1#1), ∀ a, (k0_off31 v1 k0_t4) a + S256x256.size a ≤ S736x4096.size a) ∧
  (∀ k0_t4 : Fin (k0_t4_loop v1).trips, ∀ (k0_h2 : k0_cond2 v1 = 1#1), ∀ a, (k0_off32 v1 k0_t4) a + S256x256.size a ≤ S736x4096.size a) ∧
  (∀ k0_t4 : Fin (k0_t4_loop v1).trips, ∀ (k0_h2 : k0_cond2 v1 = 1#1), ∀ a, (k0_off33 v1 k0_t4) a + S256x256.size a ≤ S736x4096.size a) ∧
  (∀ k0_t4 : Fin (k0_t4_loop v1).trips, ∀ (k0_h2 : k0_cond2 v1 = 1#1), ∀ a, (k0_off34 v1 k0_t4) a + S256x256.size a ≤ S736x4096.size a) ∧
  (∀ k0_t4 : Fin (k0_t4_loop v1).trips, ∀ (k0_h2 : k0_cond2 v1 = 1#1), ∀ a, (k0_off35 v1 k0_t4) a + S256x256.size a ≤ S736x4096.size a) ∧
  (∀ (k0_h2 : k0_cond2 v1 = 1#1), (k0_t5_loop v1).OK) ∧
  (∀ k0_t5 : Fin (k0_t5_loop v1).trips, ∀ (k0_h2 : k0_cond2 v1 = 1#1), 32 ∣ (k0_mult5 v1 k0_t5).toNat) ∧
  (∀ k0_t5 : Fin (k0_t5_loop v1).trips, ∀ (k0_h2 : k0_cond2 v1 = 1#1), ∀ a, (k0_off36 v1 k0_t5) a + S256x4096.size a ≤ S736x4096.size a) ∧
  (∀ k0_t5 : Fin (k0_t5_loop v1).trips, ∀ (k0_h2 : k0_cond2 v1 = 1#1), ∀ a, (k0_off37 v1 k0_t5) a + S1x256x96.size a ≤ S1x736x96.size a) ∧
  (∀ k0_t5 : Fin (k0_t5_loop v1).trips, ∀ (k0_h2 : k0_cond2 v1 = 1#1), ∀ a, (k0_off38 v1 k0_t5) a + S1x256x128.size a ≤ S1x736x256.size a) ∧
  (∀ k0_t5 : Fin (k0_t5_loop v1).trips, ∀ (k0_h2 : k0_cond2 v1 = 1#1), ∀ (hinb : ∀ a, (k0_off38 v1 k0_t5) a + S1x256x128.size a ≤ S1x736x256.size a), (Rect.unit (s := S1x736x256) (k0_off38 v1 k0_t5) S1x256x128.size hinb).PackedRows (EltTy.packing .fp8e4m3)) ∧
  (∀ k0_t5 : Fin (k0_t5_loop v1).trips, ∀ (k0_h2 : k0_cond2 v1 = 1#1), ∀ a, (k0_off39 v1 k0_t5) a + S1x256x128.size a ≤ S1x736x256.size a) ∧
  (∀ k0_t5 : Fin (k0_t5_loop v1).trips, ∀ (k0_h2 : k0_cond2 v1 = 1#1), ∀ (hinb : ∀ a, (k0_off39 v1 k0_t5) a + S1x256x128.size a ≤ S1x736x256.size a), (Rect.unit (s := S1x736x256) (k0_off39 v1 k0_t5) S1x256x128.size hinb).PackedRows (EltTy.packing .fp8e4m3))
def k0_chk1_1 (v1 : BitVec 32) : Prop :=
  (∀ k0_t5 : Fin (k0_t5_loop v1).trips, ∀ (k0_h2 : k0_cond2 v1 = 1#1), ∀ a, (k0_off40 v1 k0_t5) a + S256x256.size a ≤ S736x4096.size a) ∧
  (∀ k0_t5 : Fin (k0_t5_loop v1).trips, ∀ (k0_h2 : k0_cond2 v1 = 1#1), ∀ a, (k0_off41 v1 k0_t5) a + S256x256.size a ≤ S736x4096.size a) ∧
  (∀ k0_t5 : Fin (k0_t5_loop v1).trips, ∀ (k0_h2 : k0_cond2 v1 = 1#1), ∀ a, (k0_off42 v1 k0_t5) a + S256x256.size a ≤ S736x4096.size a) ∧
  (∀ k0_t5 : Fin (k0_t5_loop v1).trips, ∀ (k0_h2 : k0_cond2 v1 = 1#1), ∀ a, (k0_off43 v1 k0_t5) a + S256x256.size a ≤ S736x4096.size a) ∧
  (∀ k0_t5 : Fin (k0_t5_loop v1).trips, ∀ (k0_h2 : k0_cond2 v1 = 1#1), ∀ a, (k0_off44 v1 k0_t5) a + S256x256.size a ≤ S736x4096.size a) ∧
  (∀ k0_t5 : Fin (k0_t5_loop v1).trips, ∀ (k0_h2 : k0_cond2 v1 = 1#1), ∀ a, (k0_off45 v1 k0_t5) a + S256x256.size a ≤ S736x4096.size a) ∧
  (∀ k0_t5 : Fin (k0_t5_loop v1).trips, ∀ (k0_h2 : k0_cond2 v1 = 1#1), ∀ a, (k0_off46 v1 k0_t5) a + S256x256.size a ≤ S736x4096.size a) ∧
  (∀ k0_t5 : Fin (k0_t5_loop v1).trips, ∀ (k0_h2 : k0_cond2 v1 = 1#1), ∀ a, (k0_off47 v1 k0_t5) a + S256x256.size a ≤ S736x4096.size a) ∧
  (∀ k0_t5 : Fin (k0_t5_loop v1).trips, ∀ (k0_h2 : k0_cond2 v1 = 1#1), ∀ a, (k0_off48 v1 k0_t5) a + S256x256.size a ≤ S736x4096.size a) ∧
  (∀ k0_t5 : Fin (k0_t5_loop v1).trips, ∀ (k0_h2 : k0_cond2 v1 = 1#1), ∀ a, (k0_off49 v1 k0_t5) a + S256x256.size a ≤ S736x4096.size a) ∧
  (∀ k0_t5 : Fin (k0_t5_loop v1).trips, ∀ (k0_h2 : k0_cond2 v1 = 1#1), ∀ a, (k0_off50 v1 k0_t5) a + S256x256.size a ≤ S736x4096.size a) ∧
  (∀ k0_t5 : Fin (k0_t5_loop v1).trips, ∀ (k0_h2 : k0_cond2 v1 = 1#1), ∀ a, (k0_off51 v1 k0_t5) a + S256x256.size a ≤ S736x4096.size a) ∧
  (∀ k0_t5 : Fin (k0_t5_loop v1).trips, ∀ (k0_h2 : k0_cond2 v1 = 1#1), ∀ a, (k0_off52 v1 k0_t5) a + S256x256.size a ≤ S736x4096.size a) ∧
  (∀ k0_t5 : Fin (k0_t5_loop v1).trips, ∀ (k0_h2 : k0_cond2 v1 = 1#1), ∀ a, (k0_off53 v1 k0_t5) a + S256x256.size a ≤ S736x4096.size a) ∧
  (∀ k0_t5 : Fin (k0_t5_loop v1).trips, ∀ (k0_h2 : k0_cond2 v1 = 1#1), ∀ a, (k0_off54 v1 k0_t5) a + S256x256.size a ≤ S736x4096.size a) ∧
  (∀ k0_t5 : Fin (k0_t5_loop v1).trips, ∀ (k0_h2 : k0_cond2 v1 = 1#1), ∀ a, (k0_off55 v1 k0_t5) a + S256x256.size a ≤ S736x4096.size a)
def k0_chk1 (v1 : BitVec 32) : Prop :=
  k0_chk1_0 v1 ∧
  k0_chk1_1 v1
theorem k0_t4_ok : ∀ (v1 : BitVec 32) (k0_hw1 : k0_chk1 v1), ∀ (k0_h2 : k0_cond2 v1 = 1#1), (k0_t4_loop v1).OK := fun v1 k0_hw1 k0_h2 => k0_hw1.1.1 k0_h2
theorem k0_mult4_dvd : ∀ (v1 : BitVec 32) (k0_hw1 : k0_chk1 v1) (k0_t4 : Fin (k0_t4_loop v1).trips), ∀ (k0_h2 : k0_cond2 v1 = 1#1), 32 ∣ (k0_mult4 v1 k0_t4).toNat := fun v1 k0_hw1 k0_t4 k0_h2 => k0_hw1.1.2.1 k0_t4 k0_h2
theorem k0_off16_inb : ∀ (v1 : BitVec 32) (k0_hw1 : k0_chk1 v1) (k0_t4 : Fin (k0_t4_loop v1).trips), ∀ (k0_h2 : k0_cond2 v1 = 1#1), ∀ a, (k0_off16 v1 k0_t4) a + S256x4096.size a ≤ S736x4096.size a := fun v1 k0_hw1 k0_t4 k0_h2 => k0_hw1.1.2.2.1 k0_t4 k0_h2
theorem k0_off17_inb : ∀ (v1 : BitVec 32) (k0_hw1 : k0_chk1 v1) (k0_t4 : Fin (k0_t4_loop v1).trips), ∀ (k0_h2 : k0_cond2 v1 = 1#1), ∀ a, (k0_off17 v1 k0_t4) a + S1x256x96.size a ≤ S1x736x96.size a := fun v1 k0_hw1 k0_t4 k0_h2 => k0_hw1.1.2.2.2.1 k0_t4 k0_h2
theorem k0_off18_inb : ∀ (v1 : BitVec 32) (k0_hw1 : k0_chk1 v1) (k0_t4 : Fin (k0_t4_loop v1).trips), ∀ (k0_h2 : k0_cond2 v1 = 1#1), ∀ a, (k0_off18 v1 k0_t4) a + S1x256x128.size a ≤ S1x736x256.size a := fun v1 k0_hw1 k0_t4 k0_h2 => k0_hw1.1.2.2.2.2.1 k0_t4 k0_h2
theorem k0_off18_packedfp8e4m3 : ∀ (v1 : BitVec 32) (k0_hw1 : k0_chk1 v1) (k0_t4 : Fin (k0_t4_loop v1).trips), ∀ (k0_h2 : k0_cond2 v1 = 1#1), (Rect.unit (s := S1x736x256) (k0_off18 v1 k0_t4) S1x256x128.size (k0_off18_inb v1 k0_hw1 k0_t4 k0_h2)).PackedRows (EltTy.packing .fp8e4m3) := fun v1 k0_hw1 k0_t4 k0_h2 => k0_hw1.1.2.2.2.2.2.1 k0_t4 k0_h2 (k0_off18_inb v1 k0_hw1 k0_t4 k0_h2)
theorem k0_off19_inb : ∀ (v1 : BitVec 32) (k0_hw1 : k0_chk1 v1) (k0_t4 : Fin (k0_t4_loop v1).trips), ∀ (k0_h2 : k0_cond2 v1 = 1#1), ∀ a, (k0_off19 v1 k0_t4) a + S1x256x128.size a ≤ S1x736x256.size a := fun v1 k0_hw1 k0_t4 k0_h2 => k0_hw1.1.2.2.2.2.2.2.1 k0_t4 k0_h2
theorem k0_off19_packedfp8e4m3 : ∀ (v1 : BitVec 32) (k0_hw1 : k0_chk1 v1) (k0_t4 : Fin (k0_t4_loop v1).trips), ∀ (k0_h2 : k0_cond2 v1 = 1#1), (Rect.unit (s := S1x736x256) (k0_off19 v1 k0_t4) S1x256x128.size (k0_off19_inb v1 k0_hw1 k0_t4 k0_h2)).PackedRows (EltTy.packing .fp8e4m3) := fun v1 k0_hw1 k0_t4 k0_h2 => k0_hw1.1.2.2.2.2.2.2.2.1 k0_t4 k0_h2 (k0_off19_inb v1 k0_hw1 k0_t4 k0_h2)
theorem k0_off20_inb : ∀ (v1 : BitVec 32) (k0_hw1 : k0_chk1 v1) (k0_t4 : Fin (k0_t4_loop v1).trips), ∀ (k0_h2 : k0_cond2 v1 = 1#1), ∀ a, (k0_off20 v1 k0_t4) a + S256x256.size a ≤ S736x4096.size a := fun v1 k0_hw1 k0_t4 k0_h2 => k0_hw1.1.2.2.2.2.2.2.2.2.1 k0_t4 k0_h2
theorem k0_off21_inb : ∀ (v1 : BitVec 32) (k0_hw1 : k0_chk1 v1) (k0_t4 : Fin (k0_t4_loop v1).trips), ∀ (k0_h2 : k0_cond2 v1 = 1#1), ∀ a, (k0_off21 v1 k0_t4) a + S256x256.size a ≤ S736x4096.size a := fun v1 k0_hw1 k0_t4 k0_h2 => k0_hw1.1.2.2.2.2.2.2.2.2.2.1 k0_t4 k0_h2
theorem k0_off22_inb : ∀ (v1 : BitVec 32) (k0_hw1 : k0_chk1 v1) (k0_t4 : Fin (k0_t4_loop v1).trips), ∀ (k0_h2 : k0_cond2 v1 = 1#1), ∀ a, (k0_off22 v1 k0_t4) a + S256x256.size a ≤ S736x4096.size a := fun v1 k0_hw1 k0_t4 k0_h2 => k0_hw1.1.2.2.2.2.2.2.2.2.2.2.1 k0_t4 k0_h2
theorem k0_off23_inb : ∀ (v1 : BitVec 32) (k0_hw1 : k0_chk1 v1) (k0_t4 : Fin (k0_t4_loop v1).trips), ∀ (k0_h2 : k0_cond2 v1 = 1#1), ∀ a, (k0_off23 v1 k0_t4) a + S256x256.size a ≤ S736x4096.size a := fun v1 k0_hw1 k0_t4 k0_h2 => k0_hw1.1.2.2.2.2.2.2.2.2.2.2.2.1 k0_t4 k0_h2
theorem k0_off24_inb : ∀ (v1 : BitVec 32) (k0_hw1 : k0_chk1 v1) (k0_t4 : Fin (k0_t4_loop v1).trips), ∀ (k0_h2 : k0_cond2 v1 = 1#1), ∀ a, (k0_off24 v1 k0_t4) a + S256x256.size a ≤ S736x4096.size a := fun v1 k0_hw1 k0_t4 k0_h2 => k0_hw1.1.2.2.2.2.2.2.2.2.2.2.2.2.1 k0_t4 k0_h2
theorem k0_off25_inb : ∀ (v1 : BitVec 32) (k0_hw1 : k0_chk1 v1) (k0_t4 : Fin (k0_t4_loop v1).trips), ∀ (k0_h2 : k0_cond2 v1 = 1#1), ∀ a, (k0_off25 v1 k0_t4) a + S256x256.size a ≤ S736x4096.size a := fun v1 k0_hw1 k0_t4 k0_h2 => k0_hw1.1.2.2.2.2.2.2.2.2.2.2.2.2.2.1 k0_t4 k0_h2
theorem k0_off26_inb : ∀ (v1 : BitVec 32) (k0_hw1 : k0_chk1 v1) (k0_t4 : Fin (k0_t4_loop v1).trips), ∀ (k0_h2 : k0_cond2 v1 = 1#1), ∀ a, (k0_off26 v1 k0_t4) a + S256x256.size a ≤ S736x4096.size a := fun v1 k0_hw1 k0_t4 k0_h2 => k0_hw1.1.2.2.2.2.2.2.2.2.2.2.2.2.2.2.1 k0_t4 k0_h2
theorem k0_off27_inb : ∀ (v1 : BitVec 32) (k0_hw1 : k0_chk1 v1) (k0_t4 : Fin (k0_t4_loop v1).trips), ∀ (k0_h2 : k0_cond2 v1 = 1#1), ∀ a, (k0_off27 v1 k0_t4) a + S256x256.size a ≤ S736x4096.size a := fun v1 k0_hw1 k0_t4 k0_h2 => k0_hw1.1.2.2.2.2.2.2.2.2.2.2.2.2.2.2.2.1 k0_t4 k0_h2
theorem k0_off28_inb : ∀ (v1 : BitVec 32) (k0_hw1 : k0_chk1 v1) (k0_t4 : Fin (k0_t4_loop v1).trips), ∀ (k0_h2 : k0_cond2 v1 = 1#1), ∀ a, (k0_off28 v1 k0_t4) a + S256x256.size a ≤ S736x4096.size a := fun v1 k0_hw1 k0_t4 k0_h2 => k0_hw1.1.2.2.2.2.2.2.2.2.2.2.2.2.2.2.2.2.1 k0_t4 k0_h2
theorem k0_off29_inb : ∀ (v1 : BitVec 32) (k0_hw1 : k0_chk1 v1) (k0_t4 : Fin (k0_t4_loop v1).trips), ∀ (k0_h2 : k0_cond2 v1 = 1#1), ∀ a, (k0_off29 v1 k0_t4) a + S256x256.size a ≤ S736x4096.size a := fun v1 k0_hw1 k0_t4 k0_h2 => k0_hw1.1.2.2.2.2.2.2.2.2.2.2.2.2.2.2.2.2.2.1 k0_t4 k0_h2
theorem k0_off30_inb : ∀ (v1 : BitVec 32) (k0_hw1 : k0_chk1 v1) (k0_t4 : Fin (k0_t4_loop v1).trips), ∀ (k0_h2 : k0_cond2 v1 = 1#1), ∀ a, (k0_off30 v1 k0_t4) a + S256x256.size a ≤ S736x4096.size a := fun v1 k0_hw1 k0_t4 k0_h2 => k0_hw1.1.2.2.2.2.2.2.2.2.2.2.2.2.2.2.2.2.2.2.1 k0_t4 k0_h2
theorem k0_off31_inb : ∀ (v1 : BitVec 32) (k0_hw1 : k0_chk1 v1) (k0_t4 : Fin (k0_t4_loop v1).trips), ∀ (k0_h2 : k0_cond2 v1 = 1#1), ∀ a, (k0_off31 v1 k0_t4) a + S256x256.size a ≤ S736x4096.size a := fun v1 k0_hw1 k0_t4 k0_h2 => k0_hw1.1.2.2.2.2.2.2.2.2.2.2.2.2.2.2.2.2.2.2.2.1 k0_t4 k0_h2
theorem k0_off32_inb : ∀ (v1 : BitVec 32) (k0_hw1 : k0_chk1 v1) (k0_t4 : Fin (k0_t4_loop v1).trips), ∀ (k0_h2 : k0_cond2 v1 = 1#1), ∀ a, (k0_off32 v1 k0_t4) a + S256x256.size a ≤ S736x4096.size a := fun v1 k0_hw1 k0_t4 k0_h2 => k0_hw1.1.2.2.2.2.2.2.2.2.2.2.2.2.2.2.2.2.2.2.2.2.1 k0_t4 k0_h2
theorem k0_off33_inb : ∀ (v1 : BitVec 32) (k0_hw1 : k0_chk1 v1) (k0_t4 : Fin (k0_t4_loop v1).trips), ∀ (k0_h2 : k0_cond2 v1 = 1#1), ∀ a, (k0_off33 v1 k0_t4) a + S256x256.size a ≤ S736x4096.size a := fun v1 k0_hw1 k0_t4 k0_h2 => k0_hw1.1.2.2.2.2.2.2.2.2.2.2.2.2.2.2.2.2.2.2.2.2.2.1 k0_t4 k0_h2
theorem k0_off34_inb : ∀ (v1 : BitVec 32) (k0_hw1 : k0_chk1 v1) (k0_t4 : Fin (k0_t4_loop v1).trips), ∀ (k0_h2 : k0_cond2 v1 = 1#1), ∀ a, (k0_off34 v1 k0_t4) a + S256x256.size a ≤ S736x4096.size a := fun v1 k0_hw1 k0_t4 k0_h2 => k0_hw1.1.2.2.2.2.2.2.2.2.2.2.2.2.2.2.2.2.2.2.2.2.2.2.1 k0_t4 k0_h2
theorem k0_off35_inb : ∀ (v1 : BitVec 32) (k0_hw1 : k0_chk1 v1) (k0_t4 : Fin (k0_t4_loop v1).trips), ∀ (k0_h2 : k0_cond2 v1 = 1#1), ∀ a, (k0_off35 v1 k0_t4) a + S256x256.size a ≤ S736x4096.size a := fun v1 k0_hw1 k0_t4 k0_h2 => k0_hw1.1.2.2.2.2.2.2.2.2.2.2.2.2.2.2.2.2.2.2.2.2.2.2.2.1 k0_t4 k0_h2
theorem k0_t5_ok : ∀ (v1 : BitVec 32) (k0_hw1 : k0_chk1 v1), ∀ (k0_h2 : k0_cond2 v1 = 1#1), (k0_t5_loop v1).OK := fun v1 k0_hw1 k0_h2 => k0_hw1.1.2.2.2.2.2.2.2.2.2.2.2.2.2.2.2.2.2.2.2.2.2.2.2.2.1 k0_h2
theorem k0_mult5_dvd : ∀ (v1 : BitVec 32) (k0_hw1 : k0_chk1 v1) (k0_t5 : Fin (k0_t5_loop v1).trips), ∀ (k0_h2 : k0_cond2 v1 = 1#1), 32 ∣ (k0_mult5 v1 k0_t5).toNat := fun v1 k0_hw1 k0_t5 k0_h2 => k0_hw1.1.2.2.2.2.2.2.2.2.2.2.2.2.2.2.2.2.2.2.2.2.2.2.2.2.2.1 k0_t5 k0_h2
theorem k0_off36_inb : ∀ (v1 : BitVec 32) (k0_hw1 : k0_chk1 v1) (k0_t5 : Fin (k0_t5_loop v1).trips), ∀ (k0_h2 : k0_cond2 v1 = 1#1), ∀ a, (k0_off36 v1 k0_t5) a + S256x4096.size a ≤ S736x4096.size a := fun v1 k0_hw1 k0_t5 k0_h2 => k0_hw1.1.2.2.2.2.2.2.2.2.2.2.2.2.2.2.2.2.2.2.2.2.2.2.2.2.2.2.1 k0_t5 k0_h2
theorem k0_off37_inb : ∀ (v1 : BitVec 32) (k0_hw1 : k0_chk1 v1) (k0_t5 : Fin (k0_t5_loop v1).trips), ∀ (k0_h2 : k0_cond2 v1 = 1#1), ∀ a, (k0_off37 v1 k0_t5) a + S1x256x96.size a ≤ S1x736x96.size a := fun v1 k0_hw1 k0_t5 k0_h2 => k0_hw1.1.2.2.2.2.2.2.2.2.2.2.2.2.2.2.2.2.2.2.2.2.2.2.2.2.2.2.2.1 k0_t5 k0_h2
theorem k0_off38_inb : ∀ (v1 : BitVec 32) (k0_hw1 : k0_chk1 v1) (k0_t5 : Fin (k0_t5_loop v1).trips), ∀ (k0_h2 : k0_cond2 v1 = 1#1), ∀ a, (k0_off38 v1 k0_t5) a + S1x256x128.size a ≤ S1x736x256.size a := fun v1 k0_hw1 k0_t5 k0_h2 => k0_hw1.1.2.2.2.2.2.2.2.2.2.2.2.2.2.2.2.2.2.2.2.2.2.2.2.2.2.2.2.2.1 k0_t5 k0_h2
theorem k0_off38_packedfp8e4m3 : ∀ (v1 : BitVec 32) (k0_hw1 : k0_chk1 v1) (k0_t5 : Fin (k0_t5_loop v1).trips), ∀ (k0_h2 : k0_cond2 v1 = 1#1), (Rect.unit (s := S1x736x256) (k0_off38 v1 k0_t5) S1x256x128.size (k0_off38_inb v1 k0_hw1 k0_t5 k0_h2)).PackedRows (EltTy.packing .fp8e4m3) := fun v1 k0_hw1 k0_t5 k0_h2 => k0_hw1.1.2.2.2.2.2.2.2.2.2.2.2.2.2.2.2.2.2.2.2.2.2.2.2.2.2.2.2.2.2.1 k0_t5 k0_h2 (k0_off38_inb v1 k0_hw1 k0_t5 k0_h2)
theorem k0_off39_inb : ∀ (v1 : BitVec 32) (k0_hw1 : k0_chk1 v1) (k0_t5 : Fin (k0_t5_loop v1).trips), ∀ (k0_h2 : k0_cond2 v1 = 1#1), ∀ a, (k0_off39 v1 k0_t5) a + S1x256x128.size a ≤ S1x736x256.size a := fun v1 k0_hw1 k0_t5 k0_h2 => k0_hw1.1.2.2.2.2.2.2.2.2.2.2.2.2.2.2.2.2.2.2.2.2.2.2.2.2.2.2.2.2.2.2.1 k0_t5 k0_h2
theorem k0_off39_packedfp8e4m3 : ∀ (v1 : BitVec 32) (k0_hw1 : k0_chk1 v1) (k0_t5 : Fin (k0_t5_loop v1).trips), ∀ (k0_h2 : k0_cond2 v1 = 1#1), (Rect.unit (s := S1x736x256) (k0_off39 v1 k0_t5) S1x256x128.size (k0_off39_inb v1 k0_hw1 k0_t5 k0_h2)).PackedRows (EltTy.packing .fp8e4m3) := fun v1 k0_hw1 k0_t5 k0_h2 => k0_hw1.1.2.2.2.2.2.2.2.2.2.2.2.2.2.2.2.2.2.2.2.2.2.2.2.2.2.2.2.2.2.2.2 k0_t5 k0_h2 (k0_off39_inb v1 k0_hw1 k0_t5 k0_h2)
theorem k0_off40_inb : ∀ (v1 : BitVec 32) (k0_hw1 : k0_chk1 v1) (k0_t5 : Fin (k0_t5_loop v1).trips), ∀ (k0_h2 : k0_cond2 v1 = 1#1), ∀ a, (k0_off40 v1 k0_t5) a + S256x256.size a ≤ S736x4096.size a := fun v1 k0_hw1 k0_t5 k0_h2 => k0_hw1.2.1 k0_t5 k0_h2
theorem k0_off41_inb : ∀ (v1 : BitVec 32) (k0_hw1 : k0_chk1 v1) (k0_t5 : Fin (k0_t5_loop v1).trips), ∀ (k0_h2 : k0_cond2 v1 = 1#1), ∀ a, (k0_off41 v1 k0_t5) a + S256x256.size a ≤ S736x4096.size a := fun v1 k0_hw1 k0_t5 k0_h2 => k0_hw1.2.2.1 k0_t5 k0_h2
theorem k0_off42_inb : ∀ (v1 : BitVec 32) (k0_hw1 : k0_chk1 v1) (k0_t5 : Fin (k0_t5_loop v1).trips), ∀ (k0_h2 : k0_cond2 v1 = 1#1), ∀ a, (k0_off42 v1 k0_t5) a + S256x256.size a ≤ S736x4096.size a := fun v1 k0_hw1 k0_t5 k0_h2 => k0_hw1.2.2.2.1 k0_t5 k0_h2
theorem k0_off43_inb : ∀ (v1 : BitVec 32) (k0_hw1 : k0_chk1 v1) (k0_t5 : Fin (k0_t5_loop v1).trips), ∀ (k0_h2 : k0_cond2 v1 = 1#1), ∀ a, (k0_off43 v1 k0_t5) a + S256x256.size a ≤ S736x4096.size a := fun v1 k0_hw1 k0_t5 k0_h2 => k0_hw1.2.2.2.2.1 k0_t5 k0_h2
theorem k0_off44_inb : ∀ (v1 : BitVec 32) (k0_hw1 : k0_chk1 v1) (k0_t5 : Fin (k0_t5_loop v1).trips), ∀ (k0_h2 : k0_cond2 v1 = 1#1), ∀ a, (k0_off44 v1 k0_t5) a + S256x256.size a ≤ S736x4096.size a := fun v1 k0_hw1 k0_t5 k0_h2 => k0_hw1.2.2.2.2.2.1 k0_t5 k0_h2
theorem k0_off45_inb : ∀ (v1 : BitVec 32) (k0_hw1 : k0_chk1 v1) (k0_t5 : Fin (k0_t5_loop v1).trips), ∀ (k0_h2 : k0_cond2 v1 = 1#1), ∀ a, (k0_off45 v1 k0_t5) a + S256x256.size a ≤ S736x4096.size a := fun v1 k0_hw1 k0_t5 k0_h2 => k0_hw1.2.2.2.2.2.2.1 k0_t5 k0_h2
theorem k0_off46_inb : ∀ (v1 : BitVec 32) (k0_hw1 : k0_chk1 v1) (k0_t5 : Fin (k0_t5_loop v1).trips), ∀ (k0_h2 : k0_cond2 v1 = 1#1), ∀ a, (k0_off46 v1 k0_t5) a + S256x256.size a ≤ S736x4096.size a := fun v1 k0_hw1 k0_t5 k0_h2 => k0_hw1.2.2.2.2.2.2.2.1 k0_t5 k0_h2
theorem k0_off47_inb : ∀ (v1 : BitVec 32) (k0_hw1 : k0_chk1 v1) (k0_t5 : Fin (k0_t5_loop v1).trips), ∀ (k0_h2 : k0_cond2 v1 = 1#1), ∀ a, (k0_off47 v1 k0_t5) a + S256x256.size a ≤ S736x4096.size a := fun v1 k0_hw1 k0_t5 k0_h2 => k0_hw1.2.2.2.2.2.2.2.2.1 k0_t5 k0_h2
theorem k0_off48_inb : ∀ (v1 : BitVec 32) (k0_hw1 : k0_chk1 v1) (k0_t5 : Fin (k0_t5_loop v1).trips), ∀ (k0_h2 : k0_cond2 v1 = 1#1), ∀ a, (k0_off48 v1 k0_t5) a + S256x256.size a ≤ S736x4096.size a := fun v1 k0_hw1 k0_t5 k0_h2 => k0_hw1.2.2.2.2.2.2.2.2.2.1 k0_t5 k0_h2
theorem k0_off49_inb : ∀ (v1 : BitVec 32) (k0_hw1 : k0_chk1 v1) (k0_t5 : Fin (k0_t5_loop v1).trips), ∀ (k0_h2 : k0_cond2 v1 = 1#1), ∀ a, (k0_off49 v1 k0_t5) a + S256x256.size a ≤ S736x4096.size a := fun v1 k0_hw1 k0_t5 k0_h2 => k0_hw1.2.2.2.2.2.2.2.2.2.2.1 k0_t5 k0_h2
theorem k0_off50_inb : ∀ (v1 : BitVec 32) (k0_hw1 : k0_chk1 v1) (k0_t5 : Fin (k0_t5_loop v1).trips), ∀ (k0_h2 : k0_cond2 v1 = 1#1), ∀ a, (k0_off50 v1 k0_t5) a + S256x256.size a ≤ S736x4096.size a := fun v1 k0_hw1 k0_t5 k0_h2 => k0_hw1.2.2.2.2.2.2.2.2.2.2.2.1 k0_t5 k0_h2
theorem k0_off51_inb : ∀ (v1 : BitVec 32) (k0_hw1 : k0_chk1 v1) (k0_t5 : Fin (k0_t5_loop v1).trips), ∀ (k0_h2 : k0_cond2 v1 = 1#1), ∀ a, (k0_off51 v1 k0_t5) a + S256x256.size a ≤ S736x4096.size a := fun v1 k0_hw1 k0_t5 k0_h2 => k0_hw1.2.2.2.2.2.2.2.2.2.2.2.2.1 k0_t5 k0_h2
theorem k0_off52_inb : ∀ (v1 : BitVec 32) (k0_hw1 : k0_chk1 v1) (k0_t5 : Fin (k0_t5_loop v1).trips), ∀ (k0_h2 : k0_cond2 v1 = 1#1), ∀ a, (k0_off52 v1 k0_t5) a + S256x256.size a ≤ S736x4096.size a := fun v1 k0_hw1 k0_t5 k0_h2 => k0_hw1.2.2.2.2.2.2.2.2.2.2.2.2.2.1 k0_t5 k0_h2
theorem k0_off53_inb : ∀ (v1 : BitVec 32) (k0_hw1 : k0_chk1 v1) (k0_t5 : Fin (k0_t5_loop v1).trips), ∀ (k0_h2 : k0_cond2 v1 = 1#1), ∀ a, (k0_off53 v1 k0_t5) a + S256x256.size a ≤ S736x4096.size a := fun v1 k0_hw1 k0_t5 k0_h2 => k0_hw1.2.2.2.2.2.2.2.2.2.2.2.2.2.2.1 k0_t5 k0_h2
theorem k0_off54_inb : ∀ (v1 : BitVec 32) (k0_hw1 : k0_chk1 v1) (k0_t5 : Fin (k0_t5_loop v1).trips), ∀ (k0_h2 : k0_cond2 v1 = 1#1), ∀ a, (k0_off54 v1 k0_t5) a + S256x256.size a ≤ S736x4096.size a := fun v1 k0_hw1 k0_t5 k0_h2 => k0_hw1.2.2.2.2.2.2.2.2.2.2.2.2.2.2.2.1 k0_t5 k0_h2
theorem k0_off55_inb : ∀ (v1 : BitVec 32) (k0_hw1 : k0_chk1 v1) (k0_t5 : Fin (k0_t5_loop v1).trips), ∀ (k0_h2 : k0_cond2 v1 = 1#1), ∀ a, (k0_off55 v1 k0_t5) a + S256x256.size a ≤ S736x4096.size a := fun v1 k0_hw1 k0_t5 k0_h2 => k0_hw1.2.2.2.2.2.2.2.2.2.2.2.2.2.2.2.2 k0_t5 k0_h2

def k0_cond3 (i : grid0.Coords) : BitVec 1 :=
  let arg1 : BitVec 32 := BitVec.ofNat 32 (i 1).val
  let c47_i32 : BitVec 32 := 47#32
  let v29 : BitVec 1 := Scalar.cmpi .eq arg1 c47_i32
  let v30 : BitVec 32 := Scalar.extui v29
  let c0_i32_12 : BitVec 32 := 0#32
  let v31 : BitVec 1 := Scalar.cmpi .ne v30 c0_i32_12
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x736x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x736x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .smem S1x32x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .smem S1x32x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .smem S1x96x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x736x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x736x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x736x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S7x732x4096 : Shape := ⟨3, ![7, 732, 4096]⟩
abbrev S7x732x32 : Shape := ⟨3, ![7, 732, 32]⟩
abbrev S7 : Shape := ⟨1, ![7]⟩
abbrev S7x4096x12288 : Shape := ⟨3, ![7, 4096, 12288]⟩
abbrev S7x32x96 : Shape := ⟨3, ![7, 32, 96]⟩
abbrev S7x12288x4096 : Shape := ⟨3, ![7, 12288, 4096]⟩
abbrev S7x96x32 : Shape := ⟨3, ![7, 96, 32]⟩
abbrev S7x732x12288 : Shape := ⟨3, ![7, 732, 12288]⟩
abbrev S7x732x96 : Shape := ⟨3, ![7, 732, 96]⟩
abbrev S7x1x1 : Shape := ⟨3, ![7, 1, 1]⟩
abbrev S7x732x1 : Shape := ⟨3, ![7, 732, 1]⟩
abbrev S7x732x32x128 : Shape := ⟨4, ![7, 732, 32, 128]⟩
abbrev S7x732x32x1 : Shape := ⟨4, ![7, 732, 32, 1]⟩
abbrev S7x32x128x96x128 : Shape := ⟨5, ![7, 32, 128, 96, 128]⟩
abbrev S7x32x1x96x1 : Shape := ⟨5, ![7, 32, 1, 96, 1]⟩
abbrev S7x732x96x128 : Shape := ⟨4, ![7, 732, 96, 128]⟩
abbrev S1x1x1x252 : Shape := ⟨4, ![1, 1, 1, 252]⟩
abbrev S7x732x96x1 : Shape := ⟨4, ![7, 732, 96, 1]⟩
abbrev S7x732x96x252 : Shape := ⟨4, ![7, 732, 96, 252]⟩
abbrev S7x96x128x32x128 : Shape := ⟨5, ![7, 96, 128, 32, 128]⟩
abbrev S7x96x1x32x1 : Shape := ⟨5, ![7, 96, 1, 32, 1]⟩

abbrev nBuf : Space → Nat
  | .hbm => 12
  | .vmem => 12
  | .smem => 0
  | _ => 0

abbrev bufTy : (tb : Table) → Fin (tcTables nBuf tb) → BufTy
  | .hbm, ⟨0, _⟩ => ⟨S7x732x4096, .fp8e4m3⟩
  | .hbm, ⟨1, _⟩ => ⟨S7x732x32, .f32⟩
  | .hbm, ⟨2, _⟩ => ⟨S7, .i32⟩
  | .hbm, ⟨3, _⟩ => ⟨S7x4096x12288, .fp8e4m3⟩
  | .hbm, ⟨4, _⟩ => ⟨S7x32x96, .f32⟩
  | .hbm, ⟨5, _⟩ => ⟨S7x4096x12288, .fp8e4m3⟩
  | .hbm, ⟨6, _⟩ => ⟨S7x32x96, .f32⟩
  | .hbm, ⟨7, _⟩ => ⟨S7x12288x4096, .fp8e4m3⟩
  | .hbm, ⟨8, _⟩ => ⟨S7x96x32, .f32⟩
  | .hbm, ⟨9, _⟩ => ⟨S7x732x4096, .bf16⟩
  | .hbm, ⟨10, _⟩ => ⟨S7x732x12288, .fp8e4m3⟩
  | .hbm, ⟨11, _⟩ => ⟨S7x732x96, .f32⟩
  | .local _ .vmem, ⟨0, _⟩ => ⟨S7x732x4096, .fp8e4m3⟩
  | .local _ .vmem, ⟨1, _⟩ => ⟨S7x732x32, .f32⟩
  | .local _ .vmem, ⟨2, _⟩ => ⟨S7, .i32⟩
  | .local _ .vmem, ⟨3, _⟩ => ⟨S7x4096x12288, .fp8e4m3⟩
  | .local _ .vmem, ⟨4, _⟩ => ⟨S7x32x96, .f32⟩
  | .local _ .vmem, ⟨5, _⟩ => ⟨S7x4096x12288, .fp8e4m3⟩
  | .local _ .vmem, ⟨6, _⟩ => ⟨S7x32x96, .f32⟩
  | .local _ .vmem, ⟨7, _⟩ => ⟨S7x12288x4096, .fp8e4m3⟩
  | .local _ .vmem, ⟨8, _⟩ => ⟨S7x96x32, .f32⟩
  | .local _ .vmem, ⟨9, _⟩ => ⟨S7x732x4096, .bf16⟩
  | .local _ .vmem, ⟨10, _⟩ => ⟨S7x732x12288, .fp8e4m3⟩
  | .local _ .vmem, ⟨11, _⟩ => ⟨S7x732x96, .f32⟩
  | _, _ => ⟨S7x732x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S7x732x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x732x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x4096x12288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x4096x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x12288x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x96x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x732x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x732x12288 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7x732x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/-
  Words: the arithmetic on 32-bit counts that the kernel's row loop is driven by. The number of row blocks of a
  count is the count plus 255, divided by 256 and rounded down; a block's first row is 256 times its number, but
  at most 480.
-/
module

public import Idealize.ShloMosaic.Lib.Affine
public import Idealize.ShloMosaic.Lib.WordArith
public import Idealize.ShloMosaic.Lib.LoopRemainder

@[expose] public section

namespace Cert.Words

open Idealize.ShloMosaic

/-- The number of row blocks of the count `v`, as the kernel's words compute it: the quotient rounded towards
    zero, less one where the signs differ and the remainder is not zero. -/
abbrev blocks (v : BitVec 32) : BitVec 32 :=
  let v3 := Scalar.subi (Scalar.addi v 256#32) 1#32
  Scalar.select
    (Scalar.andi
      (Scalar.cmpi .ne (Scalar.subi (Scalar.extui (Scalar.cmpi .sgt v3 0#32)) (Scalar.extui (Scalar.cmpi .slt v3 0#32)))
        (Scalar.subi (Scalar.extui (Scalar.cmpi .sgt (256#32 : BitVec 32) 0#32)) (Scalar.extui (Scalar.cmpi .slt (256#32 : BitVec 32) 0#32))))
      (Scalar.cmpi .ne (Scalar.remsi v3 256#32) 0#32))
    (Scalar.subi (Scalar.divsi v3 256#32) 1#32) (Scalar.divsi v3 256#32)

/-- The count plus 255 in 32-bit words. -/
abbrev padded (v : BitVec 32) : BitVec 32 := v + 255#32

theorem padded_eq (v : BitVec 32) : Scalar.subi (Scalar.addi v 256#32) 1#32 = padded v := by
  simp only [Scalar.subi, Scalar.addi, IntOp.subi, IntOp.addi, padded]
  rw [BitVec.sub_eq_add_neg, BitVec.add_assoc]; rfl

theorem sdiv_toInt (x : BitVec 32) : (Scalar.divsi x 256#32).toInt = x.toInt.tdiv 256 := by
  have h : ¬ IntOp.SDivCorner x 256#32 := IntOp.not_corner_of_pos (by decide)
  simp only [Scalar.divsi, IntOp.divsi, if_neg h]
  rw [BitVec.toInt_sdiv_of_ne_or_ne]
  · rfl
  · right; decide

theorem srem_toInt (x : BitVec 32) : (Scalar.remsi x 256#32).toInt = x.toInt.tmod 256 := by
  have h : ¬ IntOp.SDivCorner x 256#32 := IntOp.not_corner_of_pos (by decide)
  simp only [Scalar.remsi, IntOp.remsi, if_neg h]
  rw [BitVec.toInt_srem]; rfl

theorem subi_one_toInt {q : BitVec 32} (h : -2 ^ 31 < q.toInt) : (Scalar.subi q 1#32).toInt = q.toInt - 1 := by
  simp only [Scalar.subi, IntOp.subi]
  have := Affine.word_range q
  have h1 : (1#32 : BitVec 32).toInt = 1 := by decide
  rw [BitVec.toInt_sub, h1, Int.bmod_def]; simp only [Nat.reducePow]; split <;> omega

/-- The number of blocks is the padded count divided by 256, rounded down. -/
theorem blocks_toInt (v : BitVec 32) : (blocks v).toInt = (padded v).toInt / 256 := by
  unfold blocks; rw [padded_eq]
  generalize padded v = x
  have hr := Affine.word_range x
  have hd := sdiv_toInt x
  have hm := srem_toInt x
  have hq : 256 * x.toInt.tdiv 256 + x.toInt.tmod 256 = x.toInt := Int.mul_tdiv_add_tmod _ _
  have hp : 0 ≤ x.toInt → x.toInt.tdiv 256 = x.toInt / 256 := Int.tdiv_eq_ediv_of_nonneg
  have hn : x.toInt < 0 → -256 < x.toInt.tmod 256 ∧ x.toInt.tmod 256 ≤ 0 := fun h => by
    have h1 := Int.neg_tmod (a := -x.toInt) (b := 256)
    have h2 := Int.tmod_nonneg (a := -x.toInt) 256 (by omega)
    have h3 := Int.tmod_lt_of_pos (-x.toInt) (b := 256) (by omega)
    rw [neg_neg] at h1; omega
  simp only []
  rcases lt_trichotomy x.toInt 0 with hx | hx | hx
  · have h1 : Scalar.cmpi .sgt x 0#32 = 0#1 := by
      have : ¬ Scalar.cmpi .sgt x 0#32 = 1#1 := by
        rw [show Scalar.cmpi .sgt x 0#32 = IntOp.cmpi .sgt x 0#32 from rfl, IntOp.cmpi_sgt]; simp; omega
      revert this; generalize Scalar.cmpi .sgt x 0#32 = c; revert c; decide
    have h2 : Scalar.cmpi .slt x 0#32 = 1#1 := by
      rw [show Scalar.cmpi .slt x 0#32 = IntOp.cmpi .slt x 0#32 from rfl, IntOp.cmpi_slt]; simpa using hx
    rw [h1, h2]
    by_cases hz : Scalar.remsi x 256#32 = 0#32
    · rw [hz] at hm ⊢
      rw [show Scalar.select _ (Scalar.subi (Scalar.divsi x 256#32) 1#32) (Scalar.divsi x 256#32) = Scalar.divsi x 256#32 from by
        rw [Scalar.select, if_neg (by decide)], hd]
      have : x.toInt.tmod 256 = 0 := by rw [← hm]; decide
      omega
    · have hne : Scalar.cmpi .ne (Scalar.remsi x 256#32) 0#32 = 1#1 := by
        rw [show Scalar.cmpi .ne (Scalar.remsi x 256#32) 0#32 = IntOp.cmpi .ne (Scalar.remsi x 256#32) 0#32 from rfl, IntOp.cmpi_ne]; exact hz
      rw [hne, show Scalar.select _ (Scalar.subi (Scalar.divsi x 256#32) 1#32) (Scalar.divsi x 256#32) = Scalar.subi (Scalar.divsi x 256#32) 1#32 from by
        rw [Scalar.select, if_pos (by decide)], subi_one_toInt (by omega), hd]
      have : x.toInt.tmod 256 ≠ 0 := fun h => hz (by rw [← hm] at h; exact BitVec.eq_of_toInt_eq (by rw [h]; decide))
      omega
  · have h0 : x = 0#32 := BitVec.eq_of_toInt_eq (by rw [hx]; decide)
    subst h0; decide
  · have h1 : Scalar.cmpi .sgt x 0#32 = 1#1 := by
      rw [show Scalar.cmpi .sgt x 0#32 = IntOp.cmpi .sgt x 0#32 from rfl, IntOp.cmpi_sgt]; simpa using hx
    have h2 : Scalar.cmpi .slt x 0#32 = 0#1 := by
      have : ¬ Scalar.cmpi .slt x 0#32 = 1#1 := by
        rw [show Scalar.cmpi .slt x 0#32 = IntOp.cmpi .slt x 0#32 from rfl, IntOp.cmpi_slt]; simp; omega
      revert this; generalize Scalar.cmpi .slt x 0#32 = c; revert c; decide
    rw [h1, h2]
    rw [show Scalar.select _ (Scalar.subi (Scalar.divsi x 256#32) 1#32) (Scalar.divsi x 256#32) = Scalar.divsi x 256#32 from by
      generalize Scalar.cmpi .ne (Scalar.remsi x 256#32) 0#32 = d
      have : ∀ d : BitVec 1, ¬ Scalar.andi (Scalar.cmpi .ne (Scalar.subi (Scalar.extui 1#1) (Scalar.extui 0#1))
        (Scalar.subi (Scalar.extui (Scalar.cmpi .sgt (256#32 : BitVec 32) 0#32)) (Scalar.extui (Scalar.cmpi .slt (256#32 : BitVec 32) 0#32)))) d = 1 := by decide
      rw [Scalar.select, if_neg (this d)], hd]
    omega

/-- The upper bound of the row loop: the number of blocks. -/
abbrev upper (v : BitVec 32) : BitVec 32 :=
  Scalar.addi 0#32 (Scalar.muli (Scalar.divsi (Scalar.subi (blocks v) 0#32) 1#32) 1#32)

theorem upper_eq (v : BitVec 32) : upper v = blocks v := by
  unfold upper; rw [Scalar.muli_divsi_one]
  simp only [Scalar.addi, Scalar.subi, IntOp.addi, IntOp.subi, BitVec.zero_add, BitVec.sub_zero]

theorem blocks_range (v : BitVec 32) : -2 ^ 23 ≤ (blocks v).toInt ∧ (blocks v).toInt < 2 ^ 23 := by
  rw [blocks_toInt]; have := Affine.word_range (padded v); omega

/-- The row loop's trips: the number of blocks, none if it is negative. -/
theorem trips_eq (v : BitVec 32) : Scf.trips 0#32 (upper v) 1#32 = (blocks v).toInt.toNat := by
  rw [upper_eq]; unfold Scf.trips
  rw [show (0#32 : BitVec 32).toInt = 0 from by decide, show (1#32 : BitVec 32).toInt = 1 from by decide]
  congr 1; omega

theorem trips_lt (v : BitVec 32) : Scf.trips 0#32 (upper v) 1#32 < 2 ^ 23 := by
  rw [trips_eq]; have := blocks_range v; omega

theorem ok (v : BitVec 32) : Scf.OK 0#32 (upper v) 1#32 := by
  have := trips_lt v
  refine ⟨by decide, ?_⟩
  rw [show (0#32 : BitVec 32).toInt = 0 from by decide, show (1#32 : BitVec 32).toInt = 1 from by decide]
  omega

/-- The first row of block `k`. -/
theorem start_isInt (k : ℕ) (hk : k < 2 ^ 23) :
    Affine.IsInt (Scalar.minsi (Scalar.muli (Scf.iv 0#32 1#32 k) 256#32) 480#32) ((min (256 * k) 480 : ℕ) : ℤ) := by
  have h1 : Affine.IsInt (Scf.iv 0#32 1#32 k) (k : ℤ) :=
    Affine.iv (Affine.ofNat 0 ⟨rfl, by decide⟩) (Affine.ofNat 1 ⟨rfl, by decide⟩) k (by omega)
  exact Affine.minsi (Affine.muli h1 (Affine.ofNat 256 ⟨rfl, by decide⟩) (e := 256 * (k : ℤ)) (by omega))
    (Affine.ofNat 480 ⟨rfl, by decide⟩) (by omega)

theorem start_toNat (k : ℕ) (hk : k < 2 ^ 23) :
    (Scalar.minsi (Scalar.muli (Scf.iv 0#32 1#32 k) 256#32) 480#32).toNat = min (256 * k) 480 :=
  Affine.nat_eq (start_isInt k hk) _ rfl

end Cert.Words

end
-- ==== Proof.ChkKernel.lean ====
/-
  The facts the kernel assumes of a count hold for every 32-bit word: its row loop has a meaning and every block of
  256 rows lies within the 736 rows of its buffers.
-/
module

public import proofs.«01_k».proof.Proof.Gen.Kernel
public import proofs.«01_k».proof.Proof.Words
public import Idealize.ShloMosaic.Lib.LoopRemainder

@[expose] public section

namespace Cert.Kernel.Hand

open Idealize.ShloMosaic Cert.Kernel

theorem trips4 (v : BitVec 32) : (k0_t4_loop v).trips = (Words.blocks v).toInt.toNat := Words.trips_eq v

theorem lt4 (v : BitVec 32) (k : Fin (k0_t4_loop v).trips) : k.val < 2 ^ 23 := Nat.lt_trans k.isLt (Words.trips_lt v)

/-- The first row of block `k`. -/
theorem row4 (v : BitVec 32) (k : Fin (k0_t4_loop v).trips) :
    (Scalar.indexCast (Scalar.minsi (Scalar.muli (Scf.iv 0#32 1#32 k.val) 256#32) 480#32)).toNat = min (256 * k.val) 480 :=
  Words.start_toNat k.val (lt4 v k)

/-- The remainder loop makes no trip. -/
theorem no5 (v : BitVec 32) (k : Fin (k0_t5_loop v).trips) : False :=
  Scf.rem_no_trip 0#32 (Scalar.subi (Words.blocks v) 0#32) k

theorem mult4 (v : BitVec 32) (k : Fin (k0_t4_loop v).trips) : 32 ∣ (k0_mult4 v k).toNat := by
  rw [show (k0_mult4 v k).toNat = min (256 * k.val) 480 from Words.start_toNat k.val (lt4 v k)]; omega

theorem off16 (v : BitVec 32) (k : Fin (k0_t4_loop v).trips) : k0_off16 v k = ![min (256 * k.val) 480, 0] := by
  rw [← row4 v k]; rfl

theorem off17 (v : BitVec 32) (k : Fin (k0_t4_loop v).trips) : k0_off17 v k = ![0, min (256 * k.val) 480, 0] := by
  rw [← row4 v k]; rfl

theorem off18 (v : BitVec 32) (k : Fin (k0_t4_loop v).trips) : k0_off18 v k = ![0, min (256 * k.val) 480, 0] := by
  rw [← row4 v k]; rfl

theorem off19 (v : BitVec 32) (k : Fin (k0_t4_loop v).trips) : k0_off19 v k = ![0, min (256 * k.val) 480, 128] := by
  rw [← row4 v k]; rfl

theorem off20 (v : BitVec 32) (k : Fin (k0_t4_loop v).trips) : k0_off20 v k = ![min (256 * k.val) 480, 0] := by
  rw [← row4 v k]; rfl

theorem off21 (v : BitVec 32) (k : Fin (k0_t4_loop v).trips) : k0_off21 v k = ![min (256 * k.val) 480, 256] := by
  rw [← row4 v k]; rfl

theorem off22 (v : BitVec 32) (k : Fin (k0_t4_loop v).trips) : k0_off22 v k = ![min (256 * k.val) 480, 512] := by
  rw [← row4 v k]; rfl

theorem off23 (v : BitVec 32) (k : Fin (k0_t4_loop v).trips) : k0_off23 v k = ![min (256 * k.val) 480, 768] := by
  rw [← row4 v k]; rfl

theorem off24 (v : BitVec 32) (k : Fin (k0_t4_loop v).trips) : k0_off24 v k = ![min (256 * k.val) 480, 1024] := by
  rw [← row4 v k]; rfl

theorem off25 (v : BitVec 32) (k : Fin (k0_t4_loop v).trips) : k0_off25 v k = ![min (256 * k.val) 480, 1280] := by
  rw [← row4 v k]; rfl

theorem off26 (v : BitVec 32) (k : Fin (k0_t4_loop v).trips) : k0_off26 v k = ![min (256 * k.val) 480, 1536] := by
  rw [← row4 v k]; rfl

theorem off27 (v : BitVec 32) (k : Fin (k0_t4_loop v).trips) : k0_off27 v k = ![min (256 * k.val) 480, 1792] := by
  rw [← row4 v k]; rfl

theorem off28 (v : BitVec 32) (k : Fin (k0_t4_loop v).trips) : k0_off28 v k = ![min (256 * k.val) 480, 2048] := by
  rw [← row4 v k]; rfl

theorem off29 (v : BitVec 32) (k : Fin (k0_t4_loop v).trips) : k0_off29 v k = ![min (256 * k.val) 480, 2304] := by
  rw [← row4 v k]; rfl

theorem off30 (v : BitVec 32) (k : Fin (k0_t4_loop v).trips) : k0_off30 v k = ![min (256 * k.val) 480, 2560] := by
  rw [← row4 v k]; rfl

theorem off31 (v : BitVec 32) (k : Fin (k0_t4_loop v).trips) : k0_off31 v k = ![min (256 * k.val) 480, 2816] := by
  rw [← row4 v k]; rfl

theorem off32 (v : BitVec 32) (k : Fin (k0_t4_loop v).trips) : k0_off32 v k = ![min (256 * k.val) 480, 3072] := by
  rw [← row4 v k]; rfl

theorem off33 (v : BitVec 32) (k : Fin (k0_t4_loop v).trips) : k0_off33 v k = ![min (256 * k.val) 480, 3328] := by
  rw [← row4 v k]; rfl

theorem off34 (v : BitVec 32) (k : Fin (k0_t4_loop v).trips) : k0_off34 v k = ![min (256 * k.val) 480, 3584] := by
  rw [← row4 v k]; rfl

theorem off35 (v : BitVec 32) (k : Fin (k0_t4_loop v).trips) : k0_off35 v k = ![min (256 * k.val) 480, 3840] := by
  rw [← row4 v k]; rfl

/-- Every fact the kernel assumes of a count, for every count. -/
theorem chk1_all (v : BitVec 32) : k0_chk1 v := by
  have s4 : ∀ k : Fin (k0_t4_loop v).trips, min (256 * k.val) 480 ≤ 480 := fun k => Nat.min_le_right _ _
  have d4 : ∀ k : Fin (k0_t4_loop v).trips, 32 ∣ min (256 * k.val) 480 := fun k => by omega
  have q5 : ∀ {p : Fin (k0_t5_loop v).trips → Prop} (k : Fin (k0_t5_loop v).trips), p k := fun k => (no5 v k).elim
  unfold k0_chk1 k0_chk1_0 k0_chk1_1
  refine ⟨⟨fun _ => Words.ok v, fun k _ => mult4 v k, fun k _ => ?_, fun k _ => ?_, fun k _ => ?_, fun k _ hb => ?_, fun k _ => ?_, fun k _ hb => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_,
    fun _ => Scf.rem_ok _ _, q5, q5, q5, q5, q5, q5, q5⟩, q5, q5, q5, q5, q5, q5, q5, q5, q5, q5, q5, q5, q5, q5, q5, q5⟩
  · rw [off16]; have := s4 k; intro a; fin_cases a <;> simp [S256x4096, S736x4096] <;> omega
  · rw [off17]; have := s4 k; intro a; fin_cases a <;> simp [S1x256x96, S1x736x96] <;> omega
  · rw [off18]; have := s4 k; intro a; fin_cases a <;> simp [S1x256x128, S1x736x256] <;> omega
  · refine Affine.packed_dvd (by decide) ?_ ?_
    · rw [off18]; exact Nat.dvd_trans (by decide) (d4 k)
    · decide
  · rw [off19]; have := s4 k; intro a; fin_cases a <;> simp [S1x256x128, S1x736x256] <;> omega
  · refine Affine.packed_dvd (by decide) ?_ ?_
    · rw [off19]; exact Nat.dvd_trans (by decide) (d4 k)
    · decide
  · rw [off20]; have := s4 k; intro a; fin_cases a <;> simp [S256x256, S736x4096] <;> omega
  · rw [off21]; have := s4 k; intro a; fin_cases a <;> simp [S256x256, S736x4096] <;> omega
  · rw [off22]; have := s4 k; intro a; fin_cases a <;> simp [S256x256, S736x4096] <;> omega
  · rw [off23]; have := s4 k; intro a; fin_cases a <;> simp [S256x256, S736x4096] <;> omega
  · rw [off24]; have := s4 k; intro a; fin_cases a <;> simp [S256x256, S736x4096] <;> omega
  · rw [off25]; have := s4 k; intro a; fin_cases a <;> simp [S256x256, S736x4096] <;> omega
  · rw [off26]; have := s4 k; intro a; fin_cases a <;> simp [S256x256, S736x4096] <;> omega
  · rw [off27]; have := s4 k; intro a; fin_cases a <;> simp [S256x256, S736x4096] <;> omega
  · rw [off28]; have := s4 k; intro a; fin_cases a <;> simp [S256x256, S736x4096] <;> omega
  · rw [off29]; have := s4 k; intro a; fin_cases a <;> simp [S256x256, S736x4096] <;> omega
  · rw [off30]; have := s4 k; intro a; fin_cases a <;> simp [S256x256, S736x4096] <;> omega
  · rw [off31]; have := s4 k; intro a; fin_cases a <;> simp [S256x256, S736x4096] <;> omega
  · rw [off32]; have := s4 k; intro a; fin_cases a <;> simp [S256x256, S736x4096] <;> omega
  · rw [off33]; have := s4 k; intro a; fin_cases a <;> simp [S256x256, S736x4096] <;> omega
  · rw [off34]; have := s4 k; intro a; fin_cases a <;> simp [S256x256, S736x4096] <;> omega
  · rw [off35]; have := s4 k; intro a; fin_cases a <;> simp [S256x256, S736x4096] <;> omega

end Cert.Kernel.Hand

end
-- ==== Proof.BodyKernel.lean ====
/-
  The body run once at a grid point, for safety alone: from the table at its contents and every other buffer at anything the
  kernel's body runs to its return, and hands every buffer back. The run is the library's symbolic execution through the
  generated loop invariants; the side condition the body assumes of the table's word holds of every word (`chk1_all`).
-/
module

public import proofs.«01_k».proof.Proof.ChkKernel
public import proofs.«01_k».proof.Proof.Gen.Kernel.Loops
public import proofs.«01_k».proof.Proof.Gen.Kernel.Skeleton
public import proofs.«01_k».proof.Proof.Gen.Kernel.Launch
public import Idealize.ShloMosaic.Lib.LoopRemainder
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxRecDepth 65536 in
set_option maxHeartbeats 4000000 in
/-- The body's triple at a point that begins an expert, for any continuation: from the table at contents `ft`, every
    other operand and the scratch at anything, the kernel runs to its return, handing back the table as it was and the rest at
    some contents. -/
theorem runFirst (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : k0_cond1 i = 1#1) (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | assumption | exact chk1_all _)
  by_cases h2 : k0_cond2 (runFirst.sl.r c i arg2 ft) = 1#1
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl

set_option maxRecDepth 65536 in
set_option maxHeartbeats 4000000 in
/-- The same at every other point. -/
theorem runRest (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : ¬ k0_cond1 i = 1#1) (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | assumption | exact chk1_all _)
  by_cases h2 : k0_cond2 (runRest.sl.r c i arg2 ft) = 1#1
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl

/-- The body's triple at every point: the two above. -/
theorem kernelRun (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases h1 : k0_cond1 i = 1#1
  · exact runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 q ft K
  · exact runRest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 q ft K

end Cert.Kernel.Hand

end
-- ==== Proof.FrameKernel.lean ====
/-
  The frame: the body's run (`kernelRun`) put under the pipeline's launch. Nothing is said of what the body leaves in a window;
  the invariant between the points is the scratch at anything, the generator register at anything and the prefetched table at
  its launch contents. So the program terminates without a fault, its arguments end unchanged and every counter ends at zero.
-/
module

public import proofs.«01_k».proof.Proof.BodyKernel
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The prefetched table's contents, read on the first device. -/
def tbl : pre0.Contents (Elt F) := fun k => V m (0 : Dev nD) (pre0.ref k)

/-- The pipeline's side condition holds of every table: no index map reads it. -/
theorem ok_all (pf : pre0.Contents (Elt F)) : ok0 pf := by unfold ok0; trivial

/-- The pipeline pinned at the launch contents of its table. -/
abbrev adm (p : Fin 1) : (pcfgs (F := F) p).Adm := ⟨tbl m, ok_all (tbl m)⟩

/-- The pinned pipeline. -/
abbrev pcfg : Pipeline.Cfg sig Λ₀ := Pipeline.pin (pcfgs (F := F)) (adm m) 0

/-- What the table holds on every device. -/
theorem tbl_eq (c : Dev nD) (k : Fin pre0.K) : V m c (pre0.ref k) = tbl m k := by
  have h : c = (0 : Dev nD) := Subsingleton.elim _ _
  subst h; rfl

/-- The table as the body is handed it: the one table's buffer at half the share. -/
theorem table_eq (v : pre0.Contents (Elt F)) (c : Dev nD) :
    (Pipeline.ΦT (nD := nD) (τ := τ) pre0 v c : sProp 𝕄)
      = ((Memref.whole main_arg2).view.loc (c : Thread nD τ) ↦{(fullShare : PosShare TreeShare).right} v (0 : Fin 1)) := by
  unfold Pipeline.ΦT Pipeline.prefHeld
  rw [show (Finset.univ : Finset (Fin pre0.K)) = {(0 : Fin 1)} from rfl, BI.bigSep_singleton]
  rfl

/-- The scratch and the generator register at anything. -/
theorem rest_eq (c : Dev nD) :
    (Pipeline.ΦA (U := UR sig nD τ) spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

/-- The proof data on core `c`: the arrays at their launch contents; nothing said of what the body leaves; the scratch, the
    register and the table between the points; full shares; nothing owed. -/
def rdat (c : Dev nD) : RDat τ (Elt F) Unit ℕ (UR sig nD τ) ℕ (pcfg m) c where
  A w := V m c (Pipeline.arrRef spec0 w)
  after _ _ _ _ := True
  Φ _ := iprop(Pipeline.ΦA spec0 c ∗ Pipeline.ΦT pre0 (tbl m) c)
  q _ := fullShare
  owed _ := 0

/-- The body's table's row at a point. -/
theorem defs₀_row (t : Fin grid0.N) (s : (w : Fin 11) → Fin (spec0 w).nbuf) :
    defs₀ (F := F) .tc 0 (t, s) = cc0_moe_ffn (grid0.coords t) (Memref.whole main_arg2) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) := by
  unfold defs₀; rw [Defs.onTc_tc]

set_option maxHeartbeats 2000000 in
/-- The body obligation at every point: the invariant opened, `kernelRun`, the invariant closed. -/
theorem body_obligation (c : Dev nD) : (rdat m c).BodyObligation (defs₀ (F := F)) Variants.none () Set.univ := by
  intro t Y hY
  rw [bigSep_W0, bigSep_W0,
    show (defs₀ (F := F) .tc (pcfg m).body ((pcfg m).bodyArgs t ((pcfg m).slots t))) = defs₀ (F := F) .tc 0 (t, (pcfg m).slots t) from rfl, defs₀_row,
    show (rdat m c).Φ t.succ = (rdat m c).Φ t.castSucc from rfl,
    show (rdat m c).owesAt () t.succ = (rdat m c).owesAt () t.castSucc from rfl,
    show (rdat m c).Φ t.castSucc = iprop(Pipeline.ΦA (U := UR sig nD τ) spec0 c ∗ Pipeline.ΦT pre0 (tbl m) c) from rfl, rest_eq, table_eq]
  iintro ⟨⟨⟨⟨HS0, HS1, HS2, HS3, HS4⟩, Hg⟩, HT⟩, HO, ⟨H0, H1, H2, H3, H4, H5, H6, H7, H8, H9, H10⟩⟩
  iapply (kernelRun c (grid0.coords t) _ _ _ _ _ _ _ _ _ _ _ _ _ _ _ _ _ _ _ _ _ _ _ _ _ _ _ _ _ _ _ _ _ _ _ _ _)
  isplitl [HT]; · iexact HT
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨HT, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3, HS4⟩
  isplitl [HS0 HS1 HS2 HS3 HS4 Hg HT]
  · isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    iexact HT
  isplitl [HO]; · iexact HO
  isplitl [H0]; · iexists d0; isplitr; · ipureintro; trivial
                  iexact H0
  isplitl [H1]; · iexists d1; isplitr; · ipureintro; trivial
                  iexact H1
  isplitl [H2]; · iexists d2; isplitr; · ipureintro; trivial
                  iexact H2
  isplitl [H3]; · iexists d3; isplitr; · ipureintro; trivial
                  iexact H3
  isplitl [H4]; · iexists d4; isplitr; · ipureintro; trivial
                  iexact H4
  isplitl [H5]; · iexists d5; isplitr; · ipureintro; trivial
                  iexact H5
  isplitl [H6]; · iexists d6; isplitr; · ipureintro; trivial
                  iexact H6
  isplitl [H7]; · iexists d7; isplitr; · ipureintro; trivial
                  iexact H7
  isplitl [H8]; · iexists d8; isplitr; · ipureintro; trivial
                  iexact H8
  isplitl [H9]; · iexists d9; isplitr; · ipureintro; trivial
                  iexact H9
  iexists d10; isplitr; · ipureintro; trivial
  iexact H10

/-- @main is the region alone. -/
theorem hmain (𝒱₀ : Variants) :
    Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

set_option backward.isDefEq.respectTransparency.types false in
set_option maxHeartbeats 800000 in
/-- The run: every execution terminates, each input array ends as it was, every buffer outside the windows too, and every
    counter at zero. -/
theorem run_main : θ_run defs (onTc (τ := τ) (main (F := F))) (s₀ m ρ)
    (fun r => RDat.FramePost (pcfg m) (rdat m) (V m) r ∧ r.2.sem = fun _ => 0) :=
  RDat.θ_run_frameP_track (Q' := _) (pcfgs (F := F)) (adm m) (0 : Fin 1) launch0 defs₀ Variants.none (rdat m) m ρ main
    (hbody := body_obligation m) (hshare := fun c w => (rdat m c).share_full (fun _ => rfl) w)
    (howed := fun _ _ => rfl) (V := V m) (hmain := hmain m Variants.none) (hA := fun _ _ => rfl) (hpf := fun c k => tbl_eq m c k)
    (hin := fun _ => .rfl) (hout := fun c => by
      rw [show (rdat m c).Φ (Fin.last (pcfg m).N) = iprop(Pipeline.ΦA (U := UR sig nD τ) spec0 c ∗ Pipeline.ΦT pre0 (tbl m) c) from rfl]
      iintro ⟨H, -⟩; iexact H)

/-- The table is no window's array. -/
theorem arg2_rest : main_arg2 ∈ Pipeline.restRefs sig spec0 := Pipeline.mem_restRefs_of main_arg2 (by decide) (by decide)

/-- The program terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨RDat.FramePost.arr_in h.1 c (0 : Fin 11) rfl, RDat.FramePost.arr_in h.1 c (1 : Fin 11) rfl,
    (h.1 c).2 main_arg2 arg2_rest,
    RDat.FramePost.arr_in h.1 c (2 : Fin 11) rfl, RDat.FramePost.arr_in h.1 c (3 : Fin 11) rfl, RDat.FramePost.arr_in h.1 c (4 : Fin 11) rfl,
    RDat.FramePost.arr_in h.1 c (5 : Fin 11) rfl, RDat.FramePost.arr_in h.1 c (6 : Fin 11) rfl, RDat.FramePost.arr_in h.1 c (7 : Fin 11) rfl⟩, h.2⟩) (run_main m ρ)

end Cert.Kernel.Hand

end
-- ==== Proof.ChkKernelIdeal.lean ====
/-
  The facts the kernel assumes of a count hold for every 32-bit word: its row loop has a meaning and every block of
  256 rows lies within the 736 rows of its buffers.
-/
module

public import proofs.«01_k».proof.Proof.Gen.KernelIdeal
public import proofs.«01_k».proof.Proof.Words
public import Idealize.ShloMosaic.Lib.LoopRemainder

@[expose] public section

namespace Cert.KernelIdeal.Hand

open Idealize.ShloMosaic Cert.KernelIdeal

theorem trips4 (v : BitVec 32) : (k0_t4_loop v).trips = (Words.blocks v).toInt.toNat := Words.trips_eq v

theorem lt4 (v : BitVec 32) (k : Fin (k0_t4_loop v).trips) : k.val < 2 ^ 23 := Nat.lt_trans k.isLt (Words.trips_lt v)

/-- The first row of block `k`. -/
theorem row4 (v : BitVec 32) (k : Fin (k0_t4_loop v).trips) :
    (Scalar.indexCast (Scalar.minsi (Scalar.muli (Scf.iv 0#32 1#32 k.val) 256#32) 480#32)).toNat = min (256 * k.val) 480 :=
  Words.start_toNat k.val (lt4 v k)

/-- The remainder loop makes no trip. -/
theorem no5 (v : BitVec 32) (k : Fin (k0_t5_loop v).trips) : False :=
  Scf.rem_no_trip 0#32 (Scalar.subi (Words.blocks v) 0#32) k

theorem mult4 (v : BitVec 32) (k : Fin (k0_t4_loop v).trips) : 32 ∣ (k0_mult4 v k).toNat := by
  rw [show (k0_mult4 v k).toNat = min (256 * k.val) 480 from Words.start_toNat k.val (lt4 v k)]; omega

theorem off16 (v : BitVec 32) (k : Fin (k0_t4_loop v).trips) : k0_off16 v k = ![min (256 * k.val) 480, 0] := by
  rw [← row4 v k]; rfl

theorem off17 (v : BitVec 32) (k : Fin (k0_t4_loop v).trips) : k0_off17 v k = ![0, min (256 * k.val) 480, 0] := by
  rw [← row4 v k]; rfl

theorem off18 (v : BitVec 32) (k : Fin (k0_t4_loop v).trips) : k0_off18 v k = ![0, min (256 * k.val) 480, 0] := by
  rw [← row4 v k]; rfl

theorem off19 (v : BitVec 32) (k : Fin (k0_t4_loop v).trips) : k0_off19 v k = ![0, min (256 * k.val) 480, 128] := by
  rw [← row4 v k]; rfl

theorem off20 (v : BitVec 32) (k : Fin (k0_t4_loop v).trips) : k0_off20 v k = ![min (256 * k.val) 480, 0] := by
  rw [← row4 v k]; rfl

theorem off21 (v : BitVec 32) (k : Fin (k0_t4_loop v).trips) : k0_off21 v k = ![min (256 * k.val) 480, 256] := by
  rw [← row4 v k]; rfl

theorem off22 (v : BitVec 32) (k : Fin (k0_t4_loop v).trips) : k0_off22 v k = ![min (256 * k.val) 480, 512] := by
  rw [← row4 v k]; rfl

theorem off23 (v : BitVec 32) (k : Fin (k0_t4_loop v).trips) : k0_off23 v k = ![min (256 * k.val) 480, 768] := by
  rw [← row4 v k]; rfl

theorem off24 (v : BitVec 32) (k : Fin (k0_t4_loop v).trips) : k0_off24 v k = ![min (256 * k.val) 480, 1024] := by
  rw [← row4 v k]; rfl

theorem off25 (v : BitVec 32) (k : Fin (k0_t4_loop v).trips) : k0_off25 v k = ![min (256 * k.val) 480, 1280] := by
  rw [← row4 v k]; rfl

theorem off26 (v : BitVec 32) (k : Fin (k0_t4_loop v).trips) : k0_off26 v k = ![min (256 * k.val) 480, 1536] := by
  rw [← row4 v k]; rfl

theorem off27 (v : BitVec 32) (k : Fin (k0_t4_loop v).trips) : k0_off27 v k = ![min (256 * k.val) 480, 1792] := by
  rw [← row4 v k]; rfl

theorem off28 (v : BitVec 32) (k : Fin (k0_t4_loop v).trips) : k0_off28 v k = ![min (256 * k.val) 480, 2048] := by
  rw [← row4 v k]; rfl

theorem off29 (v : BitVec 32) (k : Fin (k0_t4_loop v).trips) : k0_off29 v k = ![min (256 * k.val) 480, 2304] := by
  rw [← row4 v k]; rfl

theorem off30 (v : BitVec 32) (k : Fin (k0_t4_loop v).trips) : k0_off30 v k = ![min (256 * k.val) 480, 2560] := by
  rw [← row4 v k]; rfl

theorem off31 (v : BitVec 32) (k : Fin (k0_t4_loop v).trips) : k0_off31 v k = ![min (256 * k.val) 480, 2816] := by
  rw [← row4 v k]; rfl

theorem off32 (v : BitVec 32) (k : Fin (k0_t4_loop v).trips) : k0_off32 v k = ![min (256 * k.val) 480, 3072] := by
  rw [← row4 v k]; rfl

theorem off33 (v : BitVec 32) (k : Fin (k0_t4_loop v).trips) : k0_off33 v k = ![min (256 * k.val) 480, 3328] := by
  rw [← row4 v k]; rfl

theorem off34 (v : BitVec 32) (k : Fin (k0_t4_loop v).trips) : k0_off34 v k = ![min (256 * k.val) 480, 3584] := by
  rw [← row4 v k]; rfl

theorem off35 (v : BitVec 32) (k : Fin (k0_t4_loop v).trips) : k0_off35 v k = ![min (256 * k.val) 480, 3840] := by
  rw [← row4 v k]; rfl

/-- Every fact the kernel assumes of a count, for every count. -/
theorem chk1_all (v : BitVec 32) : k0_chk1 v := by
  have s4 : ∀ k : Fin (k0_t4_loop v).trips, min (256 * k.val) 480 ≤ 480 := fun k => Nat.min_le_right _ _
  have d4 : ∀ k : Fin (k0_t4_loop v).trips, 32 ∣ min (256 * k.val) 480 := fun k => by omega
  have q5 : ∀ {p : Fin (k0_t5_loop v).trips → Prop} (k : Fin (k0_t5_loop v).trips), p k := fun k => (no5 v k).elim
  unfold k0_chk1 k0_chk1_0 k0_chk1_1
  refine ⟨⟨fun _ => Words.ok v, fun k _ => mult4 v k, fun k _ => ?_, fun k _ => ?_, fun k _ => ?_, fun k _ hb => ?_, fun k _ => ?_, fun k _ hb => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_, fun k _ => ?_,
    fun _ => Scf.rem_ok _ _, q5, q5, q5, q5, q5, q5, q5⟩, q5, q5, q5, q5, q5, q5, q5, q5, q5, q5, q5, q5, q5, q5, q5, q5⟩
  · rw [off16]; have := s4 k; intro a; fin_cases a <;> simp [S256x4096, S736x4096] <;> omega
  · rw [off17]; have := s4 k; intro a; fin_cases a <;> simp [S1x256x96, S1x736x96] <;> omega
  · rw [off18]; have := s4 k; intro a; fin_cases a <;> simp [S1x256x128, S1x736x256] <;> omega
  · refine Affine.packed_dvd (by decide) ?_ ?_
    · rw [off18]; exact Nat.dvd_trans (by decide) (d4 k)
    · decide
  · rw [off19]; have := s4 k; intro a; fin_cases a <;> simp [S1x256x128, S1x736x256] <;> omega
  · refine Affine.packed_dvd (by decide) ?_ ?_
    · rw [off19]; exact Nat.dvd_trans (by decide) (d4 k)
    · decide
  · rw [off20]; have := s4 k; intro a; fin_cases a <;> simp [S256x256, S736x4096] <;> omega
  · rw [off21]; have := s4 k; intro a; fin_cases a <;> simp [S256x256, S736x4096] <;> omega
  · rw [off22]; have := s4 k; intro a; fin_cases a <;> simp [S256x256, S736x4096] <;> omega
  · rw [off23]; have := s4 k; intro a; fin_cases a <;> simp [S256x256, S736x4096] <;> omega
  · rw [off24]; have := s4 k; intro a; fin_cases a <;> simp [S256x256, S736x4096] <;> omega
  · rw [off25]; have := s4 k; intro a; fin_cases a <;> simp [S256x256, S736x4096] <;> omega
  · rw [off26]; have := s4 k; intro a; fin_cases a <;> simp [S256x256, S736x4096] <;> omega
  · rw [off27]; have := s4 k; intro a; fin_cases a <;> simp [S256x256, S736x4096] <;> omega
  · rw [off28]; have := s4 k; intro a; fin_cases a <;> simp [S256x256, S736x4096] <;> omega
  · rw [off29]; have := s4 k; intro a; fin_cases a <;> simp [S256x256, S736x4096] <;> omega
  · rw [off30]; have := s4 k; intro a; fin_cases a <;> simp [S256x256, S736x4096] <;> omega
  · rw [off31]; have := s4 k; intro a; fin_cases a <;> simp [S256x256, S736x4096] <;> omega
  · rw [off32]; have := s4 k; intro a; fin_cases a <;> simp [S256x256, S736x4096] <;> omega
  · rw [off33]; have := s4 k; intro a; fin_cases a <;> simp [S256x256, S736x4096] <;> omega
  · rw [off34]; have := s4 k; intro a; fin_cases a <;> simp [S256x256, S736x4096] <;> omega
  · rw [off35]; have := s4 k; intro a; fin_cases a <;> simp [S256x256, S736x4096] <;> omega

end Cert.KernelIdeal.Hand

end
-- ==== Proof.BodyKernelIdeal.lean ====
/-
  The body run once at a grid point, for safety alone: from the table at its contents and every other buffer at anything the
  kernel's body runs to its return, and hands every buffer back. The run is the library's symbolic execution through the
  generated loop invariants; the side condition the body assumes of the table's word holds of every word (`chk1_all`).
-/
module

public import proofs.«01_k».proof.Proof.ChkKernelIdeal
public import proofs.«01_k».proof.Proof.Gen.KernelIdeal.Loops
public import proofs.«01_k».proof.Proof.Gen.KernelIdeal.Skeleton
public import proofs.«01_k».proof.Proof.Gen.KernelIdeal.Launch
public import Idealize.ShloMosaic.Lib.LoopRemainder
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxRecDepth 65536 in
set_option maxHeartbeats 4000000 in
/-- The body's triple at a point that begins an expert, for any continuation: from the table at contents `ft`, every
    other operand and the scratch at anything, the kernel runs to its return, handing back the table as it was and the rest at
    some contents. -/
theorem runFirst (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : k0_cond1 i = 1#1) (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | assumption | exact chk1_all _)
  by_cases h2 : k0_cond2 (runFirst.sl.r c i arg2 ft) = 1#1
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl

set_option maxRecDepth 65536 in
set_option maxHeartbeats 4000000 in
/-- The same at every other point. -/
theorem runRest (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : ¬ k0_cond1 i = 1#1) (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  sl_exec (disch := first | assumption | exact chk1_all _)
  by_cases h2 : k0_cond2 (runRest.sl.r c i arg2 ft) = 1#1
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl
  · sl_exec (disch := first | assumption | exact chk1_all _)
    try sl_step
    iapply Hk
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    · iexists _, _; isplitr; swap; · iexact H18
      ipureintro; rfl

/-- The body's triple at every point: the two above. -/
theorem kernelRun (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (q : PosShare TreeShare) (ft : Buf (Elt F) (arg2.view.loc (c : Thread nD τ))) (K : PUnit → sProp 𝕄) :
    iprop((arg2.view.loc (c : Thread nD τ) ↦{q} ft) ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)
              ∗ (∃ d, owns (c : Thread nD τ) arg16 fullShare d)
              ∗ (∃ d, owns (c : Thread nD τ) arg17 fullShare d)
              ∗ (∃ d, owns (c : Thread nD τ) arg18 fullShare d)) -∗ K ⟨⟩))
      ⊢ wp frame (wpE (defs₀ (F := F)) Variants.none c none) Set.univ
          (cc0_moe_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases h1 : k0_cond1 i = 1#1
  · exact runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 q ft K
  · exact runRest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 q ft K

end Cert.KernelIdeal.Hand

end
-- ==== Proof.FrameKernelIdeal.lean ====
/-
  The frame: the body's run (`kernelRun`) put under the pipeline's launch. Nothing is said of what the body leaves in a window;
  the invariant between the points is the scratch at anything, the generator register at anything and the prefetched table at
  its launch contents. So the program terminates without a fault, its arguments end unchanged and every counter ends at zero.
-/
module

public import proofs.«01_k».proof.Proof.BodyKernelIdeal
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The prefetched table's contents, read on the first device. -/
def tbl : pre0.Contents (Elt F) := fun k => V m (0 : Dev nD) (pre0.ref k)

/-- The pipeline's side condition holds of every table: no index map reads it. -/
theorem ok_all (pf : pre0.Contents (Elt F)) : ok0 pf := by unfold ok0; trivial

/-- The pipeline pinned at the launch contents of its table. -/
abbrev adm (p : Fin 1) : (pcfgs (F := F) p).Adm := ⟨tbl m, ok_all (tbl m)⟩

/-- The pinned pipeline. -/
abbrev pcfg : Pipeline.Cfg sig Λ₀ := Pipeline.pin (pcfgs (F := F)) (adm m) 0

/-- What the table holds on every device. -/
theorem tbl_eq (c : Dev nD) (k : Fin pre0.K) : V m c (pre0.ref k) = tbl m k := by
  have h : c = (0 : Dev nD) := Subsingleton.elim _ _
  subst h; rfl

/-- The table as the body is handed it: the one table's buffer at half the share. -/
theorem table_eq (v : pre0.Contents (Elt F)) (c : Dev nD) :
    (Pipeline.ΦT (nD := nD) (τ := τ) pre0 v c : sProp 𝕄)
      = ((Memref.whole main_arg2).view.loc (c : Thread nD τ) ↦{(fullShare : PosShare TreeShare).right} v (0 : Fin 1)) := by
  unfold Pipeline.ΦT Pipeline.prefHeld
  rw [show (Finset.univ : Finset (Fin pre0.K)) = {(0 : Fin 1)} from rfl, BI.bigSep_singleton]
  rfl

/-- The scratch and the generator register at anything. -/
theorem rest_eq (c : Dev nD) :
    (Pipeline.ΦA (U := UR sig nD τ) spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

/-- The proof data on core `c`: the arrays at their launch contents; nothing said of what the body leaves; the scratch, the
    register and the table between the points; full shares; nothing owed. -/
def rdat (c : Dev nD) : RDat τ (Elt F) Unit ℕ (UR sig nD τ) ℕ (pcfg m) c where
  A w := V m c (Pipeline.arrRef spec0 w)
  after _ _ _ _ := True
  Φ _ := iprop(Pipeline.ΦA spec0 c ∗ Pipeline.ΦT pre0 (tbl m) c)
  q _ := fullShare
  owed _ := 0

/-- The body's table's row at a point. -/
theorem defs₀_row (t : Fin grid0.N) (s : (w : Fin 11) → Fin (spec0 w).nbuf) :
    defs₀ (F := F) .tc 0 (t, s) = cc0_moe_ffn (grid0.coords t) (Memref.whole main_arg2) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) := by
  unfold defs₀; rw [Defs.onTc_tc]

set_option maxHeartbeats 2000000 in
/-- The body obligation at every point: the invariant opened, `kernelRun`, the invariant closed. -/
theorem body_obligation (c : Dev nD) : (rdat m c).BodyObligation (defs₀ (F := F)) Variants.none () Set.univ := by
  intro t Y hY
  rw [bigSep_W0, bigSep_W0,
    show (defs₀ (F := F) .tc (pcfg m).body ((pcfg m).bodyArgs t ((pcfg m).slots t))) = defs₀ (F := F) .tc 0 (t, (pcfg m).slots t) from rfl, defs₀_row,
    show (rdat m c).Φ t.succ = (rdat m c).Φ t.castSucc from rfl,
    show (rdat m c).owesAt () t.succ = (rdat m c).owesAt () t.castSucc from rfl,
    show (rdat m c).Φ t.castSucc = iprop(Pipeline.ΦA (U := UR sig nD τ) spec0 c ∗ Pipeline.ΦT pre0 (tbl m) c) from rfl, rest_eq, table_eq]
  iintro ⟨⟨⟨⟨HS0, HS1, HS2, HS3, HS4⟩, Hg⟩, HT⟩, HO, ⟨H0, H1, H2, H3, H4, H5, H6, H7, H8, H9, H10⟩⟩
  iapply (kernelRun c (grid0.coords t) _ _ _ _ _ _ _ _ _ _ _ _ _ _ _ _ _ _ _ _ _ _ _ _ _ _ _ _ _ _ _ _ _ _ _ _ _)
  isplitl [HT]; · iexact HT
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨HT, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, HS0, HS1, HS2, HS3, HS4⟩
  isplitl [HS0 HS1 HS2 HS3 HS4 Hg HT]
  · isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    iexact HT
  isplitl [HO]; · iexact HO
  isplitl [H0]; · iexists d0; isplitr; · ipureintro; trivial
                  iexact H0
  isplitl [H1]; · iexists d1; isplitr; · ipureintro; trivial
                  iexact H1
  isplitl [H2]; · iexists d2; isplitr; · ipureintro; trivial
                  iexact H2
  isplitl [H3]; · iexists d3; isplitr; · ipureintro; trivial
                  iexact H3
  isplitl [H4]; · iexists d4; isplitr; · ipureintro; trivial
                  iexact H4
  isplitl [H5]; · iexists d5; isplitr; · ipureintro; trivial
                  iexact H5
  isplitl [H6]; · iexists d6; isplitr; · ipureintro; trivial
                  iexact H6
  isplitl [H7]; · iexists d7; isplitr; · ipureintro; trivial
                  iexact H7
  isplitl [H8]; · iexists d8; isplitr; · ipureintro; trivial
                  iexact H8
  isplitl [H9]; · iexists d9; isplitr; · ipureintro; trivial
                  iexact H9
  iexists d10; isplitr; · ipureintro; trivial
  iexact H10

/-- @main is the region alone. -/
theorem hmain (𝒱₀ : Variants) :
    Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

set_option backward.isDefEq.respectTransparency.types false in
set_option maxHeartbeats 800000 in
/-- The run: every execution terminates, each input array ends as it was, every buffer outside the windows too, and every
    counter at zero. -/
theorem run_main : θ_run defs (onTc (τ := τ) (main (F := F))) (s₀ m ρ)
    (fun r => RDat.FramePost (pcfg m) (rdat m) (V m) r ∧ r.2.sem = fun _ => 0) :=
  RDat.θ_run_frameP_track (Q' := _) (pcfgs (F := F)) (adm m) (0 : Fin 1) launch0 defs₀ Variants.none (rdat m) m ρ main
    (hbody := body_obligation m) (hshare := fun c w => (rdat m c).share_full (fun _ => rfl) w)
    (howed := fun _ _ => rfl) (V := V m) (hmain := hmain m Variants.none) (hA := fun _ _ => rfl) (hpf := fun c k => tbl_eq m c k)
    (hin := fun _ => .rfl) (hout := fun c => by
      rw [show (rdat m c).Φ (Fin.last (pcfg m).N) = iprop(Pipeline.ΦA (U := UR sig nD τ) spec0 c ∗ Pipeline.ΦT pre0 (tbl m) c) from rfl]
      iintro ⟨H, -⟩; iexact H)

/-- The table is no window's array. -/
theorem arg2_rest : main_arg2 ∈ Pipeline.restRefs sig spec0 := Pipeline.mem_restRefs_of main_arg2 (by decide) (by decide)

/-- The program terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨RDat.FramePost.arr_in h.1 c (0 : Fin 11) rfl, RDat.FramePost.arr_in h.1 c (1 : Fin 11) rfl,
    (h.1 c).2 main_arg2 arg2_rest,
    RDat.FramePost.arr_in h.1 c (2 : Fin 11) rfl, RDat.FramePost.arr_in h.1 c (3 : Fin 11) rfl, RDat.FramePost.arr_in h.1 c (4 : Fin 11) rfl,
    RDat.FramePost.arr_in h.1 c (5 : Fin 11) rfl, RDat.FramePost.arr_in h.1 c (6 : Fin 11) rfl, RDat.FramePost.arr_in h.1 c (7 : Fin 11) rfl⟩, h.2⟩) (run_main m ρ)

end Cert.KernelIdeal.Hand

end
-- ==== Proof.Quant.lean ====
/-
  The group quantiser's scale at one number. The kernel finds the exponent field of `v` by a search in eight steps and shifts
  it into place as the bits of a power of two; the reference takes the largest power of two that `v` reaches among 252. Both
  are `scaleOf v` here, and the reciprocals by which the two multiply are `invOf v`.
-/
module

public import Idealize.ShloMosaic.Lib.Pointwise
public import Mathlib.Tactic.Ring
public import Mathlib.Tactic.NormNum
public import Mathlib.Tactic.Linarith

@[expose] public section

noncomputable section

namespace Cert.Quant

open Idealize.ShloMosaic

/-- The power of two whose binary32 exponent field is `n`. -/
def pw (n : ℕ) : EReal := (((2 : ℝ) ^ ((n : ℤ) - 127) : ℝ) : EReal)

theorem pw_le {a b : ℕ} (h : a ≤ b) : pw a ≤ pw b := by
  unfold pw
  exact EReal.coe_le_coe_iff.mpr (zpow_le_zpow_right₀ (by norm_num) (by omega))

theorem pw_one27 : pw 127 = 1 := by unfold pw; simp

/-- The bits of a word shifted into the exponent's place: no sign, the field itself, no fraction. -/
theorem shifted_bits : ∀ n : Fin 255,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by decide +kernel

/-- A word from 1 to 254, shifted into the exponent's place and read as a binary32 float, is the power of two of that field. -/
theorem ofBits_shifted (n : ℕ) (h1 : 1 ≤ n) (h2 : n ≤ 254) :
    Ideal.ofBits .f32 (IntOp.shli .vector (BitVec.ofNat 32 n) 23#32) = pw n := by
  obtain ⟨b1, b2, b3⟩ := shifted_bits ⟨n, by omega⟩
  have e1 : n ≠ 2 ^ 8 - 1 := by omega
  have e2 : n ≠ 0 := by omega
  show Ideal.ieee 8 23 _ = _
  unfold Ideal.ieee pw
  simp only [b1, b2, b3]
  rw [if_neg e1, if_neg e2]
  refine congrArg _ ?_
  have h : ((n : ℤ) - (2 ^ (8 - 1) - 1) - (23 : ℕ)) = ((n : ℤ) - 127) + (-23) := by norm_num; ring
  rw [h, zpow_add₀ (by norm_num)]
  norm_num
  ring

/-- One step of the search: the field `p + s` if `v` reaches its power of two, else `p`. -/
def kstep (v : EReal) (p s : BitVec 32) : BitVec 32 :=
  Scalar.select (FloatOps.cmpf (F := Ideal) (φ := .f32) .oge v (FloatOps.ofBits .f32 (IntOp.shli .vector (IntOp.addi p s) 23#32)))
    (IntOp.addi p s) p

/-- The field found by the eight steps. -/
def kfield (v : EReal) : BitVec 32 :=
  kstep v (kstep v (kstep v (kstep v (kstep v (kstep v (kstep v (kstep v 0#32 125#32) 64#32) 32#32) 16#32) 8#32) 4#32) 2#32) 1#32

/-- The exponent field of the scale: one more than the field found, and 127 where that is zero. -/
def keb (p : BitVec 32) : BitVec 32 := Scalar.select (IntOp.cmpi .eq p 0#32) 127#32 (IntOp.addi p 1#32)

/-- What the search keeps: `p` is the word of `n`, `v` reaches the power of `n`, and not the power `m` above it. -/
def Kept (v : EReal) (p : BitVec 32) (m : ℕ) : Prop :=
  ∃ n : ℕ, p = BitVec.ofNat 32 n ∧ n + m ≤ 253 ∧ (n = 0 ∨ pw n ≤ v) ∧ (n + m = 253 ∨ v < pw (n + m))

theorem kstep_eq (v : EReal) (n s : ℕ) (h1 : 1 ≤ n + s) (h2 : n + s ≤ 254) :
    kstep v (BitVec.ofNat 32 n) (BitVec.ofNat 32 s) = if pw (n + s) ≤ v then BitVec.ofNat 32 (n + s) else BitVec.ofNat 32 n := by
  have ha : IntOp.addi (BitVec.ofNat 32 n) (BitVec.ofNat 32 s) = BitVec.ofNat 32 (n + s) := by
    show BitVec.ofNat 32 n + BitVec.ofNat 32 s = _
    rw [BitVec.ofNat_add]
  have hb : FloatOps.ofBits (F := Ideal) .f32 (IntOp.shli .vector (BitVec.ofNat 32 (n + s)) 23#32) = pw (n + s) :=
    ofBits_shifted _ h1 h2
  unfold kstep
  rw [ha, hb, Ideal.cmpf_def]
  by_cases h : pw (n + s) ≤ v
  · rw [if_pos h]; simp [Scalar.select, Ideal.cmp, h]
  · rw [if_neg h]; simp [Scalar.select, Ideal.cmp, h]

/-- A step by half the gap halves the gap. -/
theorem kept_step (v : EReal) (p : BitVec 32) (s : ℕ) (hs : 1 ≤ s) (h : Kept v p (s + s)) :
    Kept v (kstep v p (BitVec.ofNat 32 s)) s := by
  obtain ⟨n, rfl, hn, hlo, hhi⟩ := h
  rw [kstep_eq v n s (by omega) (by omega)]
  by_cases hv : pw (n + s) ≤ v
  · rw [if_pos hv]
    exact ⟨n + s, rfl, by omega, .inr hv, by rwa [Nat.add_assoc]⟩
  · rw [if_neg hv]
    exact ⟨n, rfl, by omega, hlo, .inr (not_le.mp hv)⟩

theorem kept_first (v : EReal) : Kept v (kstep v 0#32 125#32) 128 := by
  have h := kstep_eq v 0 125 (by omega) (by omega)
  rw [show (125#32) = BitVec.ofNat 32 125 from rfl, show (0#32) = BitVec.ofNat 32 0 from rfl, h]
  by_cases hv : pw (0 + 125) ≤ v
  · rw [if_pos hv]; exact ⟨125, rfl, by omega, .inr hv, .inl rfl⟩
  · rw [if_neg hv]
    exact ⟨0, rfl, by omega, .inl rfl, .inr (lt_of_lt_of_le (not_le.mp hv) (pw_le (by omega)))⟩

/-- What the eight steps find. -/
theorem kfield_spec (v : EReal) : ∃ n : ℕ, kfield v = BitVec.ofNat 32 n ∧ n ≤ 252 ∧ (n = 0 ∨ pw n ≤ v)
    ∧ (n = 252 ∨ v < pw (n + 1)) := by
  have h := kept_first v
  have h := kept_step v _ 64 (by omega) h
  have h := kept_step v _ 32 (by omega) h
  have h := kept_step v _ 16 (by omega) h
  have h := kept_step v _ 8 (by omega) h
  have h := kept_step v _ 4 (by omega) h
  have h := kept_step v _ 2 (by omega) h
  have h := kept_step v _ 1 (by omega) h
  obtain ⟨n, e, a, b, c⟩ := h
  exact ⟨n, e, by omega, b, c.imp (by omega) id⟩

/-- The field of `v`: 0 below the least power, else the field of the largest power of two up to the 252nd that `v` reaches. -/
def field (v : EReal) : ℕ := (kfield_spec v).choose

theorem field_word (v : EReal) : kfield v = BitVec.ofNat 32 (field v) := (kfield_spec v).choose_spec.1
theorem field_le (v : EReal) : field v ≤ 252 := (kfield_spec v).choose_spec.2.1
theorem field_lo (v : EReal) : field v = 0 ∨ pw (field v) ≤ v := (kfield_spec v).choose_spec.2.2.1
theorem field_hi (v : EReal) : field v = 252 ∨ v < pw (field v + 1) := (kfield_spec v).choose_spec.2.2.2

/-- The scale's field. -/
def eb (v : EReal) : ℕ := if field v = 0 then 127 else field v + 1

/-- The quantiser's scale for the group maximum over 448 being `v`, and what it multiplies by. -/
def scaleOf (v : EReal) : EReal := pw (eb v)
def invOf (v : EReal) : EReal := pw (254 - eb v)

theorem eb_range (v : EReal) : 1 ≤ eb v ∧ eb v ≤ 253 := by
  have := field_le v
  unfold eb; split <;> omega

theorem keb_eq (v : EReal) : keb (kfield v) = BitVec.ofNat 32 (eb v) := by
  rw [field_word]
  have hle := field_le v
  unfold keb eb
  by_cases h : field v = 0
  · rw [if_pos h, h]; rfl
  · rw [if_neg h]
    have h0 : ¬ BitVec.ofNat 32 (field v) = 0#32 := by
      intro e
      have := congrArg BitVec.toNat e
      simp only [BitVec.toNat_ofNat] at this
      omega
    have hc : IntOp.cmpi .eq (BitVec.ofNat 32 (field v)) 0#32 = 0#1 := by
      simp only [IntOp.cmpi]
      rw [show (BitVec.ofNat 32 (field v) == 0#32) = false from beq_false_of_ne h0]
      rfl
    rw [hc]
    show BitVec.ofNat 32 (field v) + BitVec.ofNat 32 1 = _
    rw [← BitVec.ofNat_add]

/-- The kernel's scale. -/
theorem kscale_eq (v : EReal) : FloatOps.ofBits (F := Ideal) .f32 (IntOp.shli .vector (keb (kfield v)) 23#32) = scaleOf v := by
  have := eb_range v
  rw [keb_eq]; exact ofBits_shifted _ (by omega) (by omega)

/-- The kernel's reciprocal. -/
theorem kinv_eq (v : EReal) :
    FloatOps.ofBits (F := Ideal) .f32 (IntOp.shli .vector (IntOp.subi 254#32 (keb (kfield v))) 23#32) = invOf v := by
  have := eb_range v
  rw [keb_eq]
  have hs : IntOp.subi 254#32 (BitVec.ofNat 32 (eb v)) = BitVec.ofNat 32 (254 - eb v) := by
    show 254#32 - BitVec.ofNat 32 (eb v) = _
    apply BitVec.eq_of_toNat_eq
    rw [BitVec.toNat_sub]
    simp only [BitVec.toNat_ofNat]
    omega
  rw [hs]; exact ofBits_shifted _ (by omega) (by omega)

/-! ### The reference's -/

theorem exp2_int (z : ℤ) : Ideal.exp2 (((z : ℝ) : ℝ) : EReal) = (((2 : ℝ) ^ z : ℝ) : EReal) := by
  rw [Ideal.exp2_coe]
  exact congrArg _ (Real.rpow_intCast 2 z)

/-- The largest of 252 candidates, each kept where `v` reaches its power: none below the least power, else the field's. -/
theorem fold_field (v : EReal) (g : Fin 252 → EReal)
    (hg : ∀ k : Fin 252, g k = if pw (k.val + 1) ≤ v then ((((k.val : ℤ) - 125 : ℤ) : ℝ) : EReal) else ⊥) :
    Finset.univ.fold max ⊥ g = if field v = 0 then ⊥ else ((((field v : ℤ) - 126 : ℤ) : ℝ) : EReal) := by
  have hle := field_le v
  have hreach : ∀ k : Fin 252, pw (k.val + 1) ≤ v ↔ k.val + 1 ≤ field v := by
    intro k
    constructor
    · intro h
      by_contra hk
      rcases field_hi v with h' | h'
      · have := k.isLt; omega
      · exact absurd (lt_of_le_of_lt h h') (not_lt.mpr (pw_le (by omega)))
    · intro h
      rcases field_lo v with h' | h'
      · omega
      · exact le_trans (pw_le h) h'
  have hg' : ∀ k : Fin 252, g k = if k.val + 1 ≤ field v then ((((k.val : ℤ) - 125 : ℤ) : ℝ) : EReal) else ⊥ := by
    intro k
    rw [hg k]
    by_cases h : k.val + 1 ≤ field v
    · rw [if_pos h, if_pos ((hreach k).mpr h)]
    · rw [if_neg h, if_neg (fun h' => h ((hreach k).mp h'))]
  apply le_antisymm
  · refine (Finset.fold_max_le _).mpr ⟨bot_le, fun k _ => ?_⟩
    rw [hg' k]
    by_cases h : k.val + 1 ≤ field v
    · rw [if_pos h, if_neg (by omega)]
      refine EReal.coe_le_coe_iff.mpr ?_
      exact_mod_cast (by omega : (k.val : ℤ) - 125 ≤ (field v : ℤ) - 126)
    · rw [if_neg h]; exact bot_le
  · by_cases h : field v = 0
    · rw [if_pos h]; exact bot_le
    · rw [if_neg h]
      refine (Finset.le_fold_max _).mpr (.inr ⟨⟨field v - 1, by omega⟩, Finset.mem_univ _, ?_⟩)
      rw [hg', if_pos (by show field v - 1 + 1 ≤ _; omega)]
      refine EReal.coe_le_coe_iff.mpr ?_
      exact_mod_cast (by show (field v : ℤ) - 126 ≤ ((field v - 1 : ℕ) : ℤ) - 125; omega)

/-- The reference's exponent: the largest found, and zero below the least normal number. -/
def rexpOf (v : EReal) : EReal := ((((eb v : ℤ) - 127 : ℤ) : ℝ) : EReal)

theorem exp2_rexp (v : EReal) : Ideal.exp2 (rexpOf v) = scaleOf v := exp2_int _

theorem exp2_neg_rexp (v : EReal) : Ideal.exp2 (0 - rexpOf v) = invOf v := by
  have := eb_range v
  have h : (0 : EReal) - rexpOf v = ((((127 - (eb v : ℤ)) : ℤ) : ℝ) : EReal) := by
    unfold rexpOf
    rw [← EReal.coe_zero, ← EReal.coe_sub]
    refine congrArg _ ?_
    push_cast; ring
  rw [h, exp2_int]
  unfold invOf pw
  refine congrArg _ (congrArg _ ?_)
  omega

/-- The candidate at `k`: the power of two the reference compares with. -/
theorem exp2_cand (k : Fin 252) :
    Ideal.exp2 ((((BitVec.ofNat 32 k.val).toInt : ℝ) : EReal) - Ideal.ofBits .f32 0x42FC0000#32) = pw (k.val + 1) := by
  have hb : Ideal.ofBits .f32 0x42FC0000#32 = ((126 : ℝ) : EReal) := by
    simp [Ideal.ofBits, Ideal.ieee]
    rw [← EReal.coe_mul]; norm_num
  have hi : (BitVec.ofNat 32 k.val).toInt = (k.val : ℤ) := by
    have := k.isLt
    rw [BitVec.toInt_eq_toNat_of_lt (by simp only [BitVec.toNat_ofNat]; omega)]
    simp only [BitVec.toNat_ofNat]; omega
  rw [hb, hi, ← EReal.coe_sub, show (((k.val : ℤ) : ℝ) - 126) = (((k.val : ℤ) - 126 : ℤ) : ℝ) by push_cast; ring, exp2_int]
  unfold pw
  refine congrArg _ (congrArg _ ?_)
  push_cast; ring

theorem cand_succ (k : Fin 252) :
    (((BitVec.ofNat 32 k.val).toInt : ℝ) : EReal) - Ideal.ofBits .f32 0x42FC0000#32 + Ideal.ofBits .f32 0x3F800000#32
      = ((((k.val : ℤ) - 125 : ℤ) : ℝ) : EReal) := by
  have hb : Ideal.ofBits .f32 0x42FC0000#32 = ((126 : ℝ) : EReal) := by
    simp [Ideal.ofBits, Ideal.ieee]
    rw [← EReal.coe_mul]; norm_num
  have hi : (BitVec.ofNat 32 k.val).toInt = (k.val : ℤ) := by
    have := k.isLt
    rw [BitVec.toInt_eq_toNat_of_lt (by simp only [BitVec.toNat_ofNat]; omega)]
    simp only [BitVec.toNat_ofNat]; omega
  rw [hb, hi, Ideal.ofBits_one_f32, ← EReal.coe_sub, ← EReal.coe_one, ← EReal.coe_add]
  refine congrArg _ ?_
  push_cast; ring

theorem ofBits_negInf : Ideal.ofBits .f32 0xFF800000#32 = ⊥ := by
  simp [Ideal.ofBits, Ideal.ieee]

/-- The reference's exponent, as it computes it. -/
def rexp (v : EReal) : EReal :=
  let M := Finset.univ.fold max (Ideal.ofBits .f32 0xFF800000#32) fun k : Fin 252 =>
    Scalar.select (Ideal.cmp .oge v (Ideal.exp2 ((((BitVec.ofNat 32 k.val).toInt : ℝ) : EReal) - Ideal.ofBits .f32 0x42FC0000#32)))
      ((((BitVec.ofNat 32 k.val).toInt : ℝ) : EReal) - Ideal.ofBits .f32 0x42FC0000#32 + Ideal.ofBits .f32 0x3F800000#32)
      (Ideal.ofBits .f32 0xFF800000#32)
  Scalar.select (Ideal.cmp .olt v (Ideal.ofBits .f32 0x00800000#32)) (Ideal.ofBits .f32 0x00000000#32) M

/-- The least normal number is the power of field 1. -/
theorem ofBits_least : Ideal.ofBits .f32 0x00800000#32 = pw 1 := ofBits_shifted 1 (by omega) (by omega)

/-- The field is 0 exactly below the least normal number. -/
theorem lt_least (v : EReal) : v < pw 1 ↔ field v = 0 := by
  constructor
  · intro h
    rcases field_lo v with h' | h'
    · exact h'
    · by_contra h0
      exact absurd (lt_of_le_of_lt h' h) (not_lt.mpr (pw_le (by omega)))
  · intro h
    rcases field_hi v with h' | h'
    · omega
    · rwa [h] at h'

theorem rexp_eq (v : EReal) : rexp v = rexpOf v := by
  have hf := fold_field v (fun k : Fin 252 =>
    Scalar.select (Ideal.cmp .oge v (Ideal.exp2 ((((BitVec.ofNat 32 k.val).toInt : ℝ) : EReal) - Ideal.ofBits .f32 0x42FC0000#32)))
      ((((BitVec.ofNat 32 k.val).toInt : ℝ) : EReal) - Ideal.ofBits .f32 0x42FC0000#32 + Ideal.ofBits .f32 0x3F800000#32)
      (Ideal.ofBits .f32 0xFF800000#32)) (by
    intro k
    simp only [exp2_cand, cand_succ, ofBits_negInf]
    by_cases h : pw (k.val + 1) ≤ v
    · rw [if_pos h]; simp [Scalar.select, Ideal.cmp, h]
    · rw [if_neg h]; simp [Scalar.select, Ideal.cmp, h])
  unfold rexp
  simp only [] at hf ⊢
  rw [ofBits_negInf] at hf ⊢
  rw [hf, ofBits_least]
  by_cases h : field v = 0
  · rw [if_pos h]
    simp [Scalar.select, Ideal.cmp, rexpOf, eb, h, (lt_least v).mpr h, Ideal.ofBits_zero_f32]
  · rw [if_neg h]
    have hn : ¬ v < pw 1 := fun h' => h ((lt_least v).mp h')
    simp only [Ideal.cmp, decide_eq_false hn, Scalar.select, rexpOf, eb, if_neg h]
    rw [if_neg (by decide)]
    refine congrArg _ ?_
    push_cast; ring

end Cert.Quant

end
-- ==== Proof.Rows.lean ====
/-
  One row of the feed-forward network: from a row of the widened activations and a block of the widened weights, the gated
  hidden values, their groups' maxima over 448, the codes and scales of the groups, and the row's part of the down product.
  A row that is not valid has hidden values zero, so codes zero and scales one.
-/
module

public import proofs.«01_k».proof.Proof.Quant

@[expose] public section

noncomputable section

namespace Cert.Rows

open Idealize.ShloMosaic Cert.Quant

/-- Two vectors' inner product. -/
def dot {n : ℕ} (a b : Fin n → EReal) : EReal := ∑ k, a k * b k

/-- A gate value and an up value joined; zero where the row is not valid. -/
def act (ok : BitVec 1) (g u : EReal) : EReal := Scalar.select ok (g * Ideal.logistic g * u) 0

/-- The hidden value at column `j` of a block: gate columns are 0 to 255, up columns 256 to 511. -/
def hid (ok : BitVec 1) (a : Fin 4096 → EReal) (B : Fin 4096 → Fin 512 → EReal) (j : Fin 256) : EReal :=
  act ok (dot a fun k => B k ⟨j.val, by omega⟩) (dot a fun k => B k ⟨256 + j.val, by omega⟩)

/-- The largest magnitude of a group of 128, over 448. -/
def peak (h : Fin 128 → EReal) : EReal :=
  Finset.univ.fold max (Ideal.ofBits .f32 0xFF800000#32) (fun l => FloatOps.absf (F := Ideal) (φ := .f32) (h l))
    * Ideal.ofBits .f32 0x3B124925#32

/-- Clipped to the range of the eight-bit format. -/
def clip (x : EReal) : EReal := min (Ideal.ofBits .f32 0x43E00000#32) (max (Ideal.ofBits .f32 0xC3E00000#32) x)

/-- The maximum of group `t` of a block's two. -/
def grp (ok : BitVec 1) (a : Fin 4096 → EReal) (B : Fin 4096 → Fin 512 → EReal) (t : Fin 2) : EReal :=
  peak fun l => hid ok a B ⟨128 * t.val + l.val, by omega⟩

/-- The group of a column. -/
def grpOf (j : Fin 256) : Fin 2 := ⟨j.val / 128, by omega⟩

/-- The code at column `j`. -/
def cod (ok : BitVec 1) (a : Fin 4096 → EReal) (B : Fin 4096 → Fin 512 → EReal) (j : Fin 256) : EReal :=
  clip (hid ok a B j * invOf (grp ok a B (grpOf j)))

/-- The scale of group `t`. -/
def scl (ok : BitVec 1) (a : Fin 4096 → EReal) (B : Fin 4096 → Fin 512 → EReal) (t : Fin 2) : EReal := scaleOf (grp ok a B t)

/-- The code at column `j` widened by its scale. -/
def deq (ok : BitVec 1) (a : Fin 4096 → EReal) (B : Fin 4096 → Fin 512 → EReal) (j : Fin 256) : EReal :=
  cod ok a B j * scl ok a B (grpOf j)

/-- The row's part of the down product over a block, at column `c`. -/
def part (ok : BitVec 1) (a : Fin 4096 → EReal) (B : Fin 4096 → Fin 512 → EReal) (W : Fin 256 → Fin 4096 → EReal) (c : Fin 4096) : EReal :=
  ∑ j, deq ok a B j * W j c

/-! ### Rows that are not valid -/

theorem hid_zero (a : Fin 4096 → EReal) (B : Fin 4096 → Fin 512 → EReal) (j : Fin 256) : hid 0#1 a B j = 0 := by
  simp [hid, act, Scalar.select]

theorem peak_zero : peak (fun _ => 0) = 0 := by
  have h0 : FloatOps.absf (F := Ideal) (φ := .f32) (0 : EReal) = 0 := by
    show max (0 : EReal) (-0) = 0
    simp
  have hf : Finset.univ.fold max (Ideal.ofBits .f32 0xFF800000#32) (fun _ : Fin 128 => (0 : EReal)) = 0 := by
    apply le_antisymm
    · refine (Finset.fold_max_le _).mpr ⟨?_, fun _ _ => le_refl _⟩
      rw [ofBits_negInf]; exact bot_le
    · exact (Finset.le_fold_max _).mpr (.inr ⟨0, Finset.mem_univ _, le_refl _⟩)
  unfold peak
  simp only [h0]
  rw [hf, zero_mul]

theorem pw_pos (n : ℕ) : 0 < pw n := by
  unfold pw
  exact EReal.coe_pos.mpr (zpow_pos (by norm_num) _)

theorem scale_zero : scaleOf 0 = 1 := by
  have h : field 0 = 0 := by
    rcases field_lo 0 with h | h
    · exact h
    · exact absurd h (not_le.mpr (pw_pos _))
  unfold scaleOf eb
  rw [if_pos h, pw_one27]

theorem clip_zero : clip 0 = 0 := by
  have h1 : Ideal.ofBits .f32 0x43E00000#32 = ((448 : ℝ) : EReal) := by
    simp [Ideal.ofBits, Ideal.ieee]
    rw [← EReal.coe_mul]; norm_num
  have h2 : Ideal.ofBits .f32 0xC3E00000#32 = ((-448 : ℝ) : EReal) := by
    simp [Ideal.ofBits, Ideal.ieee]
    rw [← EReal.coe_mul]; norm_num
  unfold clip
  rw [h1, h2, max_eq_right (by exact_mod_cast (by norm_num : (-448 : ℝ) ≤ 0)),
    min_eq_right (by exact_mod_cast (by norm_num : (0 : ℝ) ≤ 448))]

theorem grp_zero (a : Fin 4096 → EReal) (B : Fin 4096 → Fin 512 → EReal) (t : Fin 2) : grp 0#1 a B t = 0 := by
  unfold grp; simp only [hid_zero]; exact peak_zero

theorem cod_zero (a : Fin 4096 → EReal) (B : Fin 4096 → Fin 512 → EReal) (j : Fin 256) : cod 0#1 a B j = 0 := by
  unfold cod; rw [hid_zero, zero_mul, clip_zero]

theorem scl_zero (a : Fin 4096 → EReal) (B : Fin 4096 → Fin 512 → EReal) (t : Fin 2) : scl 0#1 a B t = 1 := by
  unfold scl; rw [grp_zero, scale_zero]

theorem part_zero (a : Fin 4096 → EReal) (B : Fin 4096 → Fin 512 → EReal) (W : Fin 256 → Fin 4096 → EReal) (c : Fin 4096) :
    part 0#1 a B W c = 0 := by
  unfold part deq
  simp only [cod_zero, zero_mul, Finset.sum_const_zero]

end Cert.Rows

end
-- ==== Proof.Spec.lean ====
/-
  What the three results are, index by index, of the nine arguments: the rows of Proof/Rows.lean over the widened
  activations and weights. A row of an expert is valid where it is below the expert's count and in one of the whole blocks
  of 256 rows that the count makes (the second follows from the first but for counts within 255 of the largest word).
-/
module

public import proofs.«01_k».proof.Proof.Rows
public import proofs.«01_k».proof.Proof.Words

@[expose] public section

noncomputable section

namespace Cert.Spec

open Idealize.ShloMosaic Cert.Quant Cert.Rows

/-- An array of extended reals of rank 3. -/
abbrev Arr (a b c : ℕ) := (⟨3, ![a, b, c]⟩ : Shape).Idx → EReal

/-- The number of blocks of 256 rows for a count. -/
def nblocks (v : BitVec 32) : ℕ := (Words.blocks v).toInt.toNat

/-- Row `R` is below the count. -/
def below (v : BitVec 32) (R : ℕ) : BitVec 1 := IntOp.cmpi .slt (BitVec.ofNat 32 R) v

/-- Row `R` is valid. -/
def okw (v : BitVec 32) (R : ℕ) : BitVec 1 := if R < 256 * nblocks v then below v R else 0#1

/-- Row `R` of expert `e`, its activations widened by their groups' scales. -/
def xrow (x : Arr 7 732 4096) (xs : Arr 7 732 32) (e : Fin 7) (R : Fin 732) (k : Fin 4096) : EReal :=
  x (ix3 e R k) * xs (ix3 e R ⟨k.val / 128, by omega⟩)

/-- Columns `256 f` to `256 f + 255` of a weight matrix, widened by its blocks' scales. -/
def wcol (w : Arr 7 4096 12288) (s : Arr 7 32 96) (e : Fin 7) (f : Fin 48) (k : Fin 4096) (j : Fin 256) : EReal :=
  w (ix3 e k ⟨256 * f.val + j.val, by omega⟩) * s (ix3 e ⟨k.val / 128, by omega⟩ ⟨2 * f.val + j.val / 128, by omega⟩)

/-- Those columns of the gate matrix, then those of the up matrix. -/
def wboth (wg : Arr 7 4096 12288) (sg : Arr 7 32 96) (wu : Arr 7 4096 12288) (su : Arr 7 32 96) (e : Fin 7) (f : Fin 48)
    (k : Fin 4096) (J : Fin 512) : EReal :=
  if h : J.val < 256 then wcol wg sg e f k ⟨J.val, h⟩ else wcol wu su e f k ⟨J.val - 256, by omega⟩

/-- Rows `256 f` to `256 f + 255` of the down matrix, widened by its blocks' scales. -/
def drow (w : Arr 7 12288 4096) (s : Arr 7 96 32) (e : Fin 7) (f : Fin 48) (j : Fin 256) (c : Fin 4096) : EReal :=
  w (ix3 e ⟨256 * f.val + j.val, by omega⟩ c) * s (ix3 e ⟨2 * f.val + j.val / 128, by omega⟩ ⟨c.val / 128, by omega⟩)

section

variable (x : Arr 7 732 4096) (xs : Arr 7 732 32) (cnt : (⟨1, ![7]⟩ : Shape).Idx → BitVec 32) (wg : Arr 7 4096 12288)
  (sg : Arr 7 32 96) (wu : Arr 7 4096 12288) (su : Arr 7 32 96) (wd : Arr 7 12288 4096) (sd : Arr 7 96 32)

/-- The code at hidden column `256 f + j`. -/
def code (e : Fin 7) (R : Fin 732) (f : Fin 48) (j : Fin 256) : EReal :=
  cod (okw (cnt (ix1 e)) R.val) (xrow x xs e R) (wboth wg sg wu su e f) j

/-- The scale of group `2 f + t`. -/
def scale (e : Fin 7) (R : Fin 732) (f : Fin 48) (t : Fin 2) : EReal :=
  scl (okw (cnt (ix1 e)) R.val) (xrow x xs e R) (wboth wg sg wu su e f) t

/-- The part of the result that the hidden columns `256 f` to `256 f + 255` make. -/
def ypart (e : Fin 7) (R : Fin 732) (f : Fin 48) (c : Fin 4096) : EReal :=
  part (okw (cnt (ix1 e)) R.val) (xrow x xs e R) (wboth wg sg wu su e f) (drow wd sd e f) c

/-- The first result: the down product. -/
def Y : Arr 7 732 4096 := fun i => ∑ f : Fin 48, ypart x xs cnt wg sg wu su wd sd (i 0) (i 1) f (i 2)

/-- The second result: the codes. -/
def HC : Arr 7 732 12288 := fun i =>
  code x xs cnt wg sg wu su (i 0) (i 1) ⟨(i 2).val / 256, by have : (i 2).val < 12288 := (i 2).isLt; omega⟩
    ⟨(i 2).val % 256, Nat.mod_lt _ (by omega)⟩

/-- The third result: the scales. -/
def HS : Arr 7 732 96 := fun i =>
  scale x xs cnt wg sg wu su (i 0) (i 1) ⟨(i 2).val / 2, by have : (i 2).val < 96 := (i 2).isLt; omega⟩
    ⟨(i 2).val % 2, Nat.mod_lt _ (by omega)⟩

end

end Cert.Spec

end
-- ==== Proof.PayRow.lean ====
/-
  The kernel's block step, payloads read at an index, as the row functions of Proof/Rows.lean.
-/
module

public import proofs.«01_k».proof.Proof.Spec
public import proofs.«01_k».proof.Proof.Gen.KernelIdeal.Skeleton
public import Idealize.ShloMosaic.Lib.Pointwise
public import Idealize.ShloMosaic.Lib.WordCmp

@[expose] public section

noncomputable section

namespace Cert.KernelIdeal.Hand

open Cert.KernelIdeal Cert.KernelIdeal.Gen Cert.Quant Cert.Rows Cert.Spec
open Idealize.ShloMosaic

set_option maxRecDepth 16384

/-- The ideal logistic. -/
theorem flogistic {φ : FTy} (x : Ideal φ) : FloatOps.logistic (F := Ideal) x = Ideal.logistic x := rfl

/-- The row's word, as the kernel computes it. -/
theorem row_word (k : ℕ) (hk : k < 2 ^ 23) (r : Fin 256) (v1 : BitVec 32) :
    IntOp.cmpi .slt (IntOp.addi (Scalar.minsi (Scalar.muli (Scf.iv 0#32 1#32 k) 256#32) 480#32) (BitVec.ofNat 32 r.val)) v1
      = below v1 (min (256 * k) 480 + r.val) := by
  unfold below
  congr 1
  apply BitVec.eq_of_toNat_eq
  show (Scalar.minsi (Scalar.muli (Scf.iv 0#32 1#32 k) 256#32) 480#32 + BitVec.ofNat 32 r.val).toNat = _
  rw [BitVec.toNat_add, Words.start_toNat k hk, BitVec.toNat_ofNat, BitVec.toNat_ofNat]
  omega

variable (v1 : BitVec 32) (k : Fin (k0_t4_loop v1).trips) (A : Vec Ideal S256x4096 .bf16) (B : Vec Ideal S4096x512 .bf16) (r : Fin 256)

/-- The row's validity. -/
abbrev okk : BitVec 1 := below v1 (min (256 * k.val) 480 + r.val)

/-- Row `r` of the block's left operand. -/
abbrev rowA : Fin 4096 → EReal := fun x => A (ix2 r x)

/-- The block's right operand by row and column. -/
abbrev matB : Fin 4096 → Fin 512 → EReal := fun x J => B (ix2 x J)

/-- The first group's hidden values. -/
theorem hid0 (hk : k.val < 2 ^ 23) (j : Fin 128) :
    k0_pay22 (F := Ideal) v1 0#32 1#32 k A B (ix2 r j) = hid (okk v1 k r) (rowA A r) (matB B) ⟨128 * (0 : Fin 2).val + j.val, by have := j.isLt; show 128 * 0 + j.val < 256; omega⟩ := by
  pointwise [k0_pay22, k0_pay20, k0_pay19]
  rw [row_word k.val hk r v1]
  unfold hid act dot
  simp only [Fin.val_zero, Nat.mul_zero, Nat.zero_add]

/-- The second group's hidden values. -/
theorem hid1 (hk : k.val < 2 ^ 23) (j : Fin 128) :
    k0_pay34 (F := Ideal) v1 (k0_pay19 A B) (k0_pay20 (F := Ideal) v1 0#32 1#32 k) (ix2 r j) = hid (okk v1 k r) (rowA A r) (matB B) ⟨128 * (1 : Fin 2).val + j.val, by have := j.isLt; show 128 * 1 + j.val < 256; omega⟩ := by
  pointwise [k0_pay34, k0_pay20, k0_pay19]
  rw [row_word k.val hk r v1]
  unfold hid act dot
  have h : ∀ x : Fin 4096, B (ix2 x ⟨384 + j.val, by omega⟩) = matB B x ⟨256 + (128 * (1 : Fin 2).val + j.val), by show 256 + (128 * 1 + j.val) < 512; omega⟩ := by
    intro x; unfold matB; congr 2; apply Fin.ext; show 384 + j.val = 256 + (128 * 1 + j.val); omega
  show Scalar.select _ _ _ = Scalar.select _ ((∑ x, A (ix2 r x) * B (ix2 x ⟨128 + j.val, _⟩)) * Ideal.logistic (∑ x, A (ix2 r x) * B (ix2 x ⟨128 + j.val, _⟩)) *
      ∑ x, A (ix2 r x) * matB B x ⟨256 + (128 * (1 : Fin 2).val + j.val), _⟩) 0
  rw [Finset.sum_congr rfl fun x _ => congrArg (A (ix2 r x) * ·) (h x).symm]

/-- The first group's maximum. -/
theorem grp0 (hk : k.val < 2 ^ 23) :
    k0_pay23 (F := Ideal) v1 0#32 1#32 k A B (ix2 r 0) = grp (okk v1 k r) (rowA A r) (matB B) 0 := by
  pointwise [k0_pay23]
  unfold grp peak
  congr 1
  refine congrArg (fun h => Finset.univ.fold max _ h) ?_
  funext x
  rw [hid0 v1 k A B r hk x]

/-- A block's maximum over 448. -/
theorem peak1 (H : FVec Ideal S256x128 .f32) : k0_pay35 (F := Ideal) H (ix2 r 0) = peak fun x => H (ix2 r x) := by
  pointwise [k0_pay35]; rfl

/-- The second group's maximum. -/
theorem grp1 (hk : k.val < 2 ^ 23) :
    k0_pay35 (F := Ideal) (k0_pay34 v1 (k0_pay19 A B) (k0_pay20 (F := Ideal) v1 0#32 1#32 k)) (ix2 r 0) = grp (okk v1 k r) (rowA A r) (matB B) 1 := by
  rw [peak1]
  unfold grp
  exact congrArg peak (funext fun x => hid1 v1 k A B r hk x)

/-- The exponent search of the first group. -/
theorem search0 : k0_pay25 (F := Ideal) (k0_pay23 v1 0#32 1#32 k A B) (k0_pay24 v1 0#32 1#32 k A B) (ix2 r 0)
    = kfield (k0_pay23 (F := Ideal) v1 0#32 1#32 k A B (ix2 r 0)) := by rfl

/-- The exponent search of the second group. -/
theorem search1 (H : FVec Ideal S256x128 .f32) :
    k0_pay39 (F := Ideal) (k0_pay35 H) (k0_pay36 H) (k0_pay37 H) (k0_pay38 H) (ix2 r 0) = keb (kfield (k0_pay35 (F := Ideal) H (ix2 r 0))) := by rfl

/-- The first group's exponent. -/
theorem exp0 (p : FVec Ideal S256x1 .f32) (q : IVec S256x1 32) :
    k0_pay28 (k0_pay26 (F := Ideal) p q) (k0_pay27 (F := Ideal) p q) (ix2 r 0) = keb (k0_pay25 (F := Ideal) p q (ix2 r 0)) := by rfl

/-- The first group's scale. -/
theorem scl0 (hk : k.val < 2 ^ 23) :
    k0_pay29 (F := Ideal) (k0_pay26 (F := Ideal) (k0_pay23 v1 0#32 1#32 k A B) (k0_pay24 v1 0#32 1#32 k A B))
        (k0_pay27 (F := Ideal) (k0_pay23 v1 0#32 1#32 k A B) (k0_pay24 v1 0#32 1#32 k A B)) (ix2 r 0)
      = scl (okk v1 k r) (rowA A r) (matB B) 0 := by
  have h : ∀ c d, k0_pay29 (F := Ideal) c d (ix2 r 0) = FloatOps.ofBits (F := Ideal) .f32 (IntOp.shli .vector (k0_pay28 c d (ix2 r 0)) 23#32) := by
    intro c d; rfl
  rw [h, exp0, search0, kscale_eq, grp0 v1 k A B r hk]
  rfl

/-- The second group's scale. -/
theorem scl1 (hk : k.val < 2 ^ 23) (H : FVec Ideal S256x128 .f32) (hH : H = k0_pay34 v1 (k0_pay19 A B) (k0_pay20 (F := Ideal) v1 0#32 1#32 k)) :
    k0_pay40 (F := Ideal) (k0_pay35 H) (k0_pay36 H) (k0_pay37 H) (k0_pay38 H) (ix2 r 0) = scl (okk v1 k r) (rowA A r) (matB B) 1 := by
  have h : ∀ a b c d, k0_pay40 (F := Ideal) a b c d (ix2 r 0) = FloatOps.ofBits (F := Ideal) .f32 (IntOp.shli .vector (k0_pay39 (F := Ideal) a b c d (ix2 r 0)) 23#32) := by
    intro a b c d; rfl
  rw [h, search1, kscale_eq, hH, grp1 v1 k A B r hk]
  rfl

/-- A hidden value divided by its scale and clipped. -/
theorem clip0 (H : FVec Ideal S256x128 .f32) (c : IVec S256x1 1) (d : IVec S256x1 32) (j : Fin 128) :
    k0_pay30 (F := Ideal) H c d (ix2 r j)
      = clip (H (ix2 r j) * FloatOps.ofBits (F := Ideal) .f32 (IntOp.shli .vector (IntOp.subi 254#32 (k0_pay28 c d (ix2 r 0))) 23#32)) := by
  pointwise [k0_pay30]; rfl

theorem clip1 (H : FVec Ideal S256x128 .f32) (a : FVec Ideal S256x1 .f32) (b c d : IVec S256x1 32) (j : Fin 128) :
    k0_pay41 (F := Ideal) H a b c d (ix2 r j)
      = clip (H (ix2 r j) * FloatOps.ofBits (F := Ideal) .f32 (IntOp.shli .vector (IntOp.subi 254#32 (k0_pay39 (F := Ideal) a b c d (ix2 r 0))) 23#32)) := by
  generalize hm : k0_pay39 (F := Ideal) a b c d = m
  have hu : k0_pay41 (F := Ideal) H a b c d = k0_pay41 (F := Ideal) H a b c d := rfl
  unfold k0_pay41 at hu ⊢
  rw [hm]
  pointwise []; rfl

theorem grpOf0 (j : Fin 128) (h) : grpOf ⟨128 * (0 : Fin 2).val + j.val, h⟩ = 0 := by
  apply Fin.ext; show (128 * 0 + j.val) / 128 = 0; omega

theorem grpOf1 (j : Fin 128) (h) : grpOf ⟨128 * (1 : Fin 2).val + j.val, h⟩ = 1 := by
  apply Fin.ext; show (128 * 1 + j.val) / 128 = 1; omega

/-- The first group's codes. -/
theorem cod0 (hk : k.val < 2 ^ 23) (j : Fin 128) (h) :
    k0_pay30 (F := Ideal) (k0_pay22 v1 0#32 1#32 k A B) (k0_pay26 (F := Ideal) (k0_pay23 v1 0#32 1#32 k A B) (k0_pay24 v1 0#32 1#32 k A B))
        (k0_pay27 (F := Ideal) (k0_pay23 v1 0#32 1#32 k A B) (k0_pay24 v1 0#32 1#32 k A B)) (ix2 r j)
      = cod (okk v1 k r) (rowA A r) (matB B) ⟨128 * (0 : Fin 2).val + j.val, h⟩ := by
  rw [clip0, exp0, search0, kinv_eq, grp0 v1 k A B r hk, hid0 v1 k A B r hk]
  unfold cod
  rw [grpOf0]

/-- The second group's codes. -/
theorem cod1 (hk : k.val < 2 ^ 23) (H : FVec Ideal S256x128 .f32) (hH : H = k0_pay34 v1 (k0_pay19 A B) (k0_pay20 (F := Ideal) v1 0#32 1#32 k)) (j : Fin 128) (h) :
    k0_pay41 (F := Ideal) H (k0_pay35 H) (k0_pay36 H) (k0_pay37 H) (k0_pay38 H) (ix2 r j)
      = cod (okk v1 k r) (rowA A r) (matB B) ⟨128 * (1 : Fin 2).val + j.val, h⟩ := by
  rw [clip1, search1, kinv_eq, hH, grp1 v1 k A B r hk, hid1 v1 k A B r hk]
  unfold cod
  rw [grpOf1]

/-- Codes with a leading axis of one. -/
theorem p31 (H : FVec Ideal S256x128 .f32) (c : IVec S256x1 1) (d : IVec S256x1 32) (j : Fin 128) :
    k0_pay31 (F := Ideal) H c d (ix3 0 r j) = k0_pay30 (F := Ideal) H c d (ix2 r j) := by
  unfold k0_pay31; generalize k0_pay30 (F := Ideal) H c d = X; pointwise []

theorem p42 (H : FVec Ideal S256x128 .f32) (a : FVec Ideal S256x1 .f32) (b c d : IVec S256x1 32) (j : Fin 128) :
    k0_pay42 (F := Ideal) H a b c d (ix3 0 r j) = k0_pay41 (F := Ideal) H a b c d (ix2 r j) := by
  unfold k0_pay42; generalize k0_pay41 (F := Ideal) H a b c d = X; pointwise []

/-- Codes widened by their scale. -/
theorem p33 (H : FVec Ideal S256x128 .f32) (c : IVec S256x1 1) (d : IVec S256x1 32) (j : Fin 128) :
    k0_pay33 (F := Ideal) H c d (ix2 r j) = k0_pay30 (F := Ideal) H c d (ix2 r j) * k0_pay29 (F := Ideal) c d (ix2 r 0) := by
  unfold k0_pay33; generalize k0_pay30 (F := Ideal) H c d = X; generalize k0_pay29 (F := Ideal) c d = Y; pointwise []

theorem p43 (S : FVec Ideal S256x1 .f32) (X : FVec Ideal S256x128 .fp8e4m3) (j : Fin 128) :
    k0_pay43 (F := Ideal) S X (ix2 r j) = X (ix2 r j) * S (ix2 r 0) := by
  pointwise [k0_pay43]

/-- The column numbers of the scales' block. -/
abbrev lanes : IVec S256x96 32 := iota .tc S256x96 32 [1] iota_S256x96_d1_w32

/-- The scales' block: two columns replaced. -/
theorem p44 (f : Fin 48) (V : Vec Ideal S1x256x96 .f32) (c : IVec S256x1 1) (d : IVec S256x1 32) (S : FVec Ideal S256x1 .f32) (g : Fin 96) :
    k0_pay44 (F := Ideal) lanes (k0_pay32 (BitVec.ofNat 32 f.val) lanes (k0_pay21 V) c d) S (Scalar.muli (BitVec.ofNat 32 f.val) 2#32) 1#32 (ix3 0 r g)
      = if g.val = 2 * f.val + 1 then S (ix2 r 0) else if g.val = 2 * f.val then k0_pay29 (F := Ideal) c d (ix2 r 0) else V (ix3 0 r g) := by
  unfold k0_pay32; generalize k0_pay29 (F := Ideal) c d = Y
  pointwise [k0_pay44, k0_pay21]
  have e1 : Scalar.addi (Scalar.muli (BitVec.ofNat 32 f.val) 2#32) 1#32 = BitVec.ofNat 32 (2 * f.val + 1) := by
    apply BitVec.eq_of_toNat_eq
    show (BitVec.ofNat 32 f.val * 2#32 + 1#32).toNat = _
    rw [BitVec.toNat_add, BitVec.toNat_mul, BitVec.toNat_ofNat, BitVec.toNat_ofNat, BitVec.toNat_ofNat, BitVec.toNat_ofNat]; omega
  have e0 : Scalar.addi (Scalar.muli (BitVec.ofNat 32 f.val) 2#32) 0#32 = BitVec.ofNat 32 (2 * f.val) := by
    apply BitVec.eq_of_toNat_eq
    show (BitVec.ofNat 32 f.val * 2#32 + 0#32).toNat = _
    rw [BitVec.toNat_add, BitVec.toNat_mul, BitVec.toNat_ofNat, BitVec.toNat_ofNat, BitVec.toNat_ofNat, BitVec.toNat_ofNat]; omega
  have hc : ∀ n : ℕ, n < 2 ^ 32 → IntOp.cmpi .eq (BitVec.ofNat 32 g.val) (BitVec.ofNat 32 n) = if g.val = n then 1#1 else 0#1 := by
    intro n hn
    by_cases h : g.val = n
    · rw [if_pos h, h]; simp [IntOp.cmpi]
    · rw [if_neg h]
      have hne : BitVec.ofNat 32 g.val ≠ BitVec.ofNat 32 n := by
        intro he
        have := congrArg BitVec.toNat he
        rw [BitVec.toNat_ofNat, BitVec.toNat_ofNat] at this
        omega
      show BitVec.ofBool (BitVec.ofNat 32 g.val == BitVec.ofNat 32 n) = 0#1
      rw [beq_eq_false_iff_ne.mpr hne]; rfl
  show Scalar.select (IntOp.cmpi .eq (BitVec.ofNat 32 g.val) (Scalar.addi (Scalar.muli (BitVec.ofNat 32 f.val) 2#32) 1#32)) (S (ix2 r 0))
    (Scalar.select (IntOp.cmpi .eq (BitVec.ofNat 32 g.val) (Scalar.addi (Scalar.muli (BitVec.ofNat 32 f.val) 2#32) 0#32)) (Y (ix2 r 0)) (V (ix3 0 r g))) = _
  rw [e1, e0, hc _ (by omega), hc _ (by omega)]
  by_cases h1 : g.val = 2 * f.val + 1
  · rw [if_pos h1, if_pos h1]; rfl
  · rw [if_neg h1, if_neg h1]
    by_cases h0 : g.val = 2 * f.val
    · rw [if_pos h0, if_pos h0]; rfl
    · rw [if_neg h0, if_neg h0]; rfl

/-- Which rows of the block are its own, not an earlier block's. -/
theorem p45 (k : ℕ) (hk : k < 2 ^ 23) :
    k0_pay45 (Scf.iv 0#32 1#32 k) (Scalar.minsi (Scalar.muli (Scf.iv 0#32 1#32 k) 256#32) 480#32) (ix2 r 0)
      = if 256 * k ≤ min (256 * k) 480 + r.val then 1#1 else 0#1 := by
  pointwise [k0_pay45]
  obtain ⟨hm, hm'⟩ := (⟨Words.start_isInt k hk, Words.start_toNat k hk⟩ : _ ∧ _)
  have hr : (IntOp.addi (BitVec.ofNat 32 r.val) (Scalar.minsi (Scalar.muli (Scf.iv 0#32 1#32 k) 256#32) 480#32)).toInt = (min (256 * k) 480 + r.val : ℕ) := by
    have : (IntOp.addi (BitVec.ofNat 32 r.val) (Scalar.minsi (Scalar.muli (Scf.iv 0#32 1#32 k) 256#32) 480#32)).toNat = min (256 * k) 480 + r.val := by
      show (BitVec.ofNat 32 r.val + Scalar.minsi (Scalar.muli (Scf.iv 0#32 1#32 k) 256#32) 480#32).toNat = _
      rw [BitVec.toNat_add, hm', BitVec.toNat_ofNat]; omega
    rw [BitVec.toInt_eq_toNat_of_lt] <;> rw [this]; omega
  have h256 : (Scalar.muli (Scf.iv 0#32 1#32 k) 256#32).toInt = ((256 * k : ℕ) : ℤ) := by
    have h1 : Affine.IsInt (Scf.iv 0#32 1#32 k) (k : ℤ) :=
      Affine.iv (Affine.ofNat 0 ⟨rfl, by decide⟩) (Affine.ofNat 1 ⟨rfl, by decide⟩) k (by omega)
    have := Affine.muli h1 (Affine.ofNat 256 ⟨rfl, by decide⟩) (e := 256 * (k : ℤ)) (by omega)
    have h2 : (Scalar.muli (Scf.iv 0#32 1#32 k) 256#32).toInt = 256 * (k : ℤ) := by unfold Affine.IsInt at this; exact this
    rw [h2]; push_cast; rfl
  have hge : ∀ x y : BitVec 32, IntOp.cmpi .sge x y = BitVec.ofBool (decide (y.toInt ≤ x.toInt)) := by
    intro x y; rfl
  rw [hge, hr, h256]
  by_cases h : 256 * k ≤ min (256 * k) 480 + r.val
  · rw [if_pos h, decide_eq_true (by omega)]; rfl
  · rw [if_neg h, decide_eq_false (by omega)]; rfl

end Cert.KernelIdeal.Hand
-- ==== Proof.PayAcc.lean ====
/-
  The kernel's down products added into the accumulator, read at an index.
-/
module

public import proofs.«01_k».proof.Proof.Spec
public import proofs.«01_k».proof.Proof.Gen.KernelIdeal.Skeleton
public import Idealize.ShloMosaic.Lib.Pointwise
public import Idealize.ShloMosaic.Lib.WordCmp

@[expose] public section

noncomputable section

namespace Cert.KernelIdeal.Hand

open Cert.KernelIdeal Cert.KernelIdeal.Gen Cert.Quant Cert.Rows Cert.Spec
open Idealize.ShloMosaic

set_option maxRecDepth 16384

/-- A block's product added to the old value where the row's word is one. -/
def upd (sel : IVec S256x1 1) (D W : Vec Ideal S256x256 .bf16) (old : Vec Ideal S256x256 .f32) (r j : Fin 256) : EReal :=
  old (ix2 r j) + Scalar.select (sel (ix2 r 0)) (∑ x, D (ix2 r x) * W (ix2 x j)) 0

variable (sel : IVec S256x1 1) (D W : Vec Ideal S256x256 .bf16) (old : Vec Ideal S256x256 .f32) (r j : Fin 256)

theorem p46 (a b : BitVec 32) : k0_pay46 (F := Ideal) a b D W old (ix2 r j) = upd (k0_pay45 a b) D W old r j := by
  pointwise [k0_pay46]; rfl

theorem p47 : k0_pay47 (F := Ideal) sel D W old (ix2 r j) = upd sel D W old r j := by
  pointwise [k0_pay47]; rfl

theorem p48 : k0_pay48 (F := Ideal) sel D W old (ix2 r j) = upd sel D W old r j := by
  pointwise [k0_pay48]; rfl

theorem p51 : k0_pay51 (F := Ideal) sel D W old (ix2 r j) = upd sel D W old r j := by
  pointwise [k0_pay51]; rfl

theorem p52 : k0_pay52 (F := Ideal) sel D W old (ix2 r j) = upd sel D W old r j := by
  pointwise [k0_pay52]; rfl

theorem p55 : k0_pay55 (F := Ideal) sel D W old (ix2 r j) = upd sel D W old r j := by
  pointwise [k0_pay55]; rfl

theorem p56 : k0_pay56 (F := Ideal) sel D W old (ix2 r j) = upd sel D W old r j := by
  pointwise [k0_pay56]; rfl

theorem p57 : k0_pay57 (F := Ideal) sel D W old (ix2 r j) = upd sel D W old r j := by
  pointwise [k0_pay57]; rfl

theorem p58 : k0_pay58 (F := Ideal) sel D W old (ix2 r j) = upd sel D W old r j := by
  pointwise [k0_pay58]; rfl

theorem p61 : k0_pay61 (F := Ideal) sel D W old (ix2 r j) = upd sel D W old r j := by
  pointwise [k0_pay61]; rfl

theorem p62 : k0_pay62 (F := Ideal) sel D W old (ix2 r j) = upd sel D W old r j := by
  pointwise [k0_pay62]; rfl

theorem p10 : k0_pay10 (F := Ideal) sel D W old (ix2 r j) = upd sel D W old r j := by
  pointwise [k0_pay10]; rfl

theorem p50 : k0_pay50 (F := Ideal) (k0_pay49 sel D W old) (ix2 r j) = upd sel D W old r j := by
  pointwise [k0_pay50, k0_pay49]; rfl

theorem p54 : k0_pay54 (F := Ideal) sel (k0_pay53 D W) old (ix2 r j) = upd sel D W old r j := by
  pointwise [k0_pay54, k0_pay53]; rfl

theorem p60 : k0_pay60 (F := Ideal) old (k0_pay59 sel D W) (ix2 r j) = upd sel D W old r j := by
  pointwise [k0_pay60, k0_pay59]; rfl

theorem p9 : k0_pay9 (F := Ideal) sel D W (constant S256x256 FTy.f32 0#32) old (ix2 r j) = upd sel D W old r j := by
  pointwise [k0_pay9]; rfl

end Cert.KernelIdeal.Hand
-- ==== Proof.PayOut.lean ====
/-
  The kernel's first result and its widened operands, payloads read at an index.
-/
module

public import proofs.«01_k».proof.Proof.Spec
public import proofs.«01_k».proof.Proof.Gen.KernelIdeal.Skeleton
public import Idealize.ShloMosaic.Lib.Pointwise
public import Idealize.ShloMosaic.Lib.WordCmp

@[expose] public section

noncomputable section

namespace Cert.KernelIdeal.Hand

open Cert.KernelIdeal Cert.KernelIdeal.Gen Cert.Quant Cert.Rows Cert.Spec
open Idealize.ShloMosaic

set_option maxRecDepth 16384

variable (v1 : BitVec 32) (acc : Vec Ideal S736x256 .f32) (r : Fin 736) (j : Fin 256)

/-- The accumulator where the row is below the count. -/
def masked : EReal := Scalar.select (below v1 r.val) (acc (ix2 r j)) 0

/-- The row numbers. -/
abbrev rows : IVec S736x1 32 := iota .tc S736x1 32 [0] iota_S736x1_d0_w32

theorem p107 : k0_pay107 (F := Ideal) v1 acc (ix3 0 r j) = masked v1 acc r j := by
  pointwise [k0_pay107]; rfl

theorem p108 : k0_pay108 (F := Ideal) v1 acc (ix3 0 r j) = masked v1 acc r j := by
  pointwise [k0_pay108]; rfl

theorem p109 : k0_pay109 (F := Ideal) v1 acc (ix3 0 r j) = masked v1 acc r j := by
  pointwise [k0_pay109]; rfl

theorem p112 : k0_pay112 (F := Ideal) v1 rows acc (ix3 0 r j) = masked v1 acc r j := by
  pointwise [k0_pay112]; rfl

theorem p113 : k0_pay113 (F := Ideal) v1 rows acc (ix3 0 r j) = masked v1 acc r j := by
  pointwise [k0_pay113]; rfl

theorem p116 : k0_pay116 (F := Ideal) v1 rows acc (ix3 0 r j) = masked v1 acc r j := by
  pointwise [k0_pay116]; rfl

theorem p117 : k0_pay117 (F := Ideal) v1 rows acc (ix3 0 r j) = masked v1 acc r j := by
  pointwise [k0_pay117]; rfl

theorem p118 : k0_pay118 (F := Ideal) v1 rows acc (ix3 0 r j) = masked v1 acc r j := by
  pointwise [k0_pay118]; rfl

theorem p119 : k0_pay119 (F := Ideal) v1 rows acc (ix3 0 r j) = masked v1 acc r j := by
  pointwise [k0_pay119]; rfl

theorem p120 : k0_pay120 (F := Ideal) v1 rows acc (ix3 0 r j) = masked v1 acc r j := by
  pointwise [k0_pay120]; rfl

theorem p121 : k0_pay121 (F := Ideal) v1 rows acc (ix3 0 r j) = masked v1 acc r j := by
  pointwise [k0_pay121]; rfl

theorem p14 : k0_pay14 (F := Ideal) v1 rows acc (ix3 0 r j) = masked v1 acc r j := by
  pointwise [k0_pay14]; rfl

theorem p15 : k0_pay15 (F := Ideal) v1 rows acc (ix3 0 r j) = masked v1 acc r j := by
  pointwise [k0_pay15]; rfl

theorem p111 : k0_pay111 (F := Ideal) acc (k0_pay110 (F := Ideal) v1) (ix3 0 r j) = masked v1 acc r j := by
  pointwise [k0_pay111, k0_pay110]; rfl

theorem p115 : k0_pay115 (F := Ideal) (k0_pay114 v1 rows acc) (ix3 0 r j) = masked v1 acc r j := by
  pointwise [k0_pay115, k0_pay114]; rfl

theorem p13 : k0_pay13 (F := Ideal) acc (k0_pay122 (F := Ideal) v1 rows) (ix3 0 r j) = masked v1 acc r j := by
  pointwise [k0_pay13, k0_pay122]; rfl

theorem p1 (c : Fin 4096) : k0_pay1 (F := Ideal) (ix2 r c) = 0 := by
  pointwise [k0_pay1]

theorem p2 (c : Fin 96) : k0_pay2 (F := Ideal) (ix3 0 r c) = 1 := by
  pointwise [k0_pay2]

theorem p4 : k0_pay4 (F := Ideal) (ix3 0 r j) = 0 := by
  pointwise [k0_pay4]
  simp [Ideal.ofBits, Ideal.e4m3fn]

/-- A row of the widened input: the column's code times its group's scale. -/
theorem p3 (k : Fin k0_t1_loop.trips) (hk : k.val < 32) (s : Vec Ideal S1x736x32 .f32) (x : Vec Ideal S1x736x128 .fp8e4m3) (l : Fin 128) :
    k0_pay3 (F := Ideal) k s x (ix2 r l) = x (ix3 0 r l) * s (ix3 0 r ⟨k.val, hk⟩) := by
  pointwise [k0_pay3]
  have h : ∀ y : Fin 32, Scalar.select (IntOp.cmpi .eq (BitVec.ofNat 32 y.val) (Scf.iv 0#32 1#32 k.val)) (s (ix3 0 r y)) (0 : EReal)
      = if y = ⟨k.val, hk⟩ then s (ix3 0 r ⟨k.val, hk⟩) else 0 := by
    intro y
    have hi : Scf.iv 0#32 1#32 k.val = BitVec.ofNat 32 k.val := by
      simp [Scf.iv, Scalar.addi, Scalar.muli, IntOp.addi, IntOp.muli]
    rw [hi]
    by_cases hy : y = ⟨k.val, hk⟩
    · rw [if_pos hy, hy]
      have : IntOp.cmpi .eq (BitVec.ofNat 32 k.val) (BitVec.ofNat 32 k.val) = 1#1 := by simp [IntOp.cmpi]
      rw [this]; rfl
    · rw [if_neg hy]
      have : IntOp.cmpi .eq (BitVec.ofNat 32 y.val) (BitVec.ofNat 32 k.val) = 0#1 := by
        have hne : BitVec.ofNat 32 y.val ≠ BitVec.ofNat 32 k.val := by
          intro he
          have := congrArg BitVec.toNat he
          rw [BitVec.toNat_ofNat, BitVec.toNat_ofNat] at this
          apply hy; apply Fin.ext; show y.val = k.val; omega
        show BitVec.ofBool (BitVec.ofNat 32 y.val == BitVec.ofNat 32 k.val) = 0#1
        rw [beq_eq_false_iff_ne.mpr hne]; rfl
      rw [this]; rfl
  congr 1
  refine (Finset.sum_congr rfl fun y _ => h y).trans ?_
  rw [Finset.sum_ite_eq', if_pos (Finset.mem_univ _)]
  rfl

theorem p6 (s : EReal) (x : Vec Ideal S1x128x128 .fp8e4m3) (a b : Fin 128) :
    k0_pay6 (F := Ideal) s x (ix2 a b) = x (ix3 0 a b) * s := by
  pointwise [k0_pay6]

theorem p7 (s : EReal) (x : Vec Ideal S1x128x128 .fp8e4m3) (a b : Fin 128) :
    k0_pay7 (F := Ideal) s x (ix2 a b) = x (ix3 0 a b) * s := by
  pointwise [k0_pay7]

theorem p8 (s : EReal) (x : Vec Ideal S1x128x128 .fp8e4m3) (a b : Fin 128) :
    k0_pay8 (F := Ideal) s x (ix2 a b) = x (ix3 0 a b) * s := by
  pointwise [k0_pay8]

theorem p16 (s : EReal) (x : Vec Ideal S1x128x128 .fp8e4m3) (a b : Fin 128) :
    k0_pay16 (F := Ideal) s x (ix2 a b) = x (ix3 0 a b) * s := by
  pointwise [k0_pay16]

theorem p17 (s : EReal) (x : Vec Ideal S1x128x128 .fp8e4m3) (a b : Fin 128) :
    k0_pay17 (F := Ideal) s x (ix2 a b) = x (ix3 0 a b) * s := by
  pointwise [k0_pay17]

theorem p5 (s : EReal) (x : Vec Ideal S1x128x128 .fp8e4m3) (a b : Fin 128) :
    k0_pay5 (F := Ideal) (k0_pay18 (F := Ideal) s) x (ix2 a b) = x (ix3 0 a b) * s := by
  pointwise [k0_pay5, k0_pay18]

end Cert.KernelIdeal.Hand
-- ==== Proof.Wide.lean ====
/-
  What the kernel's first three loops leave: the input rows widened by their scales, the gate and up weights of a block widened and laid
  side by side, the down weights of a block widened.
-/
module

public import proofs.«01_k».proof.Proof.PayOut
public import proofs.«01_k».proof.Proof.Gen.KernelIdeal.Loops
public import Idealize.ShloMosaic.Lib.WritesUnit

@[expose] public section

noncomputable section

namespace Cert.KernelIdeal.Hand

open Cert.KernelIdeal Cert.KernelIdeal.Gen Cert.Spec
open Idealize.ShloMosaic

set_option maxRecDepth 16384

theorem fin2 {P : Fin 2 → Prop} (h0 : P 0) (h1 : P 1) : ∀ a, P a := by
  intro a; fin_cases a; exacts [h0, h1]

theorem fin3 {P : Fin 3 → Prop} (h0 : P 0) (h1 : P 1) (h2 : P 2) : ∀ a, P a := by
  intro a; fin_cases a; exacts [h0, h1, h2]

/-- A load at a unit rectangle, read at an index. -/
theorem ld_at {sig : RefSig} {Val : EltTy → Type} {κ : Kind} {sp : Space} {s : Shape} {e : EltTy} (v : View sig κ sp s e) (f : v.ty.Contents Val)
    {off off' size : Fin s.rank → ℕ} (inb : ∀ a, off a + size a ≤ s.size a) (x : (Rect.unit off size inb).toLoadRect.shape.Idx) (y : s.Idx)
    (h : off = off') (hx : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hx a, Nat.one_mul]))

theorem off2 (k : Fin k0_t1_loop.trips) : k0_off2 k = ![0, 0, 128 * k.val] := by revert k; decide +kernel
theorem off3 (k : Fin k0_t1_loop.trips) : k0_off3 k = ![0, 128 * k.val] := by revert k; decide +kernel
theorem off5 (k : Fin k0_t2_loop.trips) : k0_off5 k = ![0, 128 * k.val, 0] := by revert k; decide +kernel
theorem off6 (k : Fin k0_t2_loop.trips) : k0_off6 k = ![128 * k.val, 0] := by revert k; decide +kernel
theorem off7 (k : Fin k0_t2_loop.trips) : k0_off7 k = ![0, 128 * k.val, 128] := by revert k; decide +kernel
theorem off8 (k : Fin k0_t2_loop.trips) : k0_off8 k = ![128 * k.val, 128] := by revert k; decide +kernel
theorem off9 (k : Fin k0_t2_loop.trips) : k0_off9 k = ![128 * k.val, 256] := by revert k; decide +kernel
theorem off10 (k : Fin k0_t2_loop.trips) : k0_off10 k = ![128 * k.val, 384] := by revert k; decide +kernel
theorem off12 (k : Fin k0_t3_loop.trips) : k0_off12 k = ![0, 0, 128 * k.val] := by revert k; decide +kernel
theorem off13 (k : Fin k0_t3_loop.trips) : k0_off13 k = ![0, 128 * k.val] := by revert k; decide +kernel
theorem off14 (k : Fin k0_t3_loop.trips) : k0_off14 k = ![0, 128, 128 * k.val] := by revert k; decide +kernel
theorem off15 (k : Fin k0_t3_loop.trips) : k0_off15 k = ![128, 128 * k.val] := by revert k; decide +kernel

/-- The two columns of a block's weight scales. -/
theorem pairCol (f : Fin 48) (t : Fin 2) : (Scalar.indexCast (Scalar.addi (Scalar.muli (BitVec.ofNat 32 f.val) 2#32) (BitVec.ofNat 32 t.val))).toNat = 2 * f.val + t.val := by
  revert f t; decide +kernel

theorem off4 (i : grid0.Coords) (k : Fin k0_t2_loop.trips) (t : Fin 2) : k0_off4 i k (BitVec.ofNat 32 t.val) = ![0, k.val, 2 * (i 1).val + t.val] := by
  have h : (Scalar.indexCast (Scf.iv 0#32 1#32 k.val)).toNat = k.val := by revert k; decide +kernel
  rw [← pairCol (i 1) t]; conv_rhs => rw [← h]
  rfl

theorem off11 (i : grid0.Coords) (k : Fin k0_t3_loop.trips) (t : Fin 2) : k0_off11 i k (BitVec.ofNat 32 t.val) = ![0, 2 * (i 1).val + t.val, k.val] := by
  have h : (Scalar.indexCast (Scf.iv 0#32 1#32 k.val)).toNat = k.val := by revert k; decide +kernel
  rw [← pairCol (i 1) t]; conv_rhs => rw [← h]
  rfl

/-- A load of one element, at any index of its one-element shape. -/
theorem ld_one {sig : RefSig} {Val : EltTy → Type} {κ : Kind} {sp : Space} {s : Shape} {e : EltTy} (v : View sig κ sp s e) (f : v.ty.Contents Val)
    {off off' size : Fin s.rank → ℕ} (inb : ∀ a, off a + size a ≤ s.size a) (x : (Rect.unit off size inb).toLoadRect.shape.Idx) (y : s.Idx)
    (h : off = off') (h1 : ∀ a, size a = 1) (hx : ∀ a, (y a).val = off' a) :
    v.readAt Val (Rect.unit off size inb).toLoadRect f x = v.read Val f y := by
  refine ld_at v f inb x y h fun a => ?_
  have : (x a).val < size a := (x a).isLt
  rw [h1 a] at this
  rw [hx a]; omega

section
variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)

/-- The input rows widened. -/
theorem wide1 (k0_h1 : k0_cond1 i = 1#1) (X3 : BufTy.Contents (Elt Ideal) arg3.view.ty) (X4 : BufTy.Contents (Elt Ideal) arg4.view.ty) (G : BufTy.Contents (Elt Ideal) arg14.view.ty)
    (n : ℕ) (hn : n ≤ 32) (R : Fin 736) (x : Fin 4096) (hx : x.val < 128 * n) :
    arg14.view.read (Elt Ideal) (arg14.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X3 X4 n)) (ix2 R x)
      = (arg3.view.read (Elt Ideal) X3 (ix3 0 R x) * arg4.view.read (Elt Ideal) X4 (ix3 0 R ⟨x.val / 128, by omega⟩) : EReal) := by
  induction n with
  | zero => omega
  | succ n ih =>
    have hk : n < k0_t1_loop.trips := by show n < 32; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X3 X4 ⟨n, hk⟩
    rw [show (n + 1) = (⟨n, hk⟩ : Fin k0_t1_loop.trips).val + 1 from rfl, hs]
    unfold tripL_k0_t1 trip_k0_t1
    by_cases h : 128 * n ≤ x.val
    · refine (View.read_writes_cons_unit_of_mem arg14.view G _ _ _ (ix2 R x) (ix2 R ⟨x.val - 128 * n, by omega⟩) (off3 ⟨n, hk⟩)
        (fin2 (by show R.val = 0 + R.val; omega) (by show x.val = 128 * n + (x.val - 128 * n); omega))).trans ?_
      refine (p3 R ⟨n, hk⟩ (by show n < 32; omega) _ _ _).trans ?_
      congr 1
      · exact ld_at arg3.view X3 _ (ix3 0 R ⟨x.val - 128 * n, by omega⟩) (ix3 0 R x) (off2 ⟨n, hk⟩)
          (fin3 rfl (by show R.val = 0 + R.val; omega) (by show x.val = 128 * n + (x.val - 128 * n); omega))
      · exact ld_at arg4.view X4 _ (ix3 0 R ⟨n, by omega⟩) (ix3 0 R ⟨x.val / 128, by omega⟩) rfl
          (fin3 rfl (by show R.val = 0 + R.val; omega) (by show x.val / 128 = 0 + n; omega))
    · refine (View.read_writes_cons_unit_of_not_mem arg14.view G _ _ _ (ix2 R x) (off3 ⟨n, hk⟩) 1 (.inl (by show x.val < 128 * n; omega))).trans ?_
      exact ih (by omega) (by omega)
end

section
variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)
variable (arg1 : BitVec 32) (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty) (G : BufTy.Contents (Elt Ideal) arg15.view.ty)

/-- The widened gate (columns 0 to 255) and up (columns 256 to 511) weights. -/
def gateUp (K : Fin 4096) (J : Fin 512) : EReal :=
  if h : J.val < 256 then
    arg5.view.read (Elt Ideal) X5 (ix3 0 K ⟨J.val, h⟩) * arg6.view.read (Elt Ideal) X6 (ix3 0 ⟨K.val / 128, by omega⟩ ⟨2 * (i 1).val + J.val / 128, by have : (i 1).val < 48 := (i 1).isLt; omega⟩)
  else
    arg7.view.read (Elt Ideal) X7 (ix3 0 K ⟨J.val - 256, by omega⟩) * arg8.view.read (Elt Ideal) X8 (ix3 0 ⟨K.val / 128, by omega⟩ ⟨2 * (i 1).val + (J.val - 256) / 128, by have : (i 1).val < 48 := (i 1).isLt; omega⟩)

theorem wide2 (n : ℕ) (hn : n ≤ 32) (K : Fin 4096) (J : Fin 512) (hK : K.val < 128 * n) :
    arg15.view.read (Elt Ideal) (arg15.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X5 X6 X7 X8 n)) (ix2 K J)
      = gateUp i arg5 arg6 arg7 arg8 X5 X6 X7 X8 K J := by
  induction n with
  | zero => omega
  | succ n ih =>
    have hk : n < k0_t2_loop.trips := by show n < 32; omega
    have hi : (i 1).val < 48 := (i 1).isLt
    have hs := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X5 X6 X7 X8 ⟨n, hk⟩
    rw [show (n + 1) = (⟨n, hk⟩ : Fin k0_t2_loop.trips).val + 1 from rfl, hs]
    unfold tripL_k0_t2 trip_k0_t2
    by_cases h : 128 * n ≤ K.val
    · have hd : K.val / 128 = n := by omega
      unfold gateUp
      by_cases h3 : 384 ≤ J.val
      · refine (View.read_writes_cons_unit_of_mem arg15.view G _ _ _ (ix2 K J) (ix2 ⟨K.val - 128 * n, by omega⟩ ⟨J.val - 384, by omega⟩) (off10 ⟨n, hk⟩)
          (fin2 (by show K.val = 128 * n + (K.val - 128 * n); omega) (by show J.val = 384 + (J.val - 384); omega))).trans ?_
        refine (p6 _ _ _ _).trans ?_
        rw [dif_neg (by omega)]
        congr 1
        · exact ld_at arg7.view X7 _ (ix3 0 ⟨K.val - 128 * n, by omega⟩ ⟨J.val - 384, by omega⟩) _ (off7 ⟨n, hk⟩)
            (fin3 rfl (by show K.val = 128 * n + (K.val - 128 * n); omega) (by show J.val - 256 = 128 + (J.val - 384); omega))
        · exact ld_one arg8.view X8 _ _ _ (off4 i ⟨n, hk⟩ 1) (fin3 rfl rfl rfl)
            (fin3 rfl hd (by show 2 * (i 1).val + (J.val - 256) / 128 = 2 * (i 1).val + 1; omega))
      refine (View.read_writes_cons_unit_of_not_mem arg15.view G _ _ _ (ix2 K J) (off10 ⟨n, hk⟩) 1 (.inl (by show J.val < 384; omega))).trans ?_
      by_cases h2 : 256 ≤ J.val
      · refine (View.read_writes_cons_unit_of_mem arg15.view G _ _ _ (ix2 K J) (ix2 ⟨K.val - 128 * n, by omega⟩ ⟨J.val - 256, by omega⟩) (off9 ⟨n, hk⟩)
          (fin2 (by show K.val = 128 * n + (K.val - 128 * n); omega) (by show J.val = 256 + (J.val - 256); omega))).trans ?_
        refine (p5 _ _ _ _).trans ?_
        rw [dif_neg (by omega)]
        congr 1
        · exact ld_at arg7.view X7 _ (ix3 0 ⟨K.val - 128 * n, by omega⟩ ⟨J.val - 256, by omega⟩) _ (off5 ⟨n, hk⟩)
            (fin3 rfl (by show K.val = 128 * n + (K.val - 128 * n); omega) (by show J.val - 256 = 0 + (J.val - 256); omega))
        · exact ld_one arg8.view X8 _ _ _ (off4 i ⟨n, hk⟩ 0) (fin3 rfl rfl rfl)
            (fin3 rfl hd (by show 2 * (i 1).val + (J.val - 256) / 128 = 2 * (i 1).val + 0; omega))
      refine (View.read_writes_cons_unit_of_not_mem arg15.view G _ _ _ (ix2 K J) (off9 ⟨n, hk⟩) 1 (.inl (by show J.val < 256; omega))).trans ?_
      by_cases h1 : 128 ≤ J.val
      · refine (View.read_writes_cons_unit_of_mem arg15.view G _ _ _ (ix2 K J) (ix2 ⟨K.val - 128 * n, by omega⟩ ⟨J.val - 128, by omega⟩) (off8 ⟨n, hk⟩)
          (fin2 (by show K.val = 128 * n + (K.val - 128 * n); omega) (by show J.val = 128 + (J.val - 128); omega))).trans ?_
        refine (p17 _ _ _ _).trans ?_
        rw [dif_pos (by omega)]
        congr 1
        · exact ld_at arg5.view X5 _ (ix3 0 ⟨K.val - 128 * n, by omega⟩ ⟨J.val - 128, by omega⟩) _ (off7 ⟨n, hk⟩)
            (fin3 rfl (by show K.val = 128 * n + (K.val - 128 * n); omega) (by show J.val = 128 + (J.val - 128); omega))
        · exact ld_one arg6.view X6 _ _ _ (off4 i ⟨n, hk⟩ 1) (fin3 rfl rfl rfl)
            (fin3 rfl hd (by show 2 * (i 1).val + J.val / 128 = 2 * (i 1).val + 1; omega))
      refine (View.read_writes_cons_unit_of_not_mem arg15.view G _ _ _ (ix2 K J) (off8 ⟨n, hk⟩) 1 (.inl (by show J.val < 128; omega))).trans ?_
      refine (View.read_writes_cons_unit_of_mem arg15.view G _ _ _ (ix2 K J) (ix2 ⟨K.val - 128 * n, by omega⟩ ⟨J.val, by omega⟩) (off6 ⟨n, hk⟩)
          (fin2 (by show K.val = 128 * n + (K.val - 128 * n); omega) (by show J.val = 0 + J.val; omega))).trans ?_
      refine (p16 _ _ _ _).trans ?_
      rw [dif_pos (by omega)]
      congr 1
      · exact ld_at arg5.view X5 _ (ix3 0 ⟨K.val - 128 * n, by omega⟩ ⟨J.val, by omega⟩) _ (off5 ⟨n, hk⟩)
          (fin3 rfl (by show K.val = 128 * n + (K.val - 128 * n); omega) (by show J.val = 0 + J.val; omega))
      · exact ld_one arg6.view X6 _ _ _ (off4 i ⟨n, hk⟩ 0) (fin3 rfl rfl rfl)
          (fin3 rfl hd (by show 2 * (i 1).val + J.val / 128 = 2 * (i 1).val + 0; omega))
    · refine (View.read_writes_cons_unit_of_not_mem arg15.view G _ _ _ (ix2 K J) (off10 ⟨n, hk⟩) 0 (.inl (by show K.val < 128 * n; omega))).trans ?_
      refine (View.read_writes_cons_unit_of_not_mem arg15.view G _ _ _ (ix2 K J) (off9 ⟨n, hk⟩) 0 (.inl (by show K.val < 128 * n; omega))).trans ?_
      refine (View.read_writes_cons_unit_of_not_mem arg15.view G _ _ _ (ix2 K J) (off8 ⟨n, hk⟩) 0 (.inl (by show K.val < 128 * n; omega))).trans ?_
      refine (View.read_writes_cons_unit_of_not_mem arg15.view G _ _ _ (ix2 K J) (off6 ⟨n, hk⟩) 0 (.inl (by show K.val < 128 * n; omega))).trans ?_
      exact ih (by omega) (by omega)
end

section
variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)

/-- The down weights of a block widened. -/
theorem wide3 (X9 : BufTy.Contents (Elt Ideal) arg9.view.ty) (X10 : BufTy.Contents (Elt Ideal) arg10.view.ty) (G : BufTy.Contents (Elt Ideal) arg16.view.ty)
    (n : ℕ) (hn : n ≤ 32) (J : Fin 256) (x : Fin 4096) (hx : x.val < 128 * n) :
    arg16.view.read (Elt Ideal) (arg16.view.writes (Elt Ideal) G (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X9 X10 n)) (ix2 J x)
      = (arg9.view.read (Elt Ideal) X9 (ix3 0 J x) * arg10.view.read (Elt Ideal) X10 (ix3 0 ⟨2 * (i 1).val + J.val / 128, by have : (i 1).val < 48 := (i 1).isLt; omega⟩ ⟨x.val / 128, by omega⟩) : EReal) := by
  induction n with
  | zero => omega
  | succ n ih =>
    have hk : n < k0_t3_loop.trips := by show n < 32; omega
    have hi : (i 1).val < 48 := (i 1).isLt
    have hs := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X9 X10 ⟨n, hk⟩
    rw [show (n + 1) = (⟨n, hk⟩ : Fin k0_t3_loop.trips).val + 1 from rfl, hs]
    unfold tripL_k0_t3 trip_k0_t3
    by_cases h : 128 * n ≤ x.val
    · have hd : x.val / 128 = n := by omega
      by_cases h1 : 128 ≤ J.val
      · refine (View.read_writes_cons_unit_of_mem arg16.view G _ _ _ (ix2 J x) (ix2 ⟨J.val - 128, by omega⟩ ⟨x.val - 128 * n, by omega⟩) (off15 ⟨n, hk⟩)
          (fin2 (by show J.val = 128 + (J.val - 128); omega) (by show x.val = 128 * n + (x.val - 128 * n); omega))).trans ?_
        refine (p8 _ _ _ _).trans ?_
        congr 1
        · exact ld_at arg9.view X9 _ (ix3 0 ⟨J.val - 128, by omega⟩ ⟨x.val - 128 * n, by omega⟩) _ (off14 ⟨n, hk⟩)
            (fin3 rfl (by show J.val = 128 + (J.val - 128); omega) (by show x.val = 128 * n + (x.val - 128 * n); omega))
        · exact ld_one arg10.view X10 _ _ _ (off11 i ⟨n, hk⟩ 1) (fin3 rfl rfl rfl)
            (fin3 rfl (by show 2 * (i 1).val + J.val / 128 = 2 * (i 1).val + 1; omega) hd)
      refine (View.read_writes_cons_unit_of_not_mem arg16.view G _ _ _ (ix2 J x) (off15 ⟨n, hk⟩) 0 (.inl (by show J.val < 128; omega))).trans ?_
      refine (View.read_writes_cons_unit_of_mem arg16.view G _ _ _ (ix2 J x) (ix2 ⟨J.val, by omega⟩ ⟨x.val - 128 * n, by omega⟩) (off13 ⟨n, hk⟩)
          (fin2 (by show J.val = 0 + J.val; omega) (by show x.val = 128 * n + (x.val - 128 * n); omega))).trans ?_
      refine (p7 _ _ _ _).trans ?_
      congr 1
      · exact ld_at arg9.view X9 _ (ix3 0 ⟨J.val, by omega⟩ ⟨x.val - 128 * n, by omega⟩) _ (off12 ⟨n, hk⟩)
          (fin3 rfl (by show J.val = 0 + J.val; omega) (by show x.val = 128 * n + (x.val - 128 * n); omega))
      · exact ld_one arg10.view X10 _ _ _ (off11 i ⟨n, hk⟩ 0) (fin3 rfl rfl rfl)
          (fin3 rfl (by show 2 * (i 1).val + J.val / 128 = 2 * (i 1).val + 0; omega) hd)
    · refine (View.read_writes_cons_unit_of_not_mem arg16.view G _ _ _ (ix2 J x) (off15 ⟨n, hk⟩) 1 (.inl (by show x.val < 128 * n; omega))).trans ?_
      refine (View.read_writes_cons_unit_of_not_mem arg16.view G _ _ _ (ix2 J x) (off13 ⟨n, hk⟩) 1 (.inl (by show x.val < 128 * n; omega))).trans ?_
      exact ih (by omega) (by omega)
end

end Cert.KernelIdeal.Hand
-- ==== Proof.Trip.lean ====
/-
  What one trip of the block loop computes, in terms of the rows it reads.
-/
module

public import proofs.«01_k».proof.Proof.PayRow
public import proofs.«01_k».proof.Proof.PayAcc
public import proofs.«01_k».proof.Proof.Wide
public import proofs.«01_k».proof.Proof.ChkKernelIdeal

@[expose] public section

noncomputable section

namespace Cert.KernelIdeal.Hand

open Cert.KernelIdeal Cert.KernelIdeal.Gen Cert.Spec Cert.Rows
open Idealize.ShloMosaic

set_option maxRecDepth 16384

variable (arg14 : Memref sig .tc .vmem S736x4096 .bf16) (arg15 : Memref sig .tc .vmem S4096x512 .bf16)
  (v1 : BitVec 32) (k0_hw1 : k0_chk1 v1) (k0_h2 : k0_cond2 v1 = 1#1)
  (X14 : BufTy.Contents (Elt Ideal) arg14.view.ty) (X15 : BufTy.Contents (Elt Ideal) arg15.view.ty) (k : Fin (k0_t4_loop v1).trips)

/-- The first row of the trip's block. -/
abbrev first : ℕ := min (256 * k.val) 480

/-- A row of the widened input. -/
def xq (R : Fin 736) (x : Fin 4096) : EReal := arg14.view.read (Elt Ideal) X14 (ix2 R x)

/-- The widened gate and up weights. -/
def gu (x : Fin 4096) (J : Fin 512) : EReal := arg15.view.read (Elt Ideal) X15 (ix2 x J)

theorem first_le : first v1 k + 256 ≤ 736 := by unfold first; omega

/-- Row `r` of the block among all rows. -/
abbrev rowOf (r : Fin 256) : Fin 736 := ⟨first v1 k + r.val, by have := first_le v1 k; omega⟩

/-- The rows loaded. -/
theorem load14 (inb) (r : Fin 256) : rowA (arg14.view.readAt (Elt Ideal) (Rect.unit (s := S736x4096) (k0_off16 v1 k) S256x4096.size inb).toLoadRect X14) r = xq arg14 X14 (rowOf v1 k r) := by
  funext x
  exact ld_at arg14.view X14 inb (ix2 r x) (ix2 (rowOf v1 k r) x) (off16 v1 k) (fin2 rfl (by show x.val = 0 + x.val; omega))

/-- The weights loaded. -/
theorem load15 (inb) : matB (arg15.view.readAt (Elt Ideal) (Rect.unit (s := S4096x512) ![0, 0] S4096x512.size inb).toLoadRect X15) = gu arg15 X15 := by
  funext x J
  exact ld_at arg15.view X15 inb (ix2 x J) (ix2 x J) rfl (fin2 (by show x.val = 0 + x.val; omega) (by show J.val = 0 + J.val; omega))

/-- A block row's code at a column. -/
abbrev codT (R : Fin 736) (j : Fin 256) : EReal := cod (below v1 R.val) (xq arg14 X14 R) (gu arg15 X15) j

/-- A block row's scale of a group. -/
abbrev sclT (R : Fin 736) (t : Fin 2) : EReal := scl (below v1 R.val) (xq arg14 X14 R) (gu arg15 X15) t

/-- The first group's codes. -/
theorem tcod0 (r : Fin 256) (j : Fin 128) (h) :
    k0_pay30 (F := Ideal) (trip_k0_t4.sl.r_3 arg14 arg15 v1 k0_hw1 k0_h2 X14 X15 k) (trip_k0_t4.sl.r_6 arg14 arg15 v1 k0_hw1 k0_h2 X14 X15 k) (trip_k0_t4.sl.r_7 arg14 arg15 v1 k0_hw1 k0_h2 X14 X15 k) (ix2 r j)
      = codT arg14 arg15 v1 X14 X15 (rowOf v1 k r) ⟨128 * (0 : Fin 2).val + j.val, h⟩ := by
  refine (cod0 v1 k _ _ r (lt4 v1 k) j h).trans ?_
  rw [load14, load15]

/-- The first group's scale. -/
theorem tscl0 (r : Fin 256) :
    k0_pay29 (F := Ideal) (trip_k0_t4.sl.r_6 arg14 arg15 v1 k0_hw1 k0_h2 X14 X15 k) (trip_k0_t4.sl.r_7 arg14 arg15 v1 k0_hw1 k0_h2 X14 X15 k) (ix2 r 0) = sclT arg14 arg15 v1 X14 X15 (rowOf v1 k r) 0 := by
  refine (scl0 v1 k _ _ r (lt4 v1 k)).trans ?_
  rw [load14, load15]

/-- The second group's codes. -/
theorem tcod1 (r : Fin 256) (j : Fin 128) (h) :
    k0_pay41 (F := Ideal) (trip_k0_t4.sl.r_9 arg14 arg15 v1 k0_hw1 k0_h2 X14 X15 k) (trip_k0_t4.sl.r_10 arg14 arg15 v1 k0_hw1 k0_h2 X14 X15 k) (trip_k0_t4.sl.r_11 arg14 arg15 v1 k0_hw1 k0_h2 X14 X15 k) (trip_k0_t4.sl.r_12 arg14 arg15 v1 k0_hw1 k0_h2 X14 X15 k) (trip_k0_t4.sl.r_13 arg14 arg15 v1 k0_hw1 k0_h2 X14 X15 k) (ix2 r j)
      = codT arg14 arg15 v1 X14 X15 (rowOf v1 k r) ⟨128 * (1 : Fin 2).val + j.val, h⟩ := by
  refine (cod1 v1 k _ _ r (lt4 v1 k) (trip_k0_t4.sl.r_9 arg14 arg15 v1 k0_hw1 k0_h2 X14 X15 k) rfl j h).trans ?_
  rw [load14, load15]

/-- The second group's scale. -/
theorem tscl1 (r : Fin 256) :
    trip_k0_t4.sl.r_14 arg14 arg15 v1 k0_hw1 k0_h2 X14 X15 k (ix2 r 0) = sclT arg14 arg15 v1 X14 X15 (rowOf v1 k r) 1 := by
  refine (scl1 v1 k _ _ r (lt4 v1 k) (trip_k0_t4.sl.r_9 arg14 arg15 v1 k0_hw1 k0_h2 X14 X15 k) rfl).trans ?_
  rw [load14, load15]

/-- The trip's own rows. -/
def inBlock (R : Fin 736) : Prop := first v1 k ≤ R.val ∧ R.val < first v1 k + 256

instance (R : Fin 736) : Decidable (inBlock v1 k R) := by unfold inBlock; infer_instance

/-- The codes stored by a trip. -/
theorem trip12 (arg12 : Memref sig .tc .vmem S1x736x256 .fp8e4m3) (f12 : BufTy.Contents (Elt Ideal) arg12.view.ty) (inb19 inb18)
    (R : Fin 736) (j : Fin 256) :
    arg12.view.read (Elt Ideal) (arg12.view.writes (Elt Ideal) f12
      [⟨Rect.unit (s := S1x736x256) (k0_off19 v1 k) S1x256x128.size inb19, k0_pay42 (trip_k0_t4.sl.r_9 arg14 arg15 v1 k0_hw1 k0_h2 X14 X15 k) (trip_k0_t4.sl.r_10 arg14 arg15 v1 k0_hw1 k0_h2 X14 X15 k) (trip_k0_t4.sl.r_11 arg14 arg15 v1 k0_hw1 k0_h2 X14 X15 k) (trip_k0_t4.sl.r_12 arg14 arg15 v1 k0_hw1 k0_h2 X14 X15 k) (trip_k0_t4.sl.r_13 arg14 arg15 v1 k0_hw1 k0_h2 X14 X15 k)⟩,
       ⟨Rect.unit (s := S1x736x256) (k0_off18 v1 k) S1x256x128.size inb18, k0_pay31 (trip_k0_t4.sl.r_3 arg14 arg15 v1 k0_hw1 k0_h2 X14 X15 k) (trip_k0_t4.sl.r_6 arg14 arg15 v1 k0_hw1 k0_h2 X14 X15 k) (trip_k0_t4.sl.r_7 arg14 arg15 v1 k0_hw1 k0_h2 X14 X15 k)⟩]) (ix3 0 R j)
      = if inBlock v1 k R then codT arg14 arg15 v1 X14 X15 R j else arg12.view.read (Elt Ideal) f12 (ix3 0 R j) := by
  by_cases hR : inBlock v1 k R
  · rw [if_pos hR]
    obtain ⟨h0, h1⟩ := hR
    have hrow : rowOf v1 k ⟨R.val - first v1 k, by omega⟩ = R := Fin.ext (by show first v1 k + (R.val - first v1 k) = R.val; omega)
    by_cases hj : 128 ≤ j.val
    · refine (View.read_writes_cons_unit_of_mem arg12.view f12 inb19 _ _ (ix3 0 R j) (ix3 0 ⟨R.val - first v1 k, by omega⟩ ⟨j.val - 128, by omega⟩) (off19 v1 k)
        (fin3 rfl (by show R.val = first v1 k + (R.val - first v1 k); omega) (by show j.val = 128 + (j.val - 128); omega))).trans ?_
      refine (p42 _ _ _ _ _ _ _).trans ?_
      refine (tcod1 arg14 arg15 v1 k0_hw1 k0_h2 X14 X15 k _ _ (by show 128 * 1 + (j.val - 128) < 256; omega)).trans ?_
      rw [hrow]
      congr 1
      exact Fin.ext (by show 128 * 1 + (j.val - 128) = j.val; omega)
    · refine (View.read_writes_cons_unit_of_not_mem arg12.view f12 inb19 _ _ (ix3 0 R j) (off19 v1 k) 2 (.inl (by show j.val < 128; omega))).trans ?_
      refine (View.read_writes_cons_unit_of_mem arg12.view f12 inb18 _ _ (ix3 0 R j) (ix3 0 ⟨R.val - first v1 k, by omega⟩ ⟨j.val, by omega⟩) (off18 v1 k)
        (fin3 rfl (by show R.val = first v1 k + (R.val - first v1 k); omega) (by show j.val = 0 + j.val; omega))).trans ?_
      refine (p31 _ _ _ _ _).trans ?_
      refine (tcod0 arg14 arg15 v1 k0_hw1 k0_h2 X14 X15 k _ _ (by show 128 * 0 + j.val < 256; omega)).trans ?_
      rw [hrow]
      congr 1
      exact Fin.ext (by show 128 * 0 + j.val = j.val; omega)
  · rw [if_neg hR]
    have hR' : R.val < first v1 k ∨ first v1 k + 256 ≤ R.val := by unfold inBlock at hR; omega
    refine (View.read_writes_cons_unit_of_not_mem arg12.view f12 inb19 _ _ (ix3 0 R j) (off19 v1 k) 1 hR').trans ?_
    exact View.read_writes_cons_unit_of_not_mem arg12.view f12 inb18 _ _ (ix3 0 R j) (off18 v1 k) 1 hR'

/-- The scales stored by a trip. -/
theorem trip13 (f : Fin 48) (arg13 : Memref sig .tc .vmem S1x736x96 .f32) (f13 : BufTy.Contents (Elt Ideal) arg13.view.ty) (inb17)
    (R : Fin 736) (g : Fin 96) :
    arg13.view.read (Elt Ideal) (arg13.view.writes (Elt Ideal) f13
      [⟨Rect.unit (s := S1x736x96) (k0_off17 v1 k) S1x256x96.size inb17, k0_pay44 trip_k0_t4.sl.v49 (trip_k0_t4.sl.r_8 arg13 arg14 arg15 (BitVec.ofNat 32 f.val) v1 k0_hw1 k0_h2 X14 X15 k f13)
        (trip_k0_t4.sl.r_14 arg14 arg15 v1 k0_hw1 k0_h2 X14 X15 k) (trip_k0_t4.sl.v260 (BitVec.ofNat 32 f.val)) 1#32⟩]) (ix3 0 R g)
      = if inBlock v1 k R then
          if g.val = 2 * f.val + 1 then sclT arg14 arg15 v1 X14 X15 R 1 else if g.val = 2 * f.val then sclT arg14 arg15 v1 X14 X15 R 0
          else arg13.view.read (Elt Ideal) f13 (ix3 0 R g)
        else arg13.view.read (Elt Ideal) f13 (ix3 0 R g) := by
  by_cases hR : inBlock v1 k R
  · rw [if_pos hR]
    obtain ⟨h0, h1⟩ := hR
    have hrow : rowOf v1 k ⟨R.val - first v1 k, by omega⟩ = R := Fin.ext (by show first v1 k + (R.val - first v1 k) = R.val; omega)
    refine (View.read_writes_cons_unit_of_mem arg13.view f13 inb17 _ _ (ix3 0 R g) (ix3 0 ⟨R.val - first v1 k, by omega⟩ g) (off17 v1 k)
        (fin3 rfl (by show R.val = first v1 k + (R.val - first v1 k); omega) (by show g.val = 0 + g.val; omega))).trans ?_
    refine (p44 _ f _ _ _ _ g).trans ?_
    rw [tscl1, hrow]
    have h2 := tscl0 arg14 arg15 v1 k0_hw1 k0_h2 X14 X15 k ⟨R.val - first v1 k, by omega⟩
    rw [hrow] at h2
    have h3 : arg13.view.readAt (Elt Ideal) (Rect.unit (s := S1x736x96) (k0_off17 v1 k) S1x256x96.size inb17).toLoadRect f13 (ix3 0 ⟨R.val - first v1 k, by omega⟩ g)
        = arg13.view.read (Elt Ideal) f13 (ix3 0 R g) :=
      ld_at arg13.view f13 inb17 _ _ (off17 v1 k) (fin3 rfl (by show R.val = first v1 k + (R.val - first v1 k); omega) (by show g.val = 0 + g.val; omega))
    rw [← h2, ← h3]
  · rw [if_neg hR]
    have hR' : R.val < first v1 k ∨ first v1 k + 256 ≤ R.val := by unfold inBlock at hR; omega
    exact View.read_writes_cons_unit_of_not_mem arg13.view f13 inb17 _ _ (ix3 0 R g) (off17 v1 k) 1 hR'

/-- The widened codes a trip's down products take. -/
theorem trip18 (arg18 : Memref sig .tc .vmem S256x256 .bf16) (r j : Fin 256) :
    trip_k0_t4.sl.v285 arg14 arg15 arg18 v1 k0_hw1 k0_h2 X14 X15 k (ix2 r j)
      = deq (below v1 (rowOf v1 k r).val) (xq arg14 X14 (rowOf v1 k r)) (gu arg15 X15) j := by
  unfold trip_k0_t4.sl.v285 trip_k0_t4.sl.HW_arg18_2
  refine (ld_at arg18.view _ _ (ix2 r j) (ix2 r j) rfl (fin2 (by show r.val = 0 + r.val; omega) (by show j.val = 0 + j.val; omega))).trans ?_
  unfold deq
  by_cases hj : 128 ≤ j.val
  · refine (View.read_writes_cons_unit_of_mem arg18.view _ _ _ _ (ix2 r j) (ix2 r ⟨j.val - 128, by omega⟩) rfl
      (fin2 (by show r.val = 0 + r.val; omega) (by show j.val = 128 + (j.val - 128); omega))).trans ?_
    refine (p43 _ _ _ _).trans ?_
    have hj' : (⟨128 * (1 : Fin 2).val + (j.val - 128), by show 128 * 1 + (j.val - 128) < 256; omega⟩ : Fin 256) = j := Fin.ext (by show 128 * 1 + (j.val - 128) = j.val; omega)
    have hg : grpOf j = 1 := Fin.ext (by show j.val / 128 = 1; omega)
    have hc := tcod1 arg14 arg15 v1 k0_hw1 k0_h2 X14 X15 k r ⟨j.val - 128, by omega⟩ (by show 128 * 1 + (j.val - 128) < 256; omega)
    rw [hj'] at hc
    rw [tscl1, hg]
    exact congrArg (· * _) hc
  · refine (View.read_writes_cons_unit_of_not_mem arg18.view _ _ _ _ (ix2 r j) rfl 1 (.inl (by show j.val < 128; omega))).trans ?_
    refine (View.read_writes_cons_unit_of_mem arg18.view _ _ _ _ (ix2 r j) (ix2 r ⟨j.val, by omega⟩) rfl
      (fin2 (by show r.val = 0 + r.val; omega) (by show j.val = 0 + j.val; omega))).trans ?_
    refine (p33 _ _ _ _ _).trans ?_
    have hj' : (⟨128 * (0 : Fin 2).val + j.val, by show 128 * 0 + j.val < 256; omega⟩ : Fin 256) = j := Fin.ext (by show 128 * 0 + j.val = j.val; omega)
    have hg : grpOf j = 0 := Fin.ext (by show j.val / 128 = 0; omega)
    have hc := tcod0 arg14 arg15 v1 k0_hw1 k0_h2 X14 X15 k r ⟨j.val, by omega⟩ (by show 128 * 0 + j.val < 256; omega)
    rw [hj'] at hc
    rw [tscl0, hc, hg]

end Cert.KernelIdeal.Hand
-- ==== Proof.TripAcc.lean ====
/-
  What one trip of the block loop adds into the accumulator.
-/
module

public import proofs.«01_k».proof.Proof.PayRow
public import proofs.«01_k».proof.Proof.PayAcc
public import proofs.«01_k».proof.Proof.Wide
public import proofs.«01_k».proof.Proof.ChkKernelIdeal
public import proofs.«01_k».proof.Proof.Trip

@[expose] public section

noncomputable section

namespace Cert.KernelIdeal.Hand

open Cert.KernelIdeal Cert.KernelIdeal.Gen Cert.Spec Cert.Rows
open Idealize.ShloMosaic

set_option maxRecDepth 16384

variable (arg14 : Memref sig .tc .vmem S736x4096 .bf16) (arg15 : Memref sig .tc .vmem S4096x512 .bf16)
  (v1 : BitVec 32) (k0_hw1 : k0_chk1 v1) (k0_h2 : k0_cond2 v1 = 1#1)
  (X14 : BufTy.Contents (Elt Ideal) arg14.view.ty) (X15 : BufTy.Contents (Elt Ideal) arg15.view.ty) (k : Fin (k0_t4_loop v1).trips)
  (arg16 : Memref sig .tc .vmem S256x4096 .bf16) (arg17 : Memref sig .tc .vmem S736x4096 .f32) (arg18 : Memref sig .tc .vmem S256x256 .bf16)
  (X16 : BufTy.Contents (Elt Ideal) arg16.view.ty) (f17 : BufTy.Contents (Elt Ideal) arg17.view.ty)

/-- The widened down weights. -/
def dw (j : Fin 256) (c : Fin 4096) : EReal := arg16.view.read (Elt Ideal) X16 (ix2 j c)

/-- A block row's part of the down product. -/
abbrev partT (R : Fin 736) (c : Fin 4096) : EReal := part (below v1 R.val) (xq arg14 X14 R) (gu arg15 X15) (dw arg16 X16) c

/-- The accumulator after the trip, in its rows. -/
def accT (R : Fin 736) (c : Fin 4096) : EReal :=
  arg17.view.read (Elt Ideal) f17 (ix2 R c) + Scalar.select (if 256 * k.val ≤ R.val then 1#1 else 0#1) (partT arg14 arg15 v1 X14 X15 arg16 X16 R c) 0

/-- The accumulator after the first `m` column blocks of the trip. -/
def After (m : ℕ) (L : List (View.Piece (Elt Ideal) S736x4096 .f32)) : Prop :=
  ∀ (R : Fin 736) (c : Fin 4096), arg17.view.read (Elt Ideal) (arg17.view.writes (Elt Ideal) f17 L) (ix2 R c)
    = if inBlock v1 k R ∧ c.val < 256 * m then accT arg14 arg15 v1 X14 X15 k arg16 arg17 X16 f17 R c else arg17.view.read (Elt Ideal) f17 (ix2 R c)

/-- One more column block. -/
theorem after_succ {m : ℕ} (hm : m < 16) {L : List (View.Piece (Elt Ideal) S736x4096 .f32)} (hL : After arg14 arg15 v1 X14 X15 k arg16 arg17 X16 f17 m L)
    {off : Fin 2 → ℕ} (hoff : off = ![first v1 k, 256 * m]) (inb) (w : FVec Ideal S256x256 .f32)
    (hw : ∀ r j : Fin 256, w (ix2 r j) = accT arg14 arg15 v1 X14 X15 k arg16 arg17 X16 f17 (rowOf v1 k r) ⟨256 * m + j.val, by omega⟩) :
    After arg14 arg15 v1 X14 X15 k arg16 arg17 X16 f17 (m + 1) (⟨Rect.unit (s := S736x4096) off S256x256.size inb, w⟩ :: L) := by
  intro R c
  by_cases hR : inBlock v1 k R
  · obtain ⟨h0, h1⟩ := hR
    have hrow : rowOf v1 k ⟨R.val - first v1 k, by omega⟩ = R := Fin.ext (by show first v1 k + (R.val - first v1 k) = R.val; omega)
    by_cases hc : 256 * m ≤ c.val ∧ c.val < 256 * m + 256
    · rw [if_pos ⟨⟨h0, h1⟩, by omega⟩]
      refine (View.read_writes_cons_unit_of_mem arg17.view f17 inb w L (ix2 R c) (ix2 ⟨R.val - first v1 k, by omega⟩ ⟨c.val - 256 * m, by omega⟩) hoff
        (fin2 (by show R.val = first v1 k + (R.val - first v1 k); omega) (by show c.val = 256 * m + (c.val - 256 * m); omega))).trans ?_
      refine (hw _ _).trans ?_
      rw [hrow]
      congr 1
      exact Fin.ext (by show 256 * m + (c.val - 256 * m) = c.val; omega)
    · refine (View.read_writes_cons_unit_of_not_mem arg17.view f17 inb w L (ix2 R c) hoff 1 (by show c.val < 256 * m ∨ 256 * m + 256 ≤ c.val; omega)).trans ?_
      refine (hL R c).trans ?_
      by_cases hlt : c.val < 256 * m
      · rw [if_pos ⟨⟨h0, h1⟩, hlt⟩, if_pos ⟨⟨h0, h1⟩, by omega⟩]
      · rw [if_neg (fun h => hlt h.2), if_neg (fun h => by have := h.2; omega)]
  · have hR' : R.val < first v1 k ∨ first v1 k + 256 ≤ R.val := by unfold inBlock at hR; omega
    refine (View.read_writes_cons_unit_of_not_mem arg17.view f17 inb w L (ix2 R c) hoff 0 hR').trans ?_
    refine (hL R c).trans ?_
    rw [if_neg (fun h => hR h.1), if_neg (fun h => hR h.1)]

/-- A column block's payload. -/
theorem upd_eq {m : ℕ} (hm : m < 16) {L : List (View.Piece (Elt Ideal) S736x4096 .f32)} (hL : After arg14 arg15 v1 X14 X15 k arg16 arg17 X16 f17 m L)
    {off : Fin 2 → ℕ} (hoff : off = ![first v1 k, 256 * m]) (inb) {off' : Fin 2 → ℕ} (hoff' : off' = ![0, 256 * m]) (inb') (r j : Fin 256) :
    upd (trip_k0_t4.sl.r_16 (F := Ideal) v1 k) (trip_k0_t4.sl.v285 arg14 arg15 arg18 v1 k0_hw1 k0_h2 X14 X15 k)
        (arg16.view.readAt (Elt Ideal) (Rect.unit (s := S256x4096) off' S256x256.size inb').toLoadRect X16)
        (arg17.view.readAt (Elt Ideal) (Rect.unit (s := S736x4096) off S256x256.size inb).toLoadRect (arg17.view.writes (Elt Ideal) f17 L)) r j
      = accT arg14 arg15 v1 X14 X15 k arg16 arg17 X16 f17 (rowOf v1 k r) ⟨256 * m + j.val, by omega⟩ := by
  unfold upd accT
  have h1 : arg17.view.readAt (Elt Ideal) (Rect.unit (s := S736x4096) off S256x256.size inb).toLoadRect (arg17.view.writes (Elt Ideal) f17 L) (ix2 r j)
      = arg17.view.read (Elt Ideal) f17 (ix2 (rowOf v1 k r) ⟨256 * m + j.val, by omega⟩) := by
    refine (ld_at arg17.view _ inb (ix2 r j) (ix2 (rowOf v1 k r) ⟨256 * m + j.val, by omega⟩) hoff (fin2 rfl rfl)).trans ?_
    refine (hL _ _).trans ?_
    rw [if_neg (fun h => by have : 256 * m + j.val < 256 * m := h.2; omega)]
  have h2 : trip_k0_t4.sl.r_16 (F := Ideal) v1 k (ix2 r 0) = if 256 * k.val ≤ (rowOf v1 k r).val then 1#1 else 0#1 := p45 r k.val (lt4 v1 k)
  have h3 : ∀ x : Fin 256, arg16.view.readAt (Elt Ideal) (Rect.unit (s := S256x4096) off' S256x256.size inb').toLoadRect X16 (ix2 x j) = dw arg16 X16 x ⟨256 * m + j.val, by omega⟩ := fun x =>
    ld_at arg16.view X16 inb' (ix2 x j) (ix2 x ⟨256 * m + j.val, by omega⟩) hoff' (fin2 (by show x.val = 0 + x.val; omega) rfl)
  refine congrArg₂ (fun a b : EReal => a + b) h1 ?_
  rw [h2]
  refine congrArg (fun z : EReal => Scalar.select _ z 0) ?_
  unfold partT part
  refine Finset.sum_congr rfl fun x _ => ?_
  rw [h3 x, trip18]

/-- No column block yet. -/
theorem after_zero : After arg14 arg15 v1 X14 X15 k arg16 arg17 X16 f17 0 [] := by
  intro R c
  rw [if_neg (fun h => by have := h.2; omega)]
  rfl

theorem after_0 : After arg14 arg15 v1 X14 X15 k arg16 arg17 X16 f17 1 (trip_k0_t4.sl.HW_arg17_1 arg14 arg15 arg16 arg17 arg18 v1 k0_hw1 k0_h2 X14 X15 X16 k f17) := by
  unfold trip_k0_t4.sl.HW_arg17_1
  exact after_succ arg14 arg15 v1 X14 X15 k arg16 arg17 X16 f17 (by omega) (after_zero arg14 arg15 v1 X14 X15 k arg16 arg17 X16 f17) (off20 v1 k) _ _ fun r j =>
    (p46 _ _ _ _ _ _ _).trans (upd_eq arg14 arg15 v1 k0_hw1 k0_h2 X14 X15 k arg16 arg17 arg18 X16 f17 (by omega) (after_zero arg14 arg15 v1 X14 X15 k arg16 arg17 X16 f17) (off20 v1 k) _ rfl _ r j)

theorem after_1 : After arg14 arg15 v1 X14 X15 k arg16 arg17 X16 f17 2 (trip_k0_t4.sl.HW_arg17_2 arg14 arg15 arg16 arg17 arg18 v1 k0_hw1 k0_h2 X14 X15 X16 k f17) := by
  unfold trip_k0_t4.sl.HW_arg17_2
  exact after_succ arg14 arg15 v1 X14 X15 k arg16 arg17 X16 f17 (by omega) (after_0 arg14 arg15 v1 k0_hw1 k0_h2 X14 X15 k arg16 arg17 arg18 X16 f17) (off21 v1 k) _ _ fun r j =>
    (p47 _ _ _ _ _ _).trans (upd_eq arg14 arg15 v1 k0_hw1 k0_h2 X14 X15 k arg16 arg17 arg18 X16 f17 (by omega) (after_0 arg14 arg15 v1 k0_hw1 k0_h2 X14 X15 k arg16 arg17 arg18 X16 f17) (off21 v1 k) _ rfl _ r j)

theorem after_2 : After arg14 arg15 v1 X14 X15 k arg16 arg17 X16 f17 3 (trip_k0_t4.sl.HW_arg17_3 arg14 arg15 arg16 arg17 arg18 v1 k0_hw1 k0_h2 X14 X15 X16 k f17) := by
  unfold trip_k0_t4.sl.HW_arg17_3
  exact after_succ arg14 arg15 v1 X14 X15 k arg16 arg17 X16 f17 (by omega) (after_1 arg14 arg15 v1 k0_hw1 k0_h2 X14 X15 k arg16 arg17 arg18 X16 f17) (off22 v1 k) _ _ fun r j =>
    (p48 _ _ _ _ _ _).trans (upd_eq arg14 arg15 v1 k0_hw1 k0_h2 X14 X15 k arg16 arg17 arg18 X16 f17 (by omega) (after_1 arg14 arg15 v1 k0_hw1 k0_h2 X14 X15 k arg16 arg17 arg18 X16 f17) (off22 v1 k) _ rfl _ r j)

theorem after_3 : After arg14 arg15 v1 X14 X15 k arg16 arg17 X16 f17 4 (trip_k0_t4.sl.HW_arg17_4 arg14 arg15 arg16 arg17 arg18 v1 k0_hw1 k0_h2 X14 X15 X16 k f17) := by
  unfold trip_k0_t4.sl.HW_arg17_4
  exact after_succ arg14 arg15 v1 X14 X15 k arg16 arg17 X16 f17 (by omega) (after_2 arg14 arg15 v1 k0_hw1 k0_h2 X14 X15 k arg16 arg17 arg18 X16 f17) (off23 v1 k) _ _ fun r j =>
    (p50 _ _ _ _ _ _).trans (upd_eq arg14 arg15 v1 k0_hw1 k0_h2 X14 X15 k arg16 arg17 arg18 X16 f17 (by omega) (after_2 arg14 arg15 v1 k0_hw1 k0_h2 X14 X15 k arg16 arg17 arg18 X16 f17) (off23 v1 k) _ rfl _ r j)

theorem after_4 : After arg14 arg15 v1 X14 X15 k arg16 arg17 X16 f17 5 (trip_k0_t4.sl.HW_arg17_5 arg14 arg15 arg16 arg17 arg18 v1 k0_hw1 k0_h2 X14 X15 X16 k f17) := by
  unfold trip_k0_t4.sl.HW_arg17_5
  exact after_succ arg14 arg15 v1 X14 X15 k arg16 arg17 X16 f17 (by omega) (after_3 arg14 arg15 v1 k0_hw1 k0_h2 X14 X15 k arg16 arg17 arg18 X16 f17) (off24 v1 k) _ _ fun r j =>
    (p51 _ _ _ _ _ _).trans (upd_eq arg14 arg15 v1 k0_hw1 k0_h2 X14 X15 k arg16 arg17 arg18 X16 f17 (by omega) (after_3 arg14 arg15 v1 k0_hw1 k0_h2 X14 X15 k arg16 arg17 arg18 X16 f17) (off24 v1 k) _ rfl _ r j)

theorem after_5 : After arg14 arg15 v1 X14 X15 k arg16 arg17 X16 f17 6 (trip_k0_t4.sl.HW_arg17_6 arg14 arg15 arg16 arg17 arg18 v1 k0_hw1 k0_h2 X14 X15 X16 k f17) := by
  unfold trip_k0_t4.sl.HW_arg17_6
  exact after_succ arg14 arg15 v1 X14 X15 k arg16 arg17 X16 f17 (by omega) (after_4 arg14 arg15 v1 k0_hw1 k0_h2 X14 X15 k arg16 arg17 arg18 X16 f17) (off25 v1 k) _ _ fun r j =>
    (p52 _ _ _ _ _ _).trans (upd_eq arg14 arg15 v1 k0_hw1 k0_h2 X14 X15 k arg16 arg17 arg18 X16 f17 (by omega) (after_4 arg14 arg15 v1 k0_hw1 k0_h2 X14 X15 k arg16 arg17 arg18 X16 f17) (off25 v1 k) _ rfl _ r j)

theorem after_6 : After arg14 arg15 v1 X14 X15 k arg16 arg17 X16 f17 7 (trip_k0_t4.sl.HW_arg17_7 arg14 arg15 arg16 arg17 arg18 v1 k0_hw1 k0_h2 X14 X15 X16 k f17) := by
  unfold trip_k0_t4.sl.HW_arg17_7
  exact after_succ arg14 arg15 v1 X14 X15 k arg16 arg17 X16 f17 (by omega) (after_5 arg14 arg15 v1 k0_hw1 k0_h2 X14 X15 k arg16 arg17 arg18 X16 f17) (off26 v1 k) _ _ fun r j =>
    (p54 _ _ _ _ _ _).trans (upd_eq arg14 arg15 v1 k0_hw1 k0_h2 X14 X15 k arg16 arg17 arg18 X16 f17 (by omega) (after_5 arg14 arg15 v1 k0_hw1 k0_h2 X14 X15 k arg16 arg17 arg18 X16 f17) (off26 v1 k) _ rfl _ r j)

theorem after_7 : After arg14 arg15 v1 X14 X15 k arg16 arg17 X16 f17 8 (trip_k0_t4.sl.HW_arg17_8 arg14 arg15 arg16 arg17 arg18 v1 k0_hw1 k0_h2 X14 X15 X16 k f17) := by
  unfold trip_k0_t4.sl.HW_arg17_8
  exact after_succ arg14 arg15 v1 X14 X15 k arg16 arg17 X16 f17 (by omega) (after_6 arg14 arg15 v1 k0_hw1 k0_h2 X14 X15 k arg16 arg17 arg18 X16 f17) (off27 v1 k) _ _ fun r j =>
    (p55 _ _ _ _ _ _).trans (upd_eq arg14 arg15 v1 k0_hw1 k0_h2 X14 X15 k arg16 arg17 arg18 X16 f17 (by omega) (after_6 arg14 arg15 v1 k0_hw1 k0_h2 X14 X15 k arg16 arg17 arg18 X16 f17) (off27 v1 k) _ rfl _ r j)

theorem after_8 : After arg14 arg15 v1 X14 X15 k arg16 arg17 X16 f17 9 (trip_k0_t4.sl.HW_arg17_9 arg14 arg15 arg16 arg17 arg18 v1 k0_hw1 k0_h2 X14 X15 X16 k f17) := by
  unfold trip_k0_t4.sl.HW_arg17_9
  exact after_succ arg14 arg15 v1 X14 X15 k arg16 arg17 X16 f17 (by omega) (after_7 arg14 arg15 v1 k0_hw1 k0_h2 X14 X15 k arg16 arg17 arg18 X16 f17) (off28 v1 k) _ _ fun r j =>
    (p56 _ _ _ _ _ _).trans (upd_eq arg14 arg15 v1 k0_hw1 k0_h2 X14 X15 k arg16 arg17 arg18 X16 f17 (by omega) (after_7 arg14 arg15 v1 k0_hw1 k0_h2 X14 X15 k arg16 arg17 arg18 X16 f17) (off28 v1 k) _ rfl _ r j)

theorem after_9 : After arg14 arg15 v1 X14 X15 k arg16 arg17 X16 f17 10 (trip_k0_t4.sl.HW_arg17_10 arg14 arg15 arg16 arg17 arg18 v1 k0_hw1 k0_h2 X14 X15 X16 k f17) := by
  unfold trip_k0_t4.sl.HW_arg17_10
  exact after_succ arg14 arg15 v1 X14 X15 k arg16 arg17 X16 f17 (by omega) (after_8 arg14 arg15 v1 k0_hw1 k0_h2 X14 X15 k arg16 arg17 arg18 X16 f17) (off29 v1 k) _ _ fun r j =>
    (p57 _ _ _ _ _ _).trans (upd_eq arg14 arg15 v1 k0_hw1 k0_h2 X14 X15 k arg16 arg17 arg18 X16 f17 (by omega) (after_8 arg14 arg15 v1 k0_hw1 k0_h2 X14 X15 k arg16 arg17 arg18 X16 f17) (off29 v1 k) _ rfl _ r j)

theorem after_10 : After arg14 arg15 v1 X14 X15 k arg16 arg17 X16 f17 11 (trip_k0_t4.sl.HW_arg17_11 arg14 arg15 arg16 arg17 arg18 v1 k0_hw1 k0_h2 X14 X15 X16 k f17) := by
  unfold trip_k0_t4.sl.HW_arg17_11
  exact after_succ arg14 arg15 v1 X14 X15 k arg16 arg17 X16 f17 (by omega) (after_9 arg14 arg15 v1 k0_hw1 k0_h2 X14 X15 k arg16 arg17 arg18 X16 f17) (off30 v1 k) _ _ fun r j =>
    (p58 _ _ _ _ _ _).trans (upd_eq arg14 arg15 v1 k0_hw1 k0_h2 X14 X15 k arg16 arg17 arg18 X16 f17 (by omega) (after_9 arg14 arg15 v1 k0_hw1 k0_h2 X14 X15 k arg16 arg17 arg18 X16 f17) (off30 v1 k) _ rfl _ r j)

theorem after_11 : After arg14 arg15 v1 X14 X15 k arg16 arg17 X16 f17 12 (trip_k0_t4.sl.HW_arg17_12 arg14 arg15 arg16 arg17 arg18 v1 k0_hw1 k0_h2 X14 X15 X16 k f17) := by
  unfold trip_k0_t4.sl.HW_arg17_12
  exact after_succ arg14 arg15 v1 X14 X15 k arg16 arg17 X16 f17 (by omega) (after_10 arg14 arg15 v1 k0_hw1 k0_h2 X14 X15 k arg16 arg17 arg18 X16 f17) (off31 v1 k) _ _ fun r j =>
    (p60 _ _ _ _ _ _).trans (upd_eq arg14 arg15 v1 k0_hw1 k0_h2 X14 X15 k arg16 arg17 arg18 X16 f17 (by omega) (after_10 arg14 arg15 v1 k0_hw1 k0_h2 X14 X15 k arg16 arg17 arg18 X16 f17) (off31 v1 k) _ rfl _ r j)

theorem after_12 : After arg14 arg15 v1 X14 X15 k arg16 arg17 X16 f17 13 (trip_k0_t4.sl.HW_arg17_13 arg14 arg15 arg16 arg17 arg18 v1 k0_hw1 k0_h2 X14 X15 X16 k f17) := by
  unfold trip_k0_t4.sl.HW_arg17_13
  exact after_succ arg14 arg15 v1 X14 X15 k arg16 arg17 X16 f17 (by omega) (after_11 arg14 arg15 v1 k0_hw1 k0_h2 X14 X15 k arg16 arg17 arg18 X16 f17) (off32 v1 k) _ _ fun r j =>
    (p61 _ _ _ _ _ _).trans (upd_eq arg14 arg15 v1 k0_hw1 k0_h2 X14 X15 k arg16 arg17 arg18 X16 f17 (by omega) (after_11 arg14 arg15 v1 k0_hw1 k0_h2 X14 X15 k arg16 arg17 arg18 X16 f17) (off32 v1 k) _ rfl _ r j)

theorem after_13 : After arg14 arg15 v1 X14 X15 k arg16 arg17 X16 f17 14 (trip_k0_t4.sl.HW_arg17_14 arg14 arg15 arg16 arg17 arg18 v1 k0_hw1 k0_h2 X14 X15 X16 k f17) := by
  unfold trip_k0_t4.sl.HW_arg17_14
  exact after_succ arg14 arg15 v1 X14 X15 k arg16 arg17 X16 f17 (by omega) (after_12 arg14 arg15 v1 k0_hw1 k0_h2 X14 X15 k arg16 arg17 arg18 X16 f17) (off33 v1 k) _ _ fun r j =>
    (p62 _ _ _ _ _ _).trans (upd_eq arg14 arg15 v1 k0_hw1 k0_h2 X14 X15 k arg16 arg17 arg18 X16 f17 (by omega) (after_12 arg14 arg15 v1 k0_hw1 k0_h2 X14 X15 k arg16 arg17 arg18 X16 f17) (off33 v1 k) _ rfl _ r j)

theorem after_14 : After arg14 arg15 v1 X14 X15 k arg16 arg17 X16 f17 15 (trip_k0_t4.sl.HW_arg17_15 arg14 arg15 arg16 arg17 arg18 v1 k0_hw1 k0_h2 X14 X15 X16 k f17) := by
  unfold trip_k0_t4.sl.HW_arg17_15
  exact after_succ arg14 arg15 v1 X14 X15 k arg16 arg17 X16 f17 (by omega) (after_13 arg14 arg15 v1 k0_hw1 k0_h2 X14 X15 k arg16 arg17 arg18 X16 f17) (off34 v1 k) _ _ fun r j =>
    (p9 _ _ _ _ _ _).trans (upd_eq arg14 arg15 v1 k0_hw1 k0_h2 X14 X15 k arg16 arg17 arg18 X16 f17 (by omega) (after_13 arg14 arg15 v1 k0_hw1 k0_h2 X14 X15 k arg16 arg17 arg18 X16 f17) (off34 v1 k) _ rfl _ r j)

/-- The accumulator after the trip. -/
theorem trip17 (inb35 inb16) (R : Fin 736) (c : Fin 4096) :
    arg17.view.read (Elt Ideal) (arg17.view.writes (Elt Ideal) f17
      (⟨Rect.unit (s := S736x4096) (k0_off35 v1 k) S256x256.size inb35, k0_pay10 (trip_k0_t4.sl.r_16 (F := Ideal) v1 k) (trip_k0_t4.sl.v285 arg14 arg15 arg18 v1 k0_hw1 k0_h2 X14 X15 k)
            (View.readAt (Elt Ideal) arg16.view (Rect.unit (s := S256x4096) ![0, 3840] S256x256.size inb16).toLoadRect X16)
            (View.readAt (Elt Ideal) arg17.view (Rect.unit (s := S736x4096) (k0_off35 v1 k) S256x256.size inb35).toLoadRect
              (arg17.view.writes (Elt Ideal) f17 (trip_k0_t4.sl.HW_arg17_15 arg14 arg15 arg16 arg17 arg18 v1 k0_hw1 k0_h2 X14 X15 X16 k f17)))⟩ :: trip_k0_t4.sl.HW_arg17_15 arg14 arg15 arg16 arg17 arg18 v1 k0_hw1 k0_h2 X14 X15 X16 k f17)) (ix2 R c)
      = if inBlock v1 k R then accT arg14 arg15 v1 X14 X15 k arg16 arg17 X16 f17 R c else arg17.view.read (Elt Ideal) f17 (ix2 R c) := by
  have h : After arg14 arg15 v1 X14 X15 k arg16 arg17 X16 f17 16 _ := after_succ arg14 arg15 v1 X14 X15 k arg16 arg17 X16 f17 (by omega) (after_14 arg14 arg15 v1 k0_hw1 k0_h2 X14 X15 k arg16 arg17 arg18 X16 f17) (off35 v1 k) inb35 _ fun r j =>
    (p10 _ _ _ _ _ _).trans (upd_eq arg14 arg15 v1 k0_hw1 k0_h2 X14 X15 k arg16 arg17 arg18 X16 f17 (by omega) (after_14 arg14 arg15 v1 k0_hw1 k0_h2 X14 X15 k arg16 arg17 arg18 X16 f17) (off35 v1 k) inb35 rfl inb16 r j)
  refine (h R c).trans ?_
  by_cases hR : inBlock v1 k R
  · rw [if_pos hR, if_pos ⟨hR, by omega⟩]
  · rw [if_neg hR, if_neg (fun h => hR h.1)]

end Cert.KernelIdeal.Hand
-- ==== Proof.Blocks.lean ====
/-
  What the block loop leaves: the codes, the scales and the accumulator of every row in a block.
-/
module

public import proofs.«01_k».proof.Proof.PayRow
public import proofs.«01_k».proof.Proof.PayAcc
public import proofs.«01_k».proof.Proof.Wide
public import proofs.«01_k».proof.Proof.ChkKernelIdeal
public import proofs.«01_k».proof.Proof.TripAcc

@[expose] public section

noncomputable section

namespace Cert.KernelIdeal.Hand

open Cert.KernelIdeal Cert.KernelIdeal.Gen Cert.Spec Cert.Rows
open Idealize.ShloMosaic

set_option maxRecDepth 16384

variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)
  (f : Fin 48) (v1 : BitVec 32) (k0_hw1 : k0_chk1 v1) (k0_h2 : k0_cond2 v1 = 1#1)
  (X14 : BufTy.Contents (Elt Ideal) arg14.view.ty) (X15 : BufTy.Contents (Elt Ideal) arg15.view.ty) (X16 : BufTy.Contents (Elt Ideal) arg16.view.ty)
  (G12 : BufTy.Contents (Elt Ideal) arg12.view.ty) (G13 : BufTy.Contents (Elt Ideal) arg13.view.ty) (G17 : BufTy.Contents (Elt Ideal) arg17.view.ty) (G18 : BufTy.Contents (Elt Ideal) arg18.view.ty)

/-- The stores of the trips before `n`. -/
abbrev pb (n : ℕ) := pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18 n

/-- A row of a trip's block, or of an earlier one, is below the next block. -/
theorem covered (n : ℕ) (hk : n < (k0_t4_loop v1).trips) (R : Fin 736) (h : inBlock v1 ⟨n, hk⟩ R) : R.val < 256 * (n + 1) := by
  have h1 : R.val < min (256 * n) 480 + 256 := h.2
  omega

/-- A row below the next block is of the trip's block or below it. -/
theorem covers (n : ℕ) (hk : n < (k0_t4_loop v1).trips) (R : Fin 736) (h : ¬ inBlock v1 ⟨n, hk⟩ R) : R.val < 256 * (n + 1) ↔ R.val < 256 * n := by
  have h1 : ¬ (min (256 * n) 480 ≤ R.val ∧ R.val < min (256 * n) 480 + 256) := h
  omega

/-- The codes. -/
theorem blocks12 (n : ℕ) (hn : n ≤ (k0_t4_loop v1).trips) (R : Fin 736) (j : Fin 256) :
    arg12.view.read (Elt Ideal) (arg12.view.writes (Elt Ideal) G12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 G17 G18 n).1) (ix3 0 R j)
      = if R.val < 256 * n then codT arg14 arg15 v1 X14 X15 R j else arg12.view.read (Elt Ideal) G12 (ix3 0 R j) := by
  induction n with
  | zero => rw [if_neg (by omega)]; rfl
  | succ n ih =>
    have hk : n < (k0_t4_loop v1).trips := by omega
    have hs := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18 ⟨n, hk⟩
    refine (congrArg (fun z => arg12.view.read (Elt Ideal) (arg12.view.writes (Elt Ideal) G12 z) (ix3 0 R j)) (congrArg (fun z => z.1) hs)).trans ?_
    refine (congrArg (fun z => arg12.view.read (Elt Ideal) z (ix3 0 R j)) (View.writes_append arg12.view G12 _ _)).trans ?_
    unfold tripL_k0_t4 trip_k0_t4
    refine (trip12 arg14 arg15 v1 k0_hw1 k0_h2 X14 X15 ⟨n, hk⟩ arg12 _ _ _ R j).trans ?_
    by_cases hR : inBlock v1 ⟨n, hk⟩ R
    · rw [if_pos hR, if_pos (covered v1 n hk R hR)]
    · rw [if_neg hR]
      refine (ih (by omega)).trans ?_
      by_cases h : R.val < 256 * n
      · rw [if_pos h, if_pos ((covers v1 n hk R hR).mpr h)]
      · rw [if_neg h, if_neg (fun hh => h ((covers v1 n hk R hR).mp hh))]

/-- The scales. -/
theorem blocks13 (n : ℕ) (hn : n ≤ (k0_t4_loop v1).trips) (R : Fin 736) (g : Fin 96) :
    arg13.view.read (Elt Ideal) (arg13.view.writes (Elt Ideal) G13 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 G17 G18 n).2.1) (ix3 0 R g)
      = if R.val < 256 * n then
          if g.val = 2 * f.val + 1 then sclT arg14 arg15 v1 X14 X15 R 1 else if g.val = 2 * f.val then sclT arg14 arg15 v1 X14 X15 R 0
          else arg13.view.read (Elt Ideal) G13 (ix3 0 R g)
        else arg13.view.read (Elt Ideal) G13 (ix3 0 R g) := by
  induction n with
  | zero => rw [if_neg (by omega)]; rfl
  | succ n ih =>
    have hk : n < (k0_t4_loop v1).trips := by omega
    have hs := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18 ⟨n, hk⟩
    refine (congrArg (fun z => arg13.view.read (Elt Ideal) (arg13.view.writes (Elt Ideal) G13 z) (ix3 0 R g)) (congrArg (fun z => z.2.1) hs)).trans ?_
    refine (congrArg (fun z => arg13.view.read (Elt Ideal) z (ix3 0 R g)) (View.writes_append arg13.view G13 _ _)).trans ?_
    unfold tripL_k0_t4 trip_k0_t4
    refine (trip13 arg14 arg15 v1 k0_hw1 k0_h2 X14 X15 ⟨n, hk⟩ f arg13 _ _ R g).trans ?_
    have ih' := ih (by omega)
    by_cases hR : inBlock v1 ⟨n, hk⟩ R
    · rw [if_pos hR, if_pos (covered v1 n hk R hR)]
      by_cases h1 : g.val = 2 * f.val + 1
      · rw [if_pos h1, if_pos h1]
      rw [if_neg h1, if_neg h1]
      by_cases h0 : g.val = 2 * f.val
      · rw [if_pos h0, if_pos h0]
      rw [if_neg h0, if_neg h0]
      refine ih'.trans ?_
      rw [if_neg h1, if_neg h0, ite_self]
    · rw [if_neg hR]
      refine ih'.trans ?_
      by_cases h : R.val < 256 * n
      · rw [if_pos h, if_pos ((covers v1 n hk R hR).mpr h)]
      · rw [if_neg h, if_neg (fun hh => h ((covers v1 n hk R hR).mp hh))]

/-- The accumulator. -/
theorem blocks17 (n : ℕ) (hn : n ≤ (k0_t4_loop v1).trips) (R : Fin 736) (x : Fin 4096) :
    arg17.view.read (Elt Ideal) (arg17.view.writes (Elt Ideal) G17 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 G17 G18 n).2.2.1) (ix2 R x)
      = (if R.val < 256 * n then (arg17.view.read (Elt Ideal) G17 (ix2 R x) + partT arg14 arg15 v1 X14 X15 arg16 X16 R x : EReal)
        else arg17.view.read (Elt Ideal) G17 (ix2 R x) : EReal) := by
  induction n with
  | zero => rw [if_neg (by omega)]; rfl
  | succ n ih =>
    have hk : n < (k0_t4_loop v1).trips := by omega
    have hs := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18 ⟨n, hk⟩
    refine (congrArg (fun z => arg17.view.read (Elt Ideal) (arg17.view.writes (Elt Ideal) G17 z) (ix2 R x)) (congrArg (fun z => z.2.2.1) hs)).trans ?_
    refine (congrArg (fun z => arg17.view.read (Elt Ideal) z (ix2 R x)) (View.writes_append arg17.view G17 _ _)).trans ?_
    unfold tripL_k0_t4 trip_k0_t4
    refine (trip17 arg14 arg15 v1 k0_hw1 k0_h2 X14 X15 ⟨n, hk⟩ arg16 arg17 arg18 X16 _ _ _ R x).trans ?_
    have ih' := ih (by omega)
    by_cases hR : inBlock v1 ⟨n, hk⟩ R
    · rw [if_pos hR, if_pos (covered v1 n hk R hR)]
      unfold accT
      refine (congrArg (fun z : EReal => z + _) ih').trans ?_
      by_cases h : R.val < 256 * n
      · rw [if_pos h, if_neg (show ¬ 256 * n ≤ R.val by omega)]
        exact add_zero _
      · rw [if_neg h, if_pos (show 256 * n ≤ R.val by omega)]
        rfl
    · rw [if_neg hR]
      refine ih'.trans ?_
      by_cases h : R.val < 256 * n
      · rw [if_pos h, if_pos ((covers v1 n hk R hR).mpr h)]
      · rw [if_neg h, if_neg (fun hh => h ((covers v1 n hk R hR).mp hh))]

end Cert.KernelIdeal.Hand
-- ==== Proof.Pass.lean ====
/-
  One pass of the body over a block of hidden columns: what the block loop leaves, from what it found.
-/
module

public import proofs.«01_k».proof.Proof.PayRow
public import proofs.«01_k».proof.Proof.PayAcc
public import proofs.«01_k».proof.Proof.Wide
public import proofs.«01_k».proof.Proof.ChkKernelIdeal
public import proofs.«01_k».proof.Proof.Blocks
public import proofs.«01_k».proof.Proof.PayOut

@[expose] public section

noncomputable section

namespace Cert.KernelIdeal.Hand

open Cert.KernelIdeal Cert.KernelIdeal.Gen Cert.Spec Cert.Rows
open Idealize.ShloMosaic

set_option maxRecDepth 16384

/-- Without a block the count's blocks are none. -/
theorem nb_zero (v : BitVec 32) (h : ¬ k0_cond2 v = 1#1) : nblocks v = 0 := by
  have h1 : ¬ 0 < (Words.blocks v).toInt := fun hp => h (by
    show Scalar.cmpi .ne (Scalar.extui (Scalar.cmpi .sgt (Words.blocks v) 0#32)) 0#32 = 1#1
    have : Scalar.cmpi .sgt (Words.blocks v) 0#32 = 1#1 := by
      rw [show Scalar.cmpi .sgt (Words.blocks v) 0#32 = IntOp.cmpi .sgt (Words.blocks v) 0#32 from rfl, IntOp.cmpi_sgt]; simpa using hp
    rw [this]; decide)
  unfold nblocks; omega

/-- The gate and up columns of a point, from the windows' contents. -/
def bD (i : grid0.Coords) (d5 : Vec Ideal S1x4096x256 .fp8e4m3) (d6 : Vec Ideal S1x32x96 .f32) (d7 : Vec Ideal S1x4096x256 .fp8e4m3) (d8 : Vec Ideal S1x32x96 .f32)
    (K : Fin 4096) (J : Fin 512) : EReal :=
  if h : J.val < 256 then
    (d5 (ix3 0 K ⟨J.val, h⟩) * d6 (ix3 0 ⟨K.val / 128, by omega⟩ ⟨2 * (i 1).val + J.val / 128, by have : (i 1).val < 48 := (i 1).isLt; omega⟩) : EReal)
  else
    (d7 (ix3 0 K ⟨J.val - 256, by omega⟩) * d8 (ix3 0 ⟨K.val / 128, by omega⟩ ⟨2 * (i 1).val + (J.val - 256) / 128, by have : (i 1).val < 48 := (i 1).isLt; omega⟩) : EReal)

/-- The down rows of a point, from the windows' contents. -/
def dD (i : grid0.Coords) (d9 : Vec Ideal S1x256x4096 .fp8e4m3) (d10 : Vec Ideal S1x96x32 .f32) (J : Fin 256) (x : Fin 4096) : EReal :=
  (d9 (ix3 0 J x) * d10 (ix3 0 ⟨2 * (i 1).val + J.val / 128, by have : (i 1).val < 48 := (i 1).isLt; omega⟩ ⟨x.val / 128, by omega⟩) : EReal)

/-- What a point leaves: of the count `v`, the widened rows `a`, the scales `o13` and the sums `o17` it started from, and the
    weight windows. The codes, the two new scales and the new sums; at an expert's last point the sums below the count. -/
structure Step (i : grid0.Coords) (v : BitVec 32) (a : Fin 736 → Fin 4096 → EReal) (o13 : Fin 736 → Fin 96 → EReal) (o17 : Fin 736 → Fin 4096 → EReal)
    (B : Fin 4096 → Fin 512 → EReal) (D : Fin 256 → Fin 4096 → EReal)
    (d11 : Vec Ideal S1x736x4096 .bf16) (d12 : Vec Ideal S1x736x256 .fp8e4m3) (d13 : Vec Ideal S1x736x96 .f32)
    (d14 : Vec Ideal S736x4096 .bf16) (d17 : Vec Ideal S736x4096 .f32) : Prop where
  rowsIn : ∀ (R : Fin 736) (x : Fin 4096), d14 (ix2 R x) = a R x
  codes : ∀ (R : Fin 736) (j : Fin 256), d12 (ix3 0 R j) = cod (okw v R.val) (a R) B j
  scales : ∀ (R : Fin 736) (g : Fin 96), d13 (ix3 0 R g)
    = if R.val < 256 * nblocks v then
        if g.val = 2 * (i 1).val + 1 then scl (below v R.val) (a R) B 1 else if g.val = 2 * (i 1).val then scl (below v R.val) (a R) B 0 else o13 R g
      else o13 R g
  sums : ∀ (R : Fin 736) (x : Fin 4096), d17 (ix2 R x) = o17 R x + part (okw v R.val) (a R) B D x
  out : k0_cond3 i = 1#1 → ∀ (R : Fin 736) (x : Fin 4096), d11 (ix3 0 R x) = Scalar.select (below v R.val) (d17 (ix2 R x)) (0 : EReal)

section

variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)
  (f : Fin 48) (v1 : BitVec 32) (k0_hw1 : k0_chk1 v1) (k0_h2 : k0_cond2 v1 = 1#1)
  (X14 : BufTy.Contents (Elt Ideal) arg14.view.ty) (X15 : BufTy.Contents (Elt Ideal) arg15.view.ty) (X16 : BufTy.Contents (Elt Ideal) arg16.view.ty)
  (G12 : BufTy.Contents (Elt Ideal) arg12.view.ty) (G13 : BufTy.Contents (Elt Ideal) arg13.view.ty) (G17 : BufTy.Contents (Elt Ideal) arg17.view.ty) (G18 : BufTy.Contents (Elt Ideal) arg18.view.ty)

/-- The remainder loop stores nothing. -/
theorem rem_nil (arg1 v38 : BitVec 32) :
    pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 k0_hw1 k0_h2 v38 X14 X15 X16 G12 G13 G17 G18
      (Scf.trips (k0_t5_loop v1).lb (k0_t5_loop v1).ub (k0_t5_loop v1).st) = ([], [], [], []) := by
  have h : Scf.trips (k0_t5_loop v1).lb (k0_t5_loop v1).ub (k0_t5_loop v1).st = 0 := by
    by_contra h; exact no5 v1 ⟨0, Nat.pos_of_ne_zero h⟩
  rw [h]; rfl

/-- The codes after both loops. -/
theorem pass12 (L5 : List (View.Piece (Elt Ideal) S1x736x256 .fp8e4m3)) (h5 : L5 = []) (J : BufTy.Contents (Elt Ideal) arg12.view.ty)
    (I : List (View.Piece (Elt Ideal) S1x736x256 .fp8e4m3)) (a : Fin 736 → Fin 4096 → EReal) (B : Fin 4096 → Fin 512 → EReal)
    (ha : ∀ R x, arg14.view.read (Elt Ideal) X14 (ix2 R x) = a R x) (hB : ∀ x J, arg15.view.read (Elt Ideal) X15 (ix2 x J) = B x J)
    (R : Fin 736) (j : Fin 256) (hI : arg12.view.read (Elt Ideal) (arg12.view.writes (Elt Ideal) J I) (ix3 0 R j) = (0 : EReal)) :
    arg12.view.read (Elt Ideal) (arg12.view.writes (Elt Ideal) J (L5 ++ ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 (arg12.view.writes (Elt Ideal) J I) G13 G17 G18
        (Scf.trips (k0_t4_loop v1).lb (k0_t4_loop v1).ub (k0_t4_loop v1).st)).1 ++ I))) (ix3 0 R j)
      = cod (okw v1 R.val) (a R) B j := by
  subst h5
  have hB' : gu arg15 X15 = B := funext fun x => funext fun J => hB x J
  have ha' : xq arg14 X14 R = a R := funext fun x => ha R x
  refine (congrArg (fun z => arg12.view.read (Elt Ideal) z (ix3 0 R j)) (View.writes_append arg12.view J _ I)).trans ?_
  refine (blocks12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 _ G13 G17 G18 _ (le_refl (k0_t4_loop v1).trips) R j).trans ?_
  rw [trips4]
  unfold okw nblocks codT
  by_cases h : R.val < 256 * (Words.blocks v1).toInt.toNat
  · rw [if_pos h, if_pos h, hB', ha']
  · rw [if_neg h, if_neg h, hI, cod_zero]

/-- The scales after both loops. -/
theorem pass13 (L5 : List (View.Piece (Elt Ideal) S1x736x96 .f32)) (h5 : L5 = []) (a : Fin 736 → Fin 4096 → EReal) (B : Fin 4096 → Fin 512 → EReal)
    (ha : ∀ R x, arg14.view.read (Elt Ideal) X14 (ix2 R x) = a R x) (hB : ∀ x J, arg15.view.read (Elt Ideal) X15 (ix2 x J) = B x J)
    (R : Fin 736) (g : Fin 96) (o : EReal) (ho : arg13.view.read (Elt Ideal) G13 (ix3 0 R g) = o) :
    arg13.view.read (Elt Ideal) (arg13.view.writes (Elt Ideal) G13 (L5 ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18
        (Scf.trips (k0_t4_loop v1).lb (k0_t4_loop v1).ub (k0_t4_loop v1).st)).2.1)) (ix3 0 R g)
      = if R.val < 256 * nblocks v1 then
          if g.val = 2 * f.val + 1 then scl (below v1 R.val) (a R) B 1 else if g.val = 2 * f.val then scl (below v1 R.val) (a R) B 0 else o
        else o := by
  subst h5 ho
  have hB' : gu arg15 X15 = B := funext fun x => funext fun J => hB x J
  have ha' : xq arg14 X14 R = a R := funext fun x => ha R x
  refine (blocks13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 G17 G18 _ (le_refl (k0_t4_loop v1).trips) R g).trans ?_
  rw [trips4]
  unfold nblocks sclT
  rw [hB', ha']

/-- The scales after both loops, from a list of stores. -/
theorem pass13I (L5 : List (View.Piece (Elt Ideal) S1x736x96 .f32)) (h5 : L5 = []) (J : BufTy.Contents (Elt Ideal) arg13.view.ty)
    (I : List (View.Piece (Elt Ideal) S1x736x96 .f32)) (a : Fin 736 → Fin 4096 → EReal) (B : Fin 4096 → Fin 512 → EReal)
    (ha : ∀ R x, arg14.view.read (Elt Ideal) X14 (ix2 R x) = a R x) (hB : ∀ x J, arg15.view.read (Elt Ideal) X15 (ix2 x J) = B x J)
    (R : Fin 736) (g : Fin 96) (o : EReal) (ho : arg13.view.read (Elt Ideal) (arg13.view.writes (Elt Ideal) J I) (ix3 0 R g) = o) :
    arg13.view.read (Elt Ideal) (arg13.view.writes (Elt Ideal) J (L5 ++ ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 (arg13.view.writes (Elt Ideal) J I) G17 G18
        (Scf.trips (k0_t4_loop v1).lb (k0_t4_loop v1).ub (k0_t4_loop v1).st)).2.1 ++ I))) (ix3 0 R g)
      = if R.val < 256 * nblocks v1 then
          if g.val = 2 * f.val + 1 then scl (below v1 R.val) (a R) B 1 else if g.val = 2 * f.val then scl (below v1 R.val) (a R) B 0 else o
        else o := by
  subst h5
  refine (congrArg (fun z => arg13.view.read (Elt Ideal) z (ix3 0 R g)) (View.writes_append arg13.view J _ I)).trans ?_
  exact pass13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 _ G17 G18 [] rfl a B ha hB R g o ho

/-- The sums after both loops. -/
theorem pass17 (L5 : List (View.Piece (Elt Ideal) S736x4096 .f32)) (h5 : L5 = []) (a : Fin 736 → Fin 4096 → EReal) (B : Fin 4096 → Fin 512 → EReal)
    (D : Fin 256 → Fin 4096 → EReal)
    (ha : ∀ R x, arg14.view.read (Elt Ideal) X14 (ix2 R x) = a R x) (hB : ∀ x J, arg15.view.read (Elt Ideal) X15 (ix2 x J) = B x J)
    (hD : ∀ J x, arg16.view.read (Elt Ideal) X16 (ix2 J x) = D J x)
    (R : Fin 736) (x : Fin 4096) (o : EReal) (ho : arg17.view.read (Elt Ideal) G17 (ix2 R x) = o) :
    arg17.view.read (Elt Ideal) (arg17.view.writes (Elt Ideal) G17 (L5 ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 G17 G18
        (Scf.trips (k0_t4_loop v1).lb (k0_t4_loop v1).ub (k0_t4_loop v1).st)).2.2.1)) (ix2 R x)
      = (o + part (okw v1 R.val) (a R) B D x : EReal) := by
  subst h5 ho
  have hB' : gu arg15 X15 = B := funext fun x => funext fun J => hB x J
  have hD' : dw arg16 X16 = D := funext fun J => funext fun x => hD J x
  have ha' : xq arg14 X14 R = a R := funext fun x => ha R x
  refine (blocks17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 G17 G18 _ (le_refl (k0_t4_loop v1).trips) R x).trans ?_
  rw [trips4]
  unfold okw nblocks partT
  by_cases h : R.val < 256 * (Words.blocks v1).toInt.toNat
  · rw [if_pos h, if_pos h, hB', ha', hD']
  · rw [if_neg h, if_neg h, part_zero]
    exact (add_zero (M := EReal) _).symm

/-- The sums after both loops, from a list of stores. -/
theorem pass17I (L5 : List (View.Piece (Elt Ideal) S736x4096 .f32)) (h5 : L5 = []) (J : BufTy.Contents (Elt Ideal) arg17.view.ty)
    (I : List (View.Piece (Elt Ideal) S736x4096 .f32)) (a : Fin 736 → Fin 4096 → EReal) (B : Fin 4096 → Fin 512 → EReal)
    (D : Fin 256 → Fin 4096 → EReal)
    (ha : ∀ R x, arg14.view.read (Elt Ideal) X14 (ix2 R x) = a R x) (hB : ∀ x J, arg15.view.read (Elt Ideal) X15 (ix2 x J) = B x J)
    (hD : ∀ J x, arg16.view.read (Elt Ideal) X16 (ix2 J x) = D J x)
    (R : Fin 736) (x : Fin 4096) (o : EReal) (ho : arg17.view.read (Elt Ideal) (arg17.view.writes (Elt Ideal) J I) (ix2 R x) = o) :
    arg17.view.read (Elt Ideal) (arg17.view.writes (Elt Ideal) J (L5 ++ ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 f.val) v1 k0_hw1 k0_h2 X14 X15 X16 G12 G13 (arg17.view.writes (Elt Ideal) J I) G18
        (Scf.trips (k0_t4_loop v1).lb (k0_t4_loop v1).ub (k0_t4_loop v1).st)).2.2.1 ++ I))) (ix2 R x)
      = (o + part (okw v1 R.val) (a R) B D x : EReal) := by
  subst h5
  refine (congrArg (fun z => arg17.view.read (Elt Ideal) z (ix2 R x)) (View.writes_append arg17.view J _ I)).trans ?_
  exact pass17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f v1 k0_hw1 k0_h2 X14 X15 X16 G12 G13 _ G18 [] rfl a B D ha hB hD R x o ho

end

section

variable (arg11 : Memref sig .tc .vmem S1x736x4096 .bf16) (f11 : BufTy.Contents (Elt Ideal) arg11.view.ty)

/-- The result window after its sixteen stores of 256 columns. -/
theorem cols16 (P0 P1 P2 P3 P4 P5 P6 P7 P8 P9 P10 P11 P12 P13 P14 P15 : Vec Ideal S1x736x256 .bf16) (val : Fin 736 → Fin 4096 → EReal)
    (h0 : ∀ (R : Fin 736) (j : Fin 256), P0 (ix3 0 R j) = val R ⟨0 + j.val, by omega⟩)
    (h1 : ∀ (R : Fin 736) (j : Fin 256), P1 (ix3 0 R j) = val R ⟨256 + j.val, by omega⟩)
    (h2 : ∀ (R : Fin 736) (j : Fin 256), P2 (ix3 0 R j) = val R ⟨512 + j.val, by omega⟩)
    (h3 : ∀ (R : Fin 736) (j : Fin 256), P3 (ix3 0 R j) = val R ⟨768 + j.val, by omega⟩)
    (h4 : ∀ (R : Fin 736) (j : Fin 256), P4 (ix3 0 R j) = val R ⟨1024 + j.val, by omega⟩)
    (h5 : ∀ (R : Fin 736) (j : Fin 256), P5 (ix3 0 R j) = val R ⟨1280 + j.val, by omega⟩)
    (h6 : ∀ (R : Fin 736) (j : Fin 256), P6 (ix3 0 R j) = val R ⟨1536 + j.val, by omega⟩)
    (h7 : ∀ (R : Fin 736) (j : Fin 256), P7 (ix3 0 R j) = val R ⟨1792 + j.val, by omega⟩)
    (h8 : ∀ (R : Fin 736) (j : Fin 256), P8 (ix3 0 R j) = val R ⟨2048 + j.val, by omega⟩)
    (h9 : ∀ (R : Fin 736) (j : Fin 256), P9 (ix3 0 R j) = val R ⟨2304 + j.val, by omega⟩)
    (h10 : ∀ (R : Fin 736) (j : Fin 256), P10 (ix3 0 R j) = val R ⟨2560 + j.val, by omega⟩)
    (h11 : ∀ (R : Fin 736) (j : Fin 256), P11 (ix3 0 R j) = val R ⟨2816 + j.val, by omega⟩)
    (h12 : ∀ (R : Fin 736) (j : Fin 256), P12 (ix3 0 R j) = val R ⟨3072 + j.val, by omega⟩)
    (h13 : ∀ (R : Fin 736) (j : Fin 256), P13 (ix3 0 R j) = val R ⟨3328 + j.val, by omega⟩)
    (h14 : ∀ (R : Fin 736) (j : Fin 256), P14 (ix3 0 R j) = val R ⟨3584 + j.val, by omega⟩)
    (h15 : ∀ (R : Fin 736) (j : Fin 256), P15 (ix3 0 R j) = val R ⟨3840 + j.val, by omega⟩)
    (R : Fin 736) (x : Fin 4096) :
    arg11.view.read (Elt Ideal) (arg11.view.writes (Elt Ideal) f11 [
      ⟨Rect.unit (s := S1x736x4096) ![0, 0, 3840] S1x736x256.size inb_S1x736x4096_S1x736x256_0_0_3840, P15⟩,
      ⟨Rect.unit (s := S1x736x4096) ![0, 0, 3584] S1x736x256.size inb_S1x736x4096_S1x736x256_0_0_3584, P14⟩,
      ⟨Rect.unit (s := S1x736x4096) ![0, 0, 3328] S1x736x256.size inb_S1x736x4096_S1x736x256_0_0_3328, P13⟩,
      ⟨Rect.unit (s := S1x736x4096) ![0, 0, 3072] S1x736x256.size inb_S1x736x4096_S1x736x256_0_0_3072, P12⟩,
      ⟨Rect.unit (s := S1x736x4096) ![0, 0, 2816] S1x736x256.size inb_S1x736x4096_S1x736x256_0_0_2816, P11⟩,
      ⟨Rect.unit (s := S1x736x4096) ![0, 0, 2560] S1x736x256.size inb_S1x736x4096_S1x736x256_0_0_2560, P10⟩,
      ⟨Rect.unit (s := S1x736x4096) ![0, 0, 2304] S1x736x256.size inb_S1x736x4096_S1x736x256_0_0_2304, P9⟩,
      ⟨Rect.unit (s := S1x736x4096) ![0, 0, 2048] S1x736x256.size inb_S1x736x4096_S1x736x256_0_0_2048, P8⟩,
      ⟨Rect.unit (s := S1x736x4096) ![0, 0, 1792] S1x736x256.size inb_S1x736x4096_S1x736x256_0_0_1792, P7⟩,
      ⟨Rect.unit (s := S1x736x4096) ![0, 0, 1536] S1x736x256.size inb_S1x736x4096_S1x736x256_0_0_1536, P6⟩,
      ⟨Rect.unit (s := S1x736x4096) ![0, 0, 1280] S1x736x256.size inb_S1x736x4096_S1x736x256_0_0_1280, P5⟩,
      ⟨Rect.unit (s := S1x736x4096) ![0, 0, 1024] S1x736x256.size inb_S1x736x4096_S1x736x256_0_0_1024, P4⟩,
      ⟨Rect.unit (s := S1x736x4096) ![0, 0, 768] S1x736x256.size inb_S1x736x4096_S1x736x256_0_0_768, P3⟩,
      ⟨Rect.unit (s := S1x736x4096) ![0, 0, 512] S1x736x256.size inb_S1x736x4096_S1x736x256_0_0_512, P2⟩,
      ⟨Rect.unit (s := S1x736x4096) ![0, 0, 256] S1x736x256.size inb_S1x736x4096_S1x736x256_0_0_256, P1⟩,
      ⟨Rect.unit (s := S1x736x4096) ![0, 0, 0] S1x736x256.size inb_S1x736x4096_S1x736x256_0_0_0, P0⟩]) (ix3 0 R x) = val R x := by
  have hx := x.isLt
  by_cases c15 : 3840 ≤ x.val
  · refine (View.read_writes_cons_unit_of_mem arg11.view f11 _ _ _ (ix3 0 R x) (ix3 0 R ⟨x.val - 3840, by omega⟩) rfl (fin3 rfl (by simp [ix3]) (by simp [ix3]; omega))).trans ?_
    refine (h15 R _).trans (congrArg (val R) (Fin.ext ?_))
    show 3840 + (x.val - 3840) = x.val; omega
  refine (View.read_writes_cons_unit_of_not_mem arg11.view f11 _ _ _ (ix3 0 R x) rfl 2 (Or.inl (by simp [ix3]; omega))).trans ?_
  by_cases c14 : 3584 ≤ x.val
  · refine (View.read_writes_cons_unit_of_mem arg11.view f11 _ _ _ (ix3 0 R x) (ix3 0 R ⟨x.val - 3584, by omega⟩) rfl (fin3 rfl (by simp [ix3]) (by simp [ix3]; omega))).trans ?_
    refine (h14 R _).trans (congrArg (val R) (Fin.ext ?_))
    show 3584 + (x.val - 3584) = x.val; omega
  refine (View.read_writes_cons_unit_of_not_mem arg11.view f11 _ _ _ (ix3 0 R x) rfl 2 (Or.inl (by simp [ix3]; omega))).trans ?_
  by_cases c13 : 3328 ≤ x.val
  · refine (View.read_writes_cons_unit_of_mem arg11.view f11 _ _ _ (ix3 0 R x) (ix3 0 R ⟨x.val - 3328, by omega⟩) rfl (fin3 rfl (by simp [ix3]) (by simp [ix3]; omega))).trans ?_
    refine (h13 R _).trans (congrArg (val R) (Fin.ext ?_))
    show 3328 + (x.val - 3328) = x.val; omega
  refine (View.read_writes_cons_unit_of_not_mem arg11.view f11 _ _ _ (ix3 0 R x) rfl 2 (Or.inl (by simp [ix3]; omega))).trans ?_
  by_cases c12 : 3072 ≤ x.val
  · refine (View.read_writes_cons_unit_of_mem arg11.view f11 _ _ _ (ix3 0 R x) (ix3 0 R ⟨x.val - 3072, by omega⟩) rfl (fin3 rfl (by simp [ix3]) (by simp [ix3]; omega))).trans ?_
    refine (h12 R _).trans (congrArg (val R) (Fin.ext ?_))
    show 3072 + (x.val - 3072) = x.val; omega
  refine (View.read_writes_cons_unit_of_not_mem arg11.view f11 _ _ _ (ix3 0 R x) rfl 2 (Or.inl (by simp [ix3]; omega))).trans ?_
  by_cases c11 : 2816 ≤ x.val
  · refine (View.read_writes_cons_unit_of_mem arg11.view f11 _ _ _ (ix3 0 R x) (ix3 0 R ⟨x.val - 2816, by omega⟩) rfl (fin3 rfl (by simp [ix3]) (by simp [ix3]; omega))).trans ?_
    refine (h11 R _).trans (congrArg (val R) (Fin.ext ?_))
    show 2816 + (x.val - 2816) = x.val; omega
  refine (View.read_writes_cons_unit_of_not_mem arg11.view f11 _ _ _ (ix3 0 R x) rfl 2 (Or.inl (by simp [ix3]; omega))).trans ?_
  by_cases c10 : 2560 ≤ x.val
  · refine (View.read_writes_cons_unit_of_mem arg11.view f11 _ _ _ (ix3 0 R x) (ix3 0 R ⟨x.val - 2560, by omega⟩) rfl (fin3 rfl (by simp [ix3]) (by simp [ix3]; omega))).trans ?_
    refine (h10 R _).trans (congrArg (val R) (Fin.ext ?_))
    show 2560 + (x.val - 2560) = x.val; omega
  refine (View.read_writes_cons_unit_of_not_mem arg11.view f11 _ _ _ (ix3 0 R x) rfl 2 (Or.inl (by simp [ix3]; omega))).trans ?_
  by_cases c9 : 2304 ≤ x.val
  · refine (View.read_writes_cons_unit_of_mem arg11.view f11 _ _ _ (ix3 0 R x) (ix3 0 R ⟨x.val - 2304, by omega⟩) rfl (fin3 rfl (by simp [ix3]) (by simp [ix3]; omega))).trans ?_
    refine (h9 R _).trans (congrArg (val R) (Fin.ext ?_))
    show 2304 + (x.val - 2304) = x.val; omega
  refine (View.read_writes_cons_unit_of_not_mem arg11.view f11 _ _ _ (ix3 0 R x) rfl 2 (Or.inl (by simp [ix3]; omega))).trans ?_
  by_cases c8 : 2048 ≤ x.val
  · refine (View.read_writes_cons_unit_of_mem arg11.view f11 _ _ _ (ix3 0 R x) (ix3 0 R ⟨x.val - 2048, by omega⟩) rfl (fin3 rfl (by simp [ix3]) (by simp [ix3]; omega))).trans ?_
    refine (h8 R _).trans (congrArg (val R) (Fin.ext ?_))
    show 2048 + (x.val - 2048) = x.val; omega
  refine (View.read_writes_cons_unit_of_not_mem arg11.view f11 _ _ _ (ix3 0 R x) rfl 2 (Or.inl (by simp [ix3]; omega))).trans ?_
  by_cases c7 : 1792 ≤ x.val
  · refine (View.read_writes_cons_unit_of_mem arg11.view f11 _ _ _ (ix3 0 R x) (ix3 0 R ⟨x.val - 1792, by omega⟩) rfl (fin3 rfl (by simp [ix3]) (by simp [ix3]; omega))).trans ?_
    refine (h7 R _).trans (congrArg (val R) (Fin.ext ?_))
    show 1792 + (x.val - 1792) = x.val; omega
  refine (View.read_writes_cons_unit_of_not_mem arg11.view f11 _ _ _ (ix3 0 R x) rfl 2 (Or.inl (by simp [ix3]; omega))).trans ?_
  by_cases c6 : 1536 ≤ x.val
  · refine (View.read_writes_cons_unit_of_mem arg11.view f11 _ _ _ (ix3 0 R x) (ix3 0 R ⟨x.val - 1536, by omega⟩) rfl (fin3 rfl (by simp [ix3]) (by simp [ix3]; omega))).trans ?_
    refine (h6 R _).trans (congrArg (val R) (Fin.ext ?_))
    show 1536 + (x.val - 1536) = x.val; omega
  refine (View.read_writes_cons_unit_of_not_mem arg11.view f11 _ _ _ (ix3 0 R x) rfl 2 (Or.inl (by simp [ix3]; omega))).trans ?_
  by_cases c5 : 1280 ≤ x.val
  · refine (View.read_writes_cons_unit_of_mem arg11.view f11 _ _ _ (ix3 0 R x) (ix3 0 R ⟨x.val - 1280, by omega⟩) rfl (fin3 rfl (by simp [ix3]) (by simp [ix3]; omega))).trans ?_
    refine (h5 R _).trans (congrArg (val R) (Fin.ext ?_))
    show 1280 + (x.val - 1280) = x.val; omega
  refine (View.read_writes_cons_unit_of_not_mem arg11.view f11 _ _ _ (ix3 0 R x) rfl 2 (Or.inl (by simp [ix3]; omega))).trans ?_
  by_cases c4 : 1024 ≤ x.val
  · refine (View.read_writes_cons_unit_of_mem arg11.view f11 _ _ _ (ix3 0 R x) (ix3 0 R ⟨x.val - 1024, by omega⟩) rfl (fin3 rfl (by simp [ix3]) (by simp [ix3]; omega))).trans ?_
    refine (h4 R _).trans (congrArg (val R) (Fin.ext ?_))
    show 1024 + (x.val - 1024) = x.val; omega
  refine (View.read_writes_cons_unit_of_not_mem arg11.view f11 _ _ _ (ix3 0 R x) rfl 2 (Or.inl (by simp [ix3]; omega))).trans ?_
  by_cases c3 : 768 ≤ x.val
  · refine (View.read_writes_cons_unit_of_mem arg11.view f11 _ _ _ (ix3 0 R x) (ix3 0 R ⟨x.val - 768, by omega⟩) rfl (fin3 rfl (by simp [ix3]) (by simp [ix3]; omega))).trans ?_
    refine (h3 R _).trans (congrArg (val R) (Fin.ext ?_))
    show 768 + (x.val - 768) = x.val; omega
  refine (View.read_writes_cons_unit_of_not_mem arg11.view f11 _ _ _ (ix3 0 R x) rfl 2 (Or.inl (by simp [ix3]; omega))).trans ?_
  by_cases c2 : 512 ≤ x.val
  · refine (View.read_writes_cons_unit_of_mem arg11.view f11 _ _ _ (ix3 0 R x) (ix3 0 R ⟨x.val - 512, by omega⟩) rfl (fin3 rfl (by simp [ix3]) (by simp [ix3]; omega))).trans ?_
    refine (h2 R _).trans (congrArg (val R) (Fin.ext ?_))
    show 512 + (x.val - 512) = x.val; omega
  refine (View.read_writes_cons_unit_of_not_mem arg11.view f11 _ _ _ (ix3 0 R x) rfl 2 (Or.inl (by simp [ix3]; omega))).trans ?_
  by_cases c1 : 256 ≤ x.val
  · refine (View.read_writes_cons_unit_of_mem arg11.view f11 _ _ _ (ix3 0 R x) (ix3 0 R ⟨x.val - 256, by omega⟩) rfl (fin3 rfl (by simp [ix3]) (by simp [ix3]; omega))).trans ?_
    refine (h1 R _).trans (congrArg (val R) (Fin.ext ?_))
    show 256 + (x.val - 256) = x.val; omega
  refine (View.read_writes_cons_unit_of_not_mem arg11.view f11 _ _ _ (ix3 0 R x) rfl 2 (Or.inl (by simp [ix3]; omega))).trans ?_
  refine (View.read_writes_cons_unit_of_mem arg11.view f11 _ _ _ (ix3 0 R x) (ix3 0 R ⟨x.val, by omega⟩) rfl (fin3 rfl (by simp [ix3]) (by simp [ix3]))).trans ?_
  refine (h0 R _).trans (congrArg (val R) (Fin.ext ?_))
  show 0 + x.val = x.val; omega

end

end Cert.KernelIdeal.Hand
-- ==== Proof.Ends.lean ====
/-
  The ends of a pass: the widened buffers in terms of the windows, the first stores of an expert, and the masked columns of the result.
-/
module

public import proofs.«01_k».proof.Proof.PayRow
public import proofs.«01_k».proof.Proof.PayAcc
public import proofs.«01_k».proof.Proof.Wide
public import proofs.«01_k».proof.Proof.ChkKernelIdeal
public import proofs.«01_k».proof.Proof.Pass

@[expose] public section

noncomputable section

namespace Cert.KernelIdeal.Hand

open Cert.KernelIdeal Cert.KernelIdeal.Gen Cert.Spec Cert.Rows
open Idealize.ShloMosaic

set_option maxRecDepth 16384

section

variable (𝒱 : Variants) (c : Dev nD) (bd : Option 𝒱.V) (i : grid0.Coords) (arg2 : Memref sig .tc .smem S7 .i32) (harg2 : arg2.IsWhole) (arg3 : Memref sig .tc .vmem S1x736x4096 .fp8e4m3) (harg3 : arg3.IsWhole) (arg4 : Memref sig .tc .vmem S1x736x32 .f32) (harg4 : arg4.IsWhole) (arg5 : Memref sig .tc .vmem S1x4096x256 .fp8e4m3) (harg5 : arg5.IsWhole) (arg6 : Memref sig .tc .smem S1x32x96 .f32) (harg6 : arg6.IsWhole) (arg7 : Memref sig .tc .vmem S1x4096x256 .fp8e4m3) (harg7 : arg7.IsWhole) (arg8 : Memref sig .tc .smem S1x32x96 .f32) (harg8 : arg8.IsWhole) (arg9 : Memref sig .tc .vmem S1x256x4096 .fp8e4m3) (harg9 : arg9.IsWhole) (arg10 : Memref sig .tc .smem S1x96x32 .f32) (harg10 : arg10.IsWhole) (arg11 : Memref sig .tc .vmem S1x736x4096 .bf16) (harg11 : arg11.IsWhole) (arg12 : Memref sig .tc .vmem S1x736x256 .fp8e4m3) (harg12 : arg12.IsWhole) (arg13 : Memref sig .tc .vmem S1x736x96 .f32) (harg13 : arg13.IsWhole) (arg14 : Memref sig .tc .vmem S736x4096 .bf16) (harg14 : arg14.IsWhole) (arg15 : Memref sig .tc .vmem S4096x512 .bf16) (harg15 : arg15.IsWhole) (arg16 : Memref sig .tc .vmem S256x4096 .bf16) (harg16 : arg16.IsWhole) (arg17 : Memref sig .tc .vmem S736x4096 .f32) (harg17 : arg17.IsWhole) (arg18 : Memref sig .tc .vmem S256x256 .bf16) (harg18 : arg18.IsWhole)

/-- The widened activations. -/
theorem actIn (h1 : k0_cond1 i = 1#1) (X3 : BufTy.Contents (Elt Ideal) arg3.view.ty) (X4 : BufTy.Contents (Elt Ideal) arg4.view.ty) (G : BufTy.Contents (Elt Ideal) arg14.view.ty)
    (R : Fin 736) (x : Fin 4096) :
    arg14.view.read (Elt Ideal) (arg14.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X3 X4 (Scf.trips k0_t1_loop.lb k0_t1_loop.ub k0_t1_loop.st))) (ix2 R x)
      = (arg3.view.read (Elt Ideal) X3 (ix3 0 R x) * arg4.view.read (Elt Ideal) X4 (ix3 0 R ⟨x.val / 128, by omega⟩) : EReal) := by
  have h : Scf.trips k0_t1_loop.lb k0_t1_loop.ub k0_t1_loop.st = 32 := by decide
  rw [h]
  exact wide1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X3 X4 G 32 (by omega) R x (by omega)

/-- The widened gate and up columns. -/
theorem gateIn (arg1 : BitVec 32) (X5 : BufTy.Contents (Elt Ideal) arg5.view.ty) (X6 : BufTy.Contents (Elt Ideal) arg6.view.ty) (X7 : BufTy.Contents (Elt Ideal) arg7.view.ty)
    (X8 : BufTy.Contents (Elt Ideal) arg8.view.ty) (G : BufTy.Contents (Elt Ideal) arg15.view.ty) (K : Fin 4096) (J : Fin 512) :
    arg15.view.read (Elt Ideal) (arg15.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X5 X6 X7 X8 (Scf.trips k0_t2_loop.lb k0_t2_loop.ub k0_t2_loop.st))) (ix2 K J)
      = bD i (arg5.view.read (Elt Ideal) X5) (arg6.view.read (Elt Ideal) X6) (arg7.view.read (Elt Ideal) X7) (arg8.view.read (Elt Ideal) X8) K J := by
  have h : Scf.trips k0_t2_loop.lb k0_t2_loop.ub k0_t2_loop.st = 32 := by decide
  rw [h]
  exact wide2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X5 X6 X7 X8 G 32 (by omega) K J (by omega)

/-- The widened down rows. -/
theorem downIn (X9 : BufTy.Contents (Elt Ideal) arg9.view.ty) (X10 : BufTy.Contents (Elt Ideal) arg10.view.ty) (G : BufTy.Contents (Elt Ideal) arg16.view.ty)
    (J : Fin 256) (x : Fin 4096) :
    arg16.view.read (Elt Ideal) (arg16.view.writes (Elt Ideal) G (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X9 X10 (Scf.trips k0_t3_loop.lb k0_t3_loop.ub k0_t3_loop.st))) (ix2 J x)
      = dD i (arg9.view.read (Elt Ideal) X9) (arg10.view.read (Elt Ideal) X10) J x := by
  have h : Scf.trips k0_t3_loop.lb k0_t3_loop.ub k0_t3_loop.st = 32 := by decide
  rw [h]
  exact wide3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X9 X10 G 32 (by omega) J x (by omega)

/-- The codes start at zero. -/
theorem init12 (G : BufTy.Contents (Elt Ideal) arg12.view.ty) (R : Fin 736) (j : Fin 256) :
    arg12.view.read (Elt Ideal) (arg12.view.writes (Elt Ideal) G [⟨Rect.unit (s := S1x736x256) ![0, 0, 0] S1x736x256.size inb_S1x736x256_S1x736x256_0_0_0, k0_pay4 (F := Ideal)⟩]) (ix3 0 R j)
      = (0 : EReal) :=
  (View.read_writes_cons_unit_of_mem arg12.view G _ _ _ (ix3 0 R j) (ix3 0 R j) rfl (fin3 rfl (by simp [ix3]) (by simp [ix3]))).trans (p4 R j)

/-- The scales start at one. -/
theorem init13 (G : BufTy.Contents (Elt Ideal) arg13.view.ty) (R : Fin 736) (g : Fin 96) :
    arg13.view.read (Elt Ideal) (arg13.view.writes (Elt Ideal) G [⟨Rect.unit (s := S1x736x96) ![0, 0, 0] S1x736x96.size inb_S1x736x96_S1x736x96_0_0_0, k0_pay2 (F := Ideal)⟩]) (ix3 0 R g)
      = (1 : EReal) :=
  (View.read_writes_cons_unit_of_mem arg13.view G _ _ _ (ix3 0 R g) (ix3 0 R g) rfl (fin3 rfl (by simp [ix3]) (by simp [ix3]))).trans (p2 R g)

/-- The sums start at zero. -/
theorem init17 (G : BufTy.Contents (Elt Ideal) arg17.view.ty) (R : Fin 736) (x : Fin 4096) :
    arg17.view.read (Elt Ideal) (arg17.view.writes (Elt Ideal) G [⟨Rect.unit (s := S736x4096) ![0, 0] S736x4096.size inb_S736x4096_S736x4096_0_0, k0_pay1 (F := Ideal)⟩]) (ix2 R x)
      = (0 : EReal) :=
  (View.read_writes_cons_unit_of_mem arg17.view G _ _ _ (ix2 R x) (ix2 R x) rfl (fin2 (by simp [ix2]) (by simp [ix2]))).trans (p1 R x)

/-- The masked sums of 256 columns, from the sums' buffer. -/
theorem maskLd (v1 : BitVec 32) (F17 : BufTy.Contents (Elt Ideal) arg17.view.ty) (n : ℕ) (hn : n + 256 ≤ 4096)
    (inb : ∀ a, (![0, n] : Fin 2 → ℕ) a + S736x256.size a ≤ S736x4096.size a) (R : Fin 736) (j : Fin 256) :
    masked v1 (arg17.view.readAt (Elt Ideal) (Rect.unit (s := S736x4096) ![0, n] S736x256.size inb).toLoadRect F17) R j
      = Scalar.select (below v1 R.val) (arg17.view.read (Elt Ideal) F17 (ix2 R ⟨n + j.val, by omega⟩)) (0 : EReal) := by
  unfold masked
  refine congrArg (fun z : EReal => Scalar.select (below v1 R.val) z (0 : EReal)) ?_
  exact ld_at arg17.view F17 _ (ix2 R j) (ix2 R ⟨n + j.val, by omega⟩) rfl (fin2 (by simp [ix2]) (by simp [ix2]))

end

/-- An expert's first point is not its last. -/
theorem first_not_last (i : grid0.Coords) (h1 : k0_cond1 i = 1#1) (h3 : k0_cond3 i = 1#1) : False := by
  have h : ∀ f : Fin 48, Scalar.cmpi .ne (Scalar.extui (Scalar.cmpi .eq (BitVec.ofNat 32 f.val) 0#32) : BitVec 32) 0#32 = 1#1 →
      Scalar.cmpi .ne (Scalar.extui (Scalar.cmpi .eq (BitVec.ofNat 32 f.val) 47#32) : BitVec 32) 0#32 = 1#1 → False := by decide +kernel
  exact h (i 1) h1 h3

end Cert.KernelIdeal.Hand
-- ==== Proof.RunBase.lean ====
/-
  The word a point reads from the table, and rows of an expert without a block.
-/
module

public import proofs.«01_k».proof.Proof.Ends
public import proofs.«01_k».proof.Proof.BodyKernelIdeal

@[expose] public section

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The count a point reads from the table. -/
abbrev word (c : Dev nD) (i : grid0.Coords) (arg2 : Memref sig .tc .smem S7 .i32) (ft : Buf (Elt Ideal) (arg2.view.loc (c : Thread nD τ))) : BitVec 32 :=
  runFirst.sl.r (F := Ideal) c i arg2 ft

/-- Without a block no row is valid. -/
theorem okw_zero (v : BitVec 32) (h : nblocks v = 0) (R : ℕ) : okw v R = 0#1 := by
  unfold okw; rw [h]; exact if_neg (by omega)

/-- Without a block every code is zero. -/
theorem okw_none (v : BitVec 32) (h : nblocks v = 0) (R : ℕ) (a : Fin 4096 → EReal) (B : Fin 4096 → Fin 512 → EReal) (j : Fin 256) :
    cod (okw v R) a B j = 0 ∧ True := by
  rw [okw_zero v h]; exact ⟨cod_zero a B j, trivial⟩

/-- Without a block nothing is added. -/
theorem part_none (v : BitVec 32) (h : nblocks v = 0) (R : ℕ) (a : Fin 4096 → EReal) (B : Fin 4096 → Fin 512 → EReal) (D : Fin 256 → Fin 4096 → EReal) (x : Fin 4096)
    (o : EReal) : o + part (okw v R) a B D x = o := by
  rw [okw_zero v h, part_zero]; exact add_zero o

end Cert.KernelIdeal.Hand

end
-- ==== Proof.Geo.lean ====
/-
  The windows at coordinates: the grid's points, where an output block is written back and what an input window holds.
-/
module

public import proofs.«01_k».proof.Proof.FrameKernelIdeal
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat RDat)

/-- Point `t` of the grid is expert `t / 48`. -/
theorem g0 : ∀ t : Fin grid0.N, (grid0.coords t 0).val = t.val / 48 := by decide +kernel

/-- Point `t` of the grid is slice `t % 48` of the intermediate columns. -/
theorem g1 : ∀ t : Fin grid0.N, (grid0.coords t 1).val = t.val % 48 := by decide +kernel

variable (m : (ℓ : Loc nD τ sig) → Buf (Elt Ideal) ℓ)

/-- Launch contents at which facts of the windows are decided; the windows are the same at every launch contents. -/
def mz : (ℓ : Loc nD τ sig) → Buf (Elt Ideal) ℓ := fun _ => Classical.choice inferInstance

/-- The first result's block is written back at an expert's last slice. -/
theorem flush8 (t : Fin grid0.N) : ((pcfg m).win 8).flush t = true → t.val % 48 = 47 :=
  (by decide +kernel : ∀ t : Fin grid0.N, ((pcfg mz).win 8).flush t = true → t.val % 48 = 47) t
/-- The third result's block is written back at an expert's last slice. -/
theorem flush10 (t : Fin grid0.N) : ((pcfg m).win 10).flush t = true → t.val % 48 = 47 :=
  (by decide +kernel : ∀ t : Fin grid0.N, ((pcfg mz).win 10).flush t = true → t.val % 48 = 47) t

/-- The blocks written back cover the first result. -/
theorem cov8 : ((pcfg m).win 8).Covers := (by decide +kernel : ((pcfg mz).win 8).Covers)
/-- The blocks written back cover the second result. -/
theorem cov9 : ((pcfg m).win 9).Covers := (by decide +kernel : ((pcfg mz).win 9).Covers)
/-- The blocks written back cover the third result. -/
theorem cov10 : ((pcfg m).win 10).Covers := (by decide +kernel : ((pcfg mz).win 10).Covers)

/-- A block filled by a fetch, read where the fetch moved. -/
theorem fill_moved {G : Pipeline.Grid} (w : Pipeline.Window sig G) {α : Type} (i : G.Coords) (d : w.block.Idx → α) (g : (w.xblock i).Idx → α)
    (j : w.block.Idx) (hj : ∀ a, (j a).val < w.xsize i a) : w.fill i d g j = g fun a => ⟨(j a).val, hj a⟩ := by
  unfold Pipeline.Window.fill
  rw [dif_pos ((w.moved_iff i j).mpr hj)]

/-- Window 0's block at a point, read at coordinates. -/
theorem in0 (c : Dev nD) (A : Buf (Elt Ideal) ((c : Thread nD τ).loc main_arg0)) (t : Fin grid0.N) (d : S1x736x4096.Idx → Elt Ideal .fp8e4m3) (r : Fin 732) (k : Fin 4096) :
    (((pcfg m).win 0).fill (grid0.coords t) d ((((pcfg m).win 0).blk t).view.read (Elt Ideal) A) : S1x736x4096.Idx → Elt Ideal .fp8e4m3) (ix3 0 (r.castLE (by decide)) k)
      = A (ix3 (grid0.coords t 0) r k) := by
  have hx := (by decide +kernel : ∀ t : Fin grid0.N, ∀ a : Fin 3, ((pcfg mz).win 0).xsize (grid0.coords t) a = ![1, 732, 4096] a) t
  have hi := (by decide +kernel : ∀ t : Fin grid0.N, ∀ a : Fin 3, ((pcfg mz).win 0).index t a = ![(grid0.coords t 0).val, 0, 0] a) t
  have hj : ∀ a : Fin 3, ((ix3 0 (r.castLE (by decide)) k : S1x736x4096.Idx) a).val < ((pcfg m).win 0).xsize (grid0.coords t) a := fun a => by
    refine lt_of_lt_of_eq ?_ (hx a).symm
    match a with
    | 0 => exact Nat.one_pos
    | 1 => exact r.isLt
    | 2 => exact k.isLt
  refine (fill_moved ((pcfg m).win 0) (grid0.coords t) d _ (ix3 0 (r.castLE (by decide)) k : S1x736x4096.Idx) hj).trans ?_
  refine congrArg A (funext fun (a : Fin 3) => Fin.ext ?_)
  refine (((pcfg m).win 0).rect_emb_val t _ a rfl).trans ?_
  refine (congrArg (· * _ + _) (hi a)).trans ?_
  match a with
  | 0 => show (grid0.coords t 0).val * 1 + 0 = (grid0.coords t 0).val; omega
  | 1 => show 0 * 736 + r.val = r.val; omega
  | 2 => show 0 * 4096 + k.val = k.val; omega

/-- Window 1's block at a point, read at coordinates. -/
theorem in1 (c : Dev nD) (A : Buf (Elt Ideal) ((c : Thread nD τ).loc main_arg1)) (t : Fin grid0.N) (d : S1x736x32.Idx → Elt Ideal .f32) (r : Fin 732) (k : Fin 32) :
    (((pcfg m).win 1).fill (grid0.coords t) d ((((pcfg m).win 1).blk t).view.read (Elt Ideal) A) : S1x736x32.Idx → Elt Ideal .f32) (ix3 0 (r.castLE (by decide)) k)
      = A (ix3 (grid0.coords t 0) r k) := by
  have hx := (by decide +kernel : ∀ t : Fin grid0.N, ∀ a : Fin 3, ((pcfg mz).win 1).xsize (grid0.coords t) a = ![1, 732, 32] a) t
  have hi := (by decide +kernel : ∀ t : Fin grid0.N, ∀ a : Fin 3, ((pcfg mz).win 1).index t a = ![(grid0.coords t 0).val, 0, 0] a) t
  have hj : ∀ a : Fin 3, ((ix3 0 (r.castLE (by decide)) k : S1x736x32.Idx) a).val < ((pcfg m).win 1).xsize (grid0.coords t) a := fun a => by
    refine lt_of_lt_of_eq ?_ (hx a).symm
    match a with
    | 0 => exact Nat.one_pos
    | 1 => exact r.isLt
    | 2 => exact k.isLt
  refine (fill_moved ((pcfg m).win 1) (grid0.coords t) d _ (ix3 0 (r.castLE (by decide)) k : S1x736x32.Idx) hj).trans ?_
  refine congrArg A (funext fun (a : Fin 3) => Fin.ext ?_)
  refine (((pcfg m).win 1).rect_emb_val t _ a rfl).trans ?_
  refine (congrArg (· * _ + _) (hi a)).trans ?_
  match a with
  | 0 => show (grid0.coords t 0).val * 1 + 0 = (grid0.coords t 0).val; omega
  | 1 => show 0 * 736 + r.val = r.val; omega
  | 2 => show 0 * 32 + k.val = k.val; omega

/-- Window 2's block at a point, read at coordinates. -/
theorem in2 (c : Dev nD) (A : Buf (Elt Ideal) ((c : Thread nD τ).loc main_arg3)) (t : Fin grid0.N) (d : S1x4096x256.Idx → Elt Ideal .fp8e4m3) (r : Fin 4096) (k : Fin 256) :
    (((pcfg m).win 2).fill (grid0.coords t) d ((((pcfg m).win 2).blk t).view.read (Elt Ideal) A) : S1x4096x256.Idx → Elt Ideal .fp8e4m3) (ix3 0 r k)
      = A (ix3 (grid0.coords t 0) r ⟨256 * (grid0.coords t 1).val + k.val, by have := (grid0.coords t 1).isLt; have : (grid0.coords t 1).val < 48 := this; omega⟩) := by
  have hx := (by decide +kernel : ∀ t : Fin grid0.N, ∀ a : Fin 3, ((pcfg mz).win 2).xsize (grid0.coords t) a = ![1, 4096, 256] a) t
  have hi := (by decide +kernel : ∀ t : Fin grid0.N, ∀ a : Fin 3, ((pcfg mz).win 2).index t a = ![(grid0.coords t 0).val, 0, (grid0.coords t 1).val] a) t
  have hj : ∀ a : Fin 3, ((ix3 0 r k : S1x4096x256.Idx) a).val < ((pcfg m).win 2).xsize (grid0.coords t) a := fun a => by
    refine lt_of_lt_of_eq ?_ (hx a).symm
    match a with
    | 0 => exact Nat.one_pos
    | 1 => exact r.isLt
    | 2 => exact k.isLt
  refine (fill_moved ((pcfg m).win 2) (grid0.coords t) d _ (ix3 0 r k : S1x4096x256.Idx) hj).trans ?_
  refine congrArg A (funext fun (a : Fin 3) => Fin.ext ?_)
  refine (((pcfg m).win 2).rect_emb_val t _ a rfl).trans ?_
  refine (congrArg (· * _ + _) (hi a)).trans ?_
  match a with
  | 0 => show (grid0.coords t 0).val * 1 + 0 = (grid0.coords t 0).val; omega
  | 1 => show 0 * 4096 + r.val = r.val; omega
  | 2 => show (grid0.coords t 1).val * 256 + k.val = 256 * (grid0.coords t 1).val + k.val; omega

/-- Window 3's block at a point, read at coordinates. -/
theorem in3 (c : Dev nD) (A : Buf (Elt Ideal) ((c : Thread nD τ).loc main_arg4)) (t : Fin grid0.N) (d : S1x32x96.Idx → Elt Ideal .f32) (r : Fin 32) (k : Fin 96) :
    (((pcfg m).win 3).fill (grid0.coords t) d ((((pcfg m).win 3).blk t).view.read (Elt Ideal) A) : S1x32x96.Idx → Elt Ideal .f32) (ix3 0 r k)
      = A (ix3 (grid0.coords t 0) r k) := by
  have hx := (by decide +kernel : ∀ t : Fin grid0.N, ∀ a : Fin 3, ((pcfg mz).win 3).xsize (grid0.coords t) a = ![1, 32, 96] a) t
  have hi := (by decide +kernel : ∀ t : Fin grid0.N, ∀ a : Fin 3, ((pcfg mz).win 3).index t a = ![(grid0.coords t 0).val, 0, 0] a) t
  have hj : ∀ a : Fin 3, ((ix3 0 r k : S1x32x96.Idx) a).val < ((pcfg m).win 3).xsize (grid0.coords t) a := fun a => by
    refine lt_of_lt_of_eq ?_ (hx a).symm
    match a with
    | 0 => exact Nat.one_pos
    | 1 => exact r.isLt
    | 2 => exact k.isLt
  refine (fill_moved ((pcfg m).win 3) (grid0.coords t) d _ (ix3 0 r k : S1x32x96.Idx) hj).trans ?_
  refine congrArg A (funext fun (a : Fin 3) => Fin.ext ?_)
  refine (((pcfg m).win 3).rect_emb_val t _ a rfl).trans ?_
  refine (congrArg (· * _ + _) (hi a)).trans ?_
  match a with
  | 0 => show (grid0.coords t 0).val * 1 + 0 = (grid0.coords t 0).val; omega
  | 1 => show 0 * 32 + r.val = r.val; omega
  | 2 => show 0 * 96 + k.val = k.val; omega

/-- Window 4's block at a point, read at coordinates. -/
theorem in4 (c : Dev nD) (A : Buf (Elt Ideal) ((c : Thread nD τ).loc main_arg5)) (t : Fin grid0.N) (d : S1x4096x256.Idx → Elt Ideal .fp8e4m3) (r : Fin 4096) (k : Fin 256) :
    (((pcfg m).win 4).fill (grid0.coords t) d ((((pcfg m).win 4).blk t).view.read (Elt Ideal) A) : S1x4096x256.Idx → Elt Ideal .fp8e4m3) (ix3 0 r k)
      = A (ix3 (grid0.coords t 0) r ⟨256 * (grid0.coords t 1).val + k.val, by have := (grid0.coords t 1).isLt; have : (grid0.coords t 1).val < 48 := this; omega⟩) := by
  have hx := (by decide +kernel : ∀ t : Fin grid0.N, ∀ a : Fin 3, ((pcfg mz).win 4).xsize (grid0.coords t) a = ![1, 4096, 256] a) t
  have hi := (by decide +kernel : ∀ t : Fin grid0.N, ∀ a : Fin 3, ((pcfg mz).win 4).index t a = ![(grid0.coords t 0).val, 0, (grid0.coords t 1).val] a) t
  have hj : ∀ a : Fin 3, ((ix3 0 r k : S1x4096x256.Idx) a).val < ((pcfg m).win 4).xsize (grid0.coords t) a := fun a => by
    refine lt_of_lt_of_eq ?_ (hx a).symm
    match a with
    | 0 => exact Nat.one_pos
    | 1 => exact r.isLt
    | 2 => exact k.isLt
  refine (fill_moved ((pcfg m).win 4) (grid0.coords t) d _ (ix3 0 r k : S1x4096x256.Idx) hj).trans ?_
  refine congrArg A (funext fun (a : Fin 3) => Fin.ext ?_)
  refine (((pcfg m).win 4).rect_emb_val t _ a rfl).trans ?_
  refine (congrArg (· * _ + _) (hi a)).trans ?_
  match a with
  | 0 => show (grid0.coords t 0).val * 1 + 0 = (grid0.coords t 0).val; omega
  | 1 => show 0 * 4096 + r.val = r.val; omega
  | 2 => show (grid0.coords t 1).val * 256 + k.val = 256 * (grid0.coords t 1).val + k.val; omega

/-- Window 5's block at a point, read at coordinates. -/
theorem in5 (c : Dev nD) (A : Buf (Elt Ideal) ((c : Thread nD τ).loc main_arg6)) (t : Fin grid0.N) (d : S1x32x96.Idx → Elt Ideal .f32) (r : Fin 32) (k : Fin 96) :
    (((pcfg m).win 5).fill (grid0.coords t) d ((((pcfg m).win 5).blk t).view.read (Elt Ideal) A) : S1x32x96.Idx → Elt Ideal .f32) (ix3 0 r k)
      = A (ix3 (grid0.coords t 0) r k) := by
  have hx := (by decide +kernel : ∀ t : Fin grid0.N, ∀ a : Fin 3, ((pcfg mz).win 5).xsize (grid0.coords t) a = ![1, 32, 96] a) t
  have hi := (by decide +kernel : ∀ t : Fin grid0.N, ∀ a : Fin 3, ((pcfg mz).win 5).index t a = ![(grid0.coords t 0).val, 0, 0] a) t
  have hj : ∀ a : Fin 3, ((ix3 0 r k : S1x32x96.Idx) a).val < ((pcfg m).win 5).xsize (grid0.coords t) a := fun a => by
    refine lt_of_lt_of_eq ?_ (hx a).symm
    match a with
    | 0 => exact Nat.one_pos
    | 1 => exact r.isLt
    | 2 => exact k.isLt
  refine (fill_moved ((pcfg m).win 5) (grid0.coords t) d _ (ix3 0 r k : S1x32x96.Idx) hj).trans ?_
  refine congrArg A (funext fun (a : Fin 3) => Fin.ext ?_)
  refine (((pcfg m).win 5).rect_emb_val t _ a rfl).trans ?_
  refine (congrArg (· * _ + _) (hi a)).trans ?_
  match a with
  | 0 => show (grid0.coords t 0).val * 1 + 0 = (grid0.coords t 0).val; omega
  | 1 => show 0 * 32 + r.val = r.val; omega
  | 2 => show 0 * 96 + k.val = k.val; omega

/-- Window 6's block at a point, read at coordinates. -/
theorem in6 (c : Dev nD) (A : Buf (Elt Ideal) ((c : Thread nD τ).loc main_arg7)) (t : Fin grid0.N) (d : S1x256x4096.Idx → Elt Ideal .fp8e4m3) (r : Fin 256) (k : Fin 4096) :
    (((pcfg m).win 6).fill (grid0.coords t) d ((((pcfg m).win 6).blk t).view.read (Elt Ideal) A) : S1x256x4096.Idx → Elt Ideal .fp8e4m3) (ix3 0 r k)
      = A (ix3 (grid0.coords t 0) ⟨256 * (grid0.coords t 1).val + r.val, by have := (grid0.coords t 1).isLt; have : (grid0.coords t 1).val < 48 := this; omega⟩ k) := by
  have hx := (by decide +kernel : ∀ t : Fin grid0.N, ∀ a : Fin 3, ((pcfg mz).win 6).xsize (grid0.coords t) a = ![1, 256, 4096] a) t
  have hi := (by decide +kernel : ∀ t : Fin grid0.N, ∀ a : Fin 3, ((pcfg mz).win 6).index t a = ![(grid0.coords t 0).val, (grid0.coords t 1).val, 0] a) t
  have hj : ∀ a : Fin 3, ((ix3 0 r k : S1x256x4096.Idx) a).val < ((pcfg m).win 6).xsize (grid0.coords t) a := fun a => by
    refine lt_of_lt_of_eq ?_ (hx a).symm
    match a with
    | 0 => exact Nat.one_pos
    | 1 => exact r.isLt
    | 2 => exact k.isLt
  refine (fill_moved ((pcfg m).win 6) (grid0.coords t) d _ (ix3 0 r k : S1x256x4096.Idx) hj).trans ?_
  refine congrArg A (funext fun (a : Fin 3) => Fin.ext ?_)
  refine (((pcfg m).win 6).rect_emb_val t _ a rfl).trans ?_
  refine (congrArg (· * _ + _) (hi a)).trans ?_
  match a with
  | 0 => show (grid0.coords t 0).val * 1 + 0 = (grid0.coords t 0).val; omega
  | 1 => show (grid0.coords t 1).val * 256 + r.val = 256 * (grid0.coords t 1).val + r.val; omega
  | 2 => show 0 * 4096 + k.val = k.val; omega

/-- Window 7's block at a point, read at coordinates. -/
theorem in7 (c : Dev nD) (A : Buf (Elt Ideal) ((c : Thread nD τ).loc main_arg8)) (t : Fin grid0.N) (d : S1x96x32.Idx → Elt Ideal .f32) (r : Fin 96) (k : Fin 32) :
    (((pcfg m).win 7).fill (grid0.coords t) d ((((pcfg m).win 7).blk t).view.read (Elt Ideal) A) : S1x96x32.Idx → Elt Ideal .f32) (ix3 0 r k)
      = A (ix3 (grid0.coords t 0) r k) := by
  have hx := (by decide +kernel : ∀ t : Fin grid0.N, ∀ a : Fin 3, ((pcfg mz).win 7).xsize (grid0.coords t) a = ![1, 96, 32] a) t
  have hi := (by decide +kernel : ∀ t : Fin grid0.N, ∀ a : Fin 3, ((pcfg mz).win 7).index t a = ![(grid0.coords t 0).val, 0, 0] a) t
  have hj : ∀ a : Fin 3, ((ix3 0 r k : S1x96x32.Idx) a).val < ((pcfg m).win 7).xsize (grid0.coords t) a := fun a => by
    refine lt_of_lt_of_eq ?_ (hx a).symm
    match a with
    | 0 => exact Nat.one_pos
    | 1 => exact r.isLt
    | 2 => exact k.isLt
  refine (fill_moved ((pcfg m).win 7) (grid0.coords t) d _ (ix3 0 r k : S1x96x32.Idx) hj).trans ?_
  refine congrArg A (funext fun (a : Fin 3) => Fin.ext ?_)
  refine (((pcfg m).win 7).rect_emb_val t _ a rfl).trans ?_
  refine (congrArg (· * _ + _) (hi a)).trans ?_
  match a with
  | 0 => show (grid0.coords t 0).val * 1 + 0 = (grid0.coords t 0).val; omega
  | 1 => show 0 * 96 + r.val = r.val; omega
  | 2 => show 0 * 32 + k.val = k.val; omega

end Cert.KernelIdeal.Hand

end
-- ==== Proof.Steps.lean ====
/-
  One point's contents in the terms of the three results: from what a point leaves (`Step`) to the codes, the scales, the sums
  so far and, at an expert's last point, the first result's block.
-/
module

public import proofs.«01_k».proof.Proof.RunBase
public import proofs.«01_k».proof.Proof.Geo

@[expose] public section

set_option maxRecDepth 16384

noncomputable section

namespace Cert.KernelIdeal.Hand

open Cert.KernelIdeal Cert.KernelIdeal.Gen Cert.Spec Cert.Rows
open Idealize.ShloMosaic Idealize.ShloMosaic.TcCoe

/-- The sum of the first `n` of 48 terms. -/
def psum (g : Fin 48 → EReal) (n : ℕ) : EReal := ∑ k ∈ Finset.range n, if h : k < 48 then g ⟨k, h⟩ else 0

theorem psum_zero (g : Fin 48 → EReal) : psum g 0 = 0 := by unfold psum; rw [Finset.range_zero, Finset.sum_empty]

theorem psum_succ (g : Fin 48 → EReal) (f : Fin 48) : psum g (f.val + 1) = psum g f.val + g f := by
  unfold psum; rw [Finset.sum_range_succ, dif_pos f.isLt]

theorem psum_all (g : Fin 48 → EReal) : psum g 48 = ∑ f : Fin 48, g f := by
  unfold psum
  rw [Finset.sum_range]
  exact Finset.sum_congr rfl fun f _ => dif_pos f.isLt

theorem psum_none (g : Fin 48 → EReal) (h : ∀ f, g f = 0) (n : ℕ) : psum g n = 0 := by
  unfold psum
  refine Finset.sum_eq_zero fun k _ => ?_
  split
  · exact h _
  · rfl

/-- A row of the arrays as a row of a block. -/
abbrev up (r : Fin 732) : Fin 736 := r.castLE (by decide)

variable (m : (ℓ : Loc nD τ sig) → Buf (Elt Ideal) ℓ) (c : Dev nD)

/-- The counts at the launch. -/
abbrev cntA : S7.Idx → BitVec 32 := V m c main_arg2
/-- The widened activations of the launch's arguments. -/
abbrev xrowA (e : Fin 7) (r : Fin 732) : Fin 4096 → EReal := xrow (V m c main_arg0) (V m c main_arg1) e r
/-- The widened gate and up columns of the launch's arguments. -/
abbrev wbothA (e : Fin 7) (f : Fin 48) : Fin 4096 → Fin 512 → EReal := wboth (V m c main_arg3) (V m c main_arg4) (V m c main_arg5) (V m c main_arg6) e f
/-- The widened down rows of the launch's arguments. -/
abbrev drowA (e : Fin 7) (f : Fin 48) : Fin 256 → Fin 4096 → EReal := drow (V m c main_arg7) (V m c main_arg8) e f
/-- The codes of the launch's arguments. -/
abbrev codeA (e : Fin 7) (r : Fin 732) (f : Fin 48) (j : Fin 256) : EReal :=
  code (V m c main_arg0) (V m c main_arg1) (cntA m c) (V m c main_arg3) (V m c main_arg4) (V m c main_arg5) (V m c main_arg6) e r f j
/-- The scales of the launch's arguments. -/
abbrev scaleA (e : Fin 7) (r : Fin 732) (f : Fin 48) (t : Fin 2) : EReal :=
  scale (V m c main_arg0) (V m c main_arg1) (cntA m c) (V m c main_arg3) (V m c main_arg4) (V m c main_arg5) (V m c main_arg6) e r f t
/-- The parts of the first result of the launch's arguments. -/
abbrev ypartA (e : Fin 7) (r : Fin 732) (x : Fin 4096) (f : Fin 48) : EReal :=
  ypart (V m c main_arg0) (V m c main_arg1) (cntA m c) (V m c main_arg3) (V m c main_arg4) (V m c main_arg5) (V m c main_arg6)
    (V m c main_arg7) (V m c main_arg8) e r f x

/-- The scale of group `g`, where it is among the first `2 n`; else one. -/
def scales (e : Fin 7) (r : Fin 732) (n : ℕ) (g : Fin 96) : EReal :=
  if g.val < 2 * n then scaleA m c e r ⟨g.val / 2, by omega⟩ ⟨g.val % 2, by omega⟩ else 1

/-- Between the points: inside an expert, the rows widened and the sums so far. -/
def Inv (t : ℕ) (d14 : Vec Ideal S736x4096 .bf16) (d17 : Vec Ideal S736x4096 .f32) : Prop :=
  t % 48 ≠ 0 → ∀ e : Fin 7, e.val = t / 48 → ∀ r : Fin 732, (∀ k, d14 (ix2 (up r) k) = xrowA m c e r k)
    ∧ ∀ x, d17 (ix2 (up r) x) = psum (ypartA m c e r x) (t % 48)

/-- The first result's block after a point: at an expert's last point, the result's rows. -/
def P8 (t : Fin grid0.N) (X : Vec Ideal S1x736x4096 .bf16) : Prop :=
  (grid0.coords t 1).val = 47 → ∀ (r : Fin 732) (x : Fin 4096), X (ix3 0 (up r) x) = ∑ f : Fin 48, ypartA m c (grid0.coords t 0) r x f

/-- The second result's block after a point: the codes. -/
def P9 (t : Fin grid0.N) (X : Vec Ideal S1x736x256 .fp8e4m3) : Prop :=
  ∀ (r : Fin 732) (j : Fin 256), X (ix3 0 (up r) j) = codeA m c (grid0.coords t 0) r (grid0.coords t 1) j

/-- The third result's block after a point: the scales so far, and one elsewhere. -/
def P10 (t : Fin grid0.N) (X : Vec Ideal S1x736x96 .f32) : Prop :=
  ∀ (r : Fin 732) (g : Fin 96), X (ix3 0 (up r) g) = scales m c (grid0.coords t 0) r ((grid0.coords t 1).val + 1) g

theorem cond1_iff (t : Fin grid0.N) : k0_cond1 (grid0.coords t) = 1#1 ↔ (grid0.coords t 1).val = 0 :=
  (by decide +kernel : ∀ t : Fin grid0.N, k0_cond1 (grid0.coords t) = 1#1 ↔ (grid0.coords t 1).val = 0) t

theorem cond3_iff (t : Fin grid0.N) : k0_cond3 (grid0.coords t) = 1#1 ↔ (grid0.coords t 1).val = 47 :=
  (by decide +kernel : ∀ t : Fin grid0.N, k0_cond3 (grid0.coords t) = 1#1 ↔ (grid0.coords t 1).val = 47) t

/-- An invalid row's part of the first result is zero. -/
theorem ypart_zero (e : Fin 7) (r : Fin 732) (h : below (cntA m c (ix1 e)) r.val ≠ 1#1) (x : Fin 4096) (f : Fin 48) : ypartA m c e r x f = 0 := by
  have h0 : below (cntA m c (ix1 e)) r.val = 0#1 := by
    generalize below (cntA m c (ix1 e)) r.val = b at h
    revert h; revert b; decide
  have hk : okw (cntA m c (ix1 e)) r.val = 0#1 := by
    unfold okw; rw [h0]; exact ite_self _
  show part (okw (cntA m c (ix1 e)) r.val) _ _ _ x = 0
  rw [hk, part_zero]

/-- The scales after a slice, from the scales before it and the slice's two. -/
theorem scales_succ (e : Fin 7) (r : Fin 732) (f : Fin 48) (g : Fin 96) :
    scales m c e r (f.val + 1) g = if g.val = 2 * f.val + 1 then scaleA m c e r f 1 else if g.val = 2 * f.val then scaleA m c e r f 0 else scales m c e r f.val g := by
  unfold scales
  by_cases h1 : g.val = 2 * f.val + 1
  · rw [if_pos h1, if_pos (by omega)]
    congr 1
    · exact Fin.ext (by show g.val / 2 = f.val; omega)
    · exact Fin.ext (by show g.val % 2 = 1; omega)
  · rw [if_neg h1]
    by_cases h0 : g.val = 2 * f.val
    · rw [if_pos h0, if_pos (by omega)]
      congr 1
      · exact Fin.ext (by show g.val / 2 = f.val; omega)
      · exact Fin.ext (by show g.val % 2 = 0; omega)
    · rw [if_neg h0]
      by_cases h : g.val < 2 * f.val
      · rw [if_pos h, if_pos (by omega)]
      · rw [if_neg h, if_neg (by omega)]

/-- A slice's own scales are still one before it. -/
theorem scales_own (e : Fin 7) (r : Fin 732) (f : Fin 48) (g : Fin 96) (h : 2 * f.val ≤ g.val) : scales m c e r f.val g = 1 := by
  unfold scales; exact if_neg (by omega)

/-- What a point leaves, in the terms of the results. -/
theorem step_post (t : Fin grid0.N) (v : BitVec 32) (a : Fin 736 → Fin 4096 → EReal) (o13 : Fin 736 → Fin 96 → EReal) (o17 : Fin 736 → Fin 4096 → EReal)
    (B : Fin 4096 → Fin 512 → EReal) (D : Fin 256 → Fin 4096 → EReal)
    (d11 : Vec Ideal S1x736x4096 .bf16) (d12 : Vec Ideal S1x736x256 .fp8e4m3) (d13 : Vec Ideal S1x736x96 .f32)
    (d14 : Vec Ideal S736x4096 .bf16) (d17 : Vec Ideal S736x4096 .f32)
    (hs : Step (grid0.coords t) v a o13 o17 B D d11 d12 d13 d14 d17) (e : Fin 7) (f : Fin 48) (he : e = grid0.coords t 0) (hf : f = grid0.coords t 1)
    (hv : v = cntA m c (ix1 e)) (hB : B = wbothA m c e f) (hD : D = drowA m c e f)
    (ha : ∀ r : Fin 732, a (up r) = xrowA m c e r)
    (h13 : ∀ (r : Fin 732) (g : Fin 96), o13 (up r) g = scales m c e r f.val g)
    (h17 : ∀ (r : Fin 732) (x : Fin 4096), o17 (up r) x = psum (ypartA m c e r x) f.val) :
    P8 m c t d11 ∧ P9 m c t d12 ∧ P10 m c t d13 ∧ Inv m c (t.val + 1) d14 d17 := by
  subst hv hB hD
  have hfv : f.val = t.val % 48 := by rw [hf]; exact g1 t
  have hev : e.val = t.val / 48 := by rw [he]; exact g0 t
  have hsum : ∀ (r : Fin 732) (x : Fin 4096), d17 (ix2 (up r) x) = psum (ypartA m c e r x) (f.val + 1) := by
    intro r x
    rw [hs.sums (up r) x, psum_succ, h17, ha]
    rfl
  refine ⟨?_, ?_, ?_, ?_⟩
  · intro h47 r x
    rw [hs.out ((cond3_iff t).mpr h47) (up r) x, hsum r x, ← he, ← psum_all]
    have h48 : f.val + 1 = 48 := by rw [hf, h47]
    rw [h48]
    by_cases hb : below (cntA m c (ix1 e)) r.val = 1#1
    · exact if_pos hb
    · refine (if_neg hb).trans ?_
      exact (psum_none _ (fun f => ypart_zero m c e r hb x f) 48).symm
  · intro r j
    rw [hs.codes (up r) j, ha, ← he, ← hf]
    rfl
  · intro r g
    rw [hs.scales (up r) g, ha, h13, ← he, ← hf, scales_succ]
    by_cases hR : r.val < 256 * nblocks (cntA m c (ix1 e))
    · have hk : okw (cntA m c (ix1 e)) r.val = below (cntA m c (ix1 e)) r.val := if_pos hR
      refine (if_pos hR).trans ?_
      unfold scaleA scale
      rw [hk]
      rfl
    · have hk : okw (cntA m c (ix1 e)) r.val = 0#1 := if_neg hR
      refine (if_neg hR).trans ?_
      unfold scaleA scale
      rw [hk, scl_zero, scl_zero]
      by_cases h1 : g.val = 2 * f.val + 1
      · rw [if_pos h1]; exact scales_own m c e r f g (by omega)
      · rw [if_neg h1]
        by_cases h0 : g.val = 2 * f.val
        · rw [if_pos h0]; exact scales_own m c e r f g (by omega)
        · rw [if_neg h0]
  · intro hne e' he' r
    have h1 : (t.val + 1) % 48 = f.val + 1 := by omega
    have h2 : e' = e := Fin.ext (by omega)
    subst h2
    refine ⟨fun k => ?_, fun x => ?_⟩
    · rw [hs.rowsIn, ha]
    · rw [h1]; exact hsum r x

end Cert.KernelIdeal.Hand

end
-- ==== Proof.Found.lean ====
/-
  The value's proof data: what the body leaves in each window, what is held between the points, and what the body therefore
  finds in its windows at a point.
-/
module

public import proofs.«01_k».proof.Proof.Steps

@[expose] public section

set_option maxRecDepth 16384

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ) (c : Dev nD)

/-- What is held before point `t`: the widened rows and the sums as `Inv` has them, the other scratch and the register at
    anything, and the table. -/
def phi (t : ℕ) : sProp 𝕄 :=
  iprop(∃ d14 d17, owns (c : Thread nD τ) (Memref.whole cc0_scratch0) fullShare d14 ∗ (∃ d, owns (c : Thread nD τ) (Memref.whole cc0_scratch1) fullShare d)
    ∗ (∃ d, owns (c : Thread nD τ) (Memref.whole cc0_scratch2) fullShare d) ∗ owns (c : Thread nD τ) (Memref.whole cc0_scratch3) fullShare d17
    ∗ (∃ d, owns (c : Thread nD τ) (Memref.whole cc0_scratch4) fullShare d) ∗ (∃ r, prngReg c r) ∗ ⌜Inv m c t d14 d17⌝
    ∗ ((Memref.whole main_arg2).view.loc (c : Thread nD τ) ↦{(fullShare : PosShare TreeShare).right} tbl m (0 : Fin 1)))

/-- What the body leaves in a window of what it found there: an input as found, an output as the results have it. -/
def leaves : (w : Fin 11) → Fin grid0.N → (((pcfg m).win w).block.Idx → Elt Ideal ((pcfg m).win w).elt)
    → (((pcfg m).win w).block.Idx → Elt Ideal ((pcfg m).win w).elt) → Prop := fun
  | 0 => fun _ Y X => X = Y | 1 => fun _ Y X => X = Y | 2 => fun _ Y X => X = Y | 3 => fun _ Y X => X = Y
  | 4 => fun _ Y X => X = Y | 5 => fun _ Y X => X = Y | 6 => fun _ Y X => X = Y | 7 => fun _ Y X => X = Y
  | 8 => fun t _ X => P8 m c t X | 9 => fun t _ X => P9 m c t X | 10 => fun t _ X => P10 m c t X
  | ⟨_ + 11, h⟩ => absurd h (Nat.not_lt.2 (Nat.le_add_left _ _))

/-- The value's proof data on core `c`. -/
def vdat : RDat τ (Elt Ideal) Unit ℕ (UR sig nD τ) ℕ (pcfg m) c where
  A w := V m c (Pipeline.arrRef spec0 w)
  after := leaves m c
  Φ t := phi m c t.val
  q _ := fullShare
  owed _ := 0

/-- The point's row of counts. -/
theorem word_eq (t : Fin grid0.N) : word c (grid0.coords t) (Memref.whole main_arg2) (tbl m (0 : Fin 1)) = cntA m c (ix1 (grid0.coords t 0)) := by
  have h : k0_off1 (grid0.coords t) = ![(grid0.coords t 0).val] :=
    (by decide +kernel : ∀ t : Fin grid0.N, k0_off1 (grid0.coords t) = ![(grid0.coords t 0).val]) t
  refine (ld_one (Val := Elt Ideal) (Memref.whole main_arg2).view (tbl m (0 : Fin 1)) _ _ (ix1 (grid0.coords t 0)) h (fun a => ?_) (fun a => ?_)).trans ?_
  · match a with | 0 => rfl
  · match a with | 0 => rfl
  · exact congrFun (tbl_eq m c (0 : Fin 1)).symm (ix1 (grid0.coords t 0))

variable (t : Fin grid0.N) (Y : (w : Fin 11) → ((pcfg m).win w).block.Idx → Elt Ideal ((pcfg m).win w).elt)
  (hY : ∀ w, (vdat m c).Finds w t (Y w))

include hY in
/-- The activation rows found, widened. -/
theorem found_rows (d3 : Vec Ideal S1x736x4096 .fp8e4m3) (d4 : Vec Ideal S1x736x32 .f32) (h3 : d3 = Y 0) (h4 : d4 = Y 1) (r : Fin 732) :
    (fun x : Fin 4096 => (d3 (ix3 0 (up r) x) * d4 (ix3 0 (up r) ⟨x.val / 128, by omega⟩) : EReal)) = xrowA m c (grid0.coords t 0) r := by
  obtain ⟨d0, h0⟩ := (vdat m c).finds_in_eq_fetched 0 rfl (fun t t' h => funext fun a => congrArg (fun z : Fin 3 → ℕ => Pipeline.Clip.of (z a) (S1x736x4096.size a) (S7x732x4096.size a)) h)
    (fun _ _ _ h => h) t (Y 0) (hY 0)
  obtain ⟨d1, h1⟩ := (vdat m c).finds_in_eq_fetched 1 rfl (fun t t' h => funext fun a => congrArg (fun z : Fin 3 → ℕ => Pipeline.Clip.of (z a) (S1x736x32.size a) (S7x732x32.size a)) h)
    (fun _ _ _ h => h) t (Y 1) (hY 1)
  funext x
  rw [h3, h4, h0, h1]
  exact congrArg₂ (fun a b : EReal => a * b) (in0 m c (V m c main_arg0) t d0 r x) (in1 m c (V m c main_arg1) t d1 r ⟨x.val / 128, by omega⟩)

include hY in
/-- The gate and up columns found, widened. -/
theorem found_cols : bD (grid0.coords t) (Y 2) (Y 3) (Y 4) (Y 5) = wbothA m c (grid0.coords t 0) (grid0.coords t 1) := by
  obtain ⟨d2, h2⟩ := (vdat m c).finds_in_eq_fetched 2 rfl (fun _ _ _ => rfl) (fun _ _ _ h => h) t (Y 2) (hY 2)
  obtain ⟨d3, h3⟩ := (vdat m c).finds_in_eq_fetched 3 rfl (fun _ _ _ => rfl) (fun _ _ _ h => h) t (Y 3) (hY 3)
  obtain ⟨d4, h4⟩ := (vdat m c).finds_in_eq_fetched 4 rfl (fun _ _ _ => rfl) (fun _ _ _ h => h) t (Y 4) (hY 4)
  obtain ⟨d5, h5⟩ := (vdat m c).finds_in_eq_fetched 5 rfl (fun _ _ _ => rfl) (fun _ _ _ h => h) t (Y 5) (hY 5)
  funext K J
  rw [h2, h3, h4, h5]
  unfold bD wbothA wboth wcol
  by_cases h : J.val < 256
  · rw [dif_pos h, dif_pos h]
    exact congrArg₂ (fun a b : EReal => a * b) (in2 m c (V m c main_arg3) t d2 K ⟨J.val, h⟩) (in3 m c (V m c main_arg4) t d3 ⟨K.val / 128, by omega⟩ _)
  · rw [dif_neg h, dif_neg h]
    exact congrArg₂ (fun a b : EReal => a * b) (in4 m c (V m c main_arg5) t d4 K ⟨J.val - 256, by omega⟩) (in5 m c (V m c main_arg6) t d5 ⟨K.val / 128, by omega⟩ _)

include hY in
/-- The down rows found, widened. -/
theorem found_down : dD (grid0.coords t) (Y 6) (Y 7) = drowA m c (grid0.coords t 0) (grid0.coords t 1) := by
  obtain ⟨d6, h6⟩ := (vdat m c).finds_in_eq_fetched 6 rfl (fun _ _ _ => rfl) (fun _ _ _ h => h) t (Y 6) (hY 6)
  obtain ⟨d7, h7⟩ := (vdat m c).finds_in_eq_fetched 7 rfl (fun _ _ _ => rfl) (fun _ _ _ h => h) t (Y 7) (hY 7)
  funext J x
  rw [h6, h7]
  exact congrArg₂ (fun a b : EReal => a * b) (in6 m c (V m c main_arg7) t d6 J x) (in7 m c (V m c main_arg8) t d7 _ ⟨x.val / 128, by omega⟩)

include hY in
/-- The third result's block found inside an expert: the scales of the slices before. -/
theorem found_scales (h : (grid0.coords t 1).val ≠ 0) (r : Fin 732) (g : Fin 96) :
    (Y 10 : Vec Ideal S1x736x96 .f32) (ix3 0 (up r) g) = scales m c (grid0.coords t 0) r (grid0.coords t 1).val g := by
  have e1 := g1 t
  have e0 := g0 t
  have ht : t.val ≠ 0 := by intro h0; rw [h0] at e1; exact h e1
  have hf : ((pcfg m).win 10).fetch t = false := rfl
  rcases ((vdat m c).finds_of_pos hf ht (Y 10)).mp (hY 10) with hfl | ⟨Y', hY', hR⟩
  · have := flush10 m ⟨t.val - 1, Nat.lt_of_le_of_lt (Nat.sub_le _ _) t.isLt⟩ hfl
    simp only at this; omega
  · have hp : P10 m c ⟨t.val - 1, Nat.lt_of_le_of_lt (Nat.sub_le _ _) t.isLt⟩ (Y 10) := hR
    have f1 := g1 ⟨t.val - 1, Nat.lt_of_le_of_lt (Nat.sub_le _ _) t.isLt⟩
    have f0 := g0 ⟨t.val - 1, Nat.lt_of_le_of_lt (Nat.sub_le _ _) t.isLt⟩
    simp only at f1 f0
    refine (hp r g).trans ?_
    congr 1
    · exact Fin.ext (by rw [f0, e0]; omega)
    · rw [f1, e1]; omega

end Cert.KernelIdeal.Hand

end
-- ==== Proof.RunFirst.lean ====
/-
  The body run at a point that begins an expert, with what it leaves.
-/
module

public import proofs.«01_k».proof.Proof.RunBase

@[expose] public section

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxRecDepth 65536 in
set_option maxHeartbeats 4000000 in
/-- The body's triple at a point that begins an expert: what it leaves is `Step` of the activations widened anew, scales at one and sums at zero. -/
theorem valFirst (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : k0_cond1 i = 1#1) (q : PosShare TreeShare) (ft : Buf (Elt Ideal) (arg2.view.loc (c : Thread nD τ)))
    (d3 : Vec Ideal S1x736x4096 .fp8e4m3) (d4 : Vec Ideal S1x736x32 .f32) (d5 : Vec Ideal S1x4096x256 .fp8e4m3) (d6 : Vec Ideal S1x32x96 .f32) (d7 : Vec Ideal S1x4096x256 .fp8e4m3) (d8 : Vec Ideal S1x32x96 .f32) (d9 : Vec Ideal S1x256x4096 .fp8e4m3) (d10 : Vec Ideal S1x96x32 .f32) (K : PUnit → sProp 𝕄) :
    iprop((arg2.view.loc (c : Thread nD τ) ↦{q} ft) ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (iprop((arg2.view.loc (c : Thread nD τ) ↦{q} ft) ∗ owns (c : Thread nD τ) arg3 fullShare d3
              ∗ owns (c : Thread nD τ) arg4 fullShare d4
              ∗ owns (c : Thread nD τ) arg5 fullShare d5
              ∗ owns (c : Thread nD τ) arg6 fullShare d6
              ∗ owns (c : Thread nD τ) arg7 fullShare d7
              ∗ owns (c : Thread nD τ) arg8 fullShare d8
              ∗ owns (c : Thread nD τ) arg9 fullShare d9
              ∗ owns (c : Thread nD τ) arg10 fullShare d10
              ∗ (∃ e11 e12 e13 e14 e17, owns (c : Thread nD τ) arg11 fullShare e11
              ∗ owns (c : Thread nD τ) arg12 fullShare e12
              ∗ owns (c : Thread nD τ) arg13 fullShare e13
              ∗ owns (c : Thread nD τ) arg14 fullShare e14
              ∗ (∃ d, owns (c : Thread nD τ) arg15 fullShare d)
              ∗ (∃ d, owns (c : Thread nD τ) arg16 fullShare d)
              ∗ owns (c : Thread nD τ) arg17 fullShare e17
              ∗ (∃ d, owns (c : Thread nD τ) arg18 fullShare d)
              ∗ ⌜Step i (word c i arg2 ft) (fun R x => (d3 (ix3 0 R x) * d4 (ix3 0 R ⟨x.val / 128, by omega⟩) : EReal)) (fun _ _ => 1) (fun _ _ => 0) (bD i d5 d6 d7 d8) (dD i d9 d10) e11 e12 e13 e14 e17⌝)) -∗ K ⟨⟩))
      ⊢ wp frame (wpE (defs₀ (F := Ideal)) Variants.none c none) Set.univ
          (cc0_moe_ffn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst q3 q4 q5 q6 q7 q8 q9 q10
  sl_exec (disch := first | assumption | exact chk1_all _)
  by_cases h2 : k0_cond2 (valFirst.sl.r c i arg2 ft) = 1#1
  · sl_exec (disch := first | assumption | exact chk1_all _)
    try sl_step
    iapply Hk
    isplitl [H2]; · iexact H2
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _, _, _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; rfl
    isplitl [H18]
    · iexists _, _; isplitr; swap; · iexact H18
      ipureintro; rfl
    ipureintro
    refine ⟨?_, ?_, ?_, ?_, ?_⟩
    · exact (actIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ _)
    · intro R j
      exact pass12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ (congrArg (fun z => z.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ _ _ (actIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ _) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) R j (init12 arg12 _ R j)
    · intro R g
      exact pass13I Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ (congrArg (fun z => z.2.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ _ _ (actIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ _) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) R g _ (init13 arg13 _ R g)
    · intro R x
      exact pass17I Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ (congrArg (fun z => z.2.2.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ _ _ _ (actIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ _) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) (downIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _) R x _ (init17 arg17 _ R x)
    · intro h3; exact (first_not_last i h1 h3).elim
  · sl_exec (disch := first | assumption | exact chk1_all _)
    try sl_step
    iapply Hk
    isplitl [H2]; · iexact H2
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _, _, _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; rfl
    isplitl [H18]
    · iexists _, _; isplitr; swap; · iexact H18
      ipureintro; rfl
    ipureintro
    have hz := nb_zero _ h2
    refine ⟨?_, ?_, ?_, ?_, ?_⟩
    · exact (actIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ _)
    · intro R j
      refine (init12 arg12 _ R j).trans ?_
      exact (okw_none _ hz R.val _ _ j).1.symm
    · intro R g
      refine (init13 arg13 _ R g).trans (Eq.symm (if_neg ?_))
      intro hlt; exact absurd (lt_of_lt_of_eq hlt (congrArg (fun z => 256 * z) hz)) (by omega)
    · intro R x
      refine (init17 arg17 _ R x).trans ?_
      exact (part_none _ hz R.val _ _ _ x 0).symm
    · intro h3; exact (first_not_last i h1 h3).elim

end Cert.KernelIdeal.Hand

end
-- ==== Proof.RunRest.lean ====
/-
  The body run at every other point, with what it leaves.
-/
module

public import proofs.«01_k».proof.Proof.RunBase

@[expose] public section

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxRecDepth 65536 in
set_option maxHeartbeats 4000000 in
/-- The body's triple at every other point: what it leaves is `Step` of the rows, scales and sums it found. -/
theorem valRest (c : Dev nD) (i : grid0.Coords)
    (arg2 : Memref sig .tc .smem S7 .i32) (harg2 : arg2.IsWhole)
    (arg3 : Memref sig .tc .vmem S1x736x4096 .fp8e4m3) (harg3 : arg3.IsWhole)
    (arg4 : Memref sig .tc .vmem S1x736x32 .f32) (harg4 : arg4.IsWhole)
    (arg5 : Memref sig .tc .vmem S1x4096x256 .fp8e4m3) (harg5 : arg5.IsWhole)
    (arg6 : Memref sig .tc .smem S1x32x96 .f32) (harg6 : arg6.IsWhole)
    (arg7 : Memref sig .tc .vmem S1x4096x256 .fp8e4m3) (harg7 : arg7.IsWhole)
    (arg8 : Memref sig .tc .smem S1x32x96 .f32) (harg8 : arg8.IsWhole)
    (arg9 : Memref sig .tc .vmem S1x256x4096 .fp8e4m3) (harg9 : arg9.IsWhole)
    (arg10 : Memref sig .tc .smem S1x96x32 .f32) (harg10 : arg10.IsWhole)
    (arg11 : Memref sig .tc .vmem S1x736x4096 .bf16) (harg11 : arg11.IsWhole)
    (arg12 : Memref sig .tc .vmem S1x736x256 .fp8e4m3) (harg12 : arg12.IsWhole)
    (arg13 : Memref sig .tc .vmem S1x736x96 .f32) (harg13 : arg13.IsWhole)
    (arg14 : Memref sig .tc .vmem S736x4096 .bf16) (harg14 : arg14.IsWhole)
    (arg15 : Memref sig .tc .vmem S4096x512 .bf16) (harg15 : arg15.IsWhole)
    (arg16 : Memref sig .tc .vmem S256x4096 .bf16) (harg16 : arg16.IsWhole)
    (arg17 : Memref sig .tc .vmem S736x4096 .f32) (harg17 : arg17.IsWhole)
    (arg18 : Memref sig .tc .vmem S256x256 .bf16) (harg18 : arg18.IsWhole)
    (h1 : ¬ k0_cond1 i = 1#1) (q : PosShare TreeShare) (ft : Buf (Elt Ideal) (arg2.view.loc (c : Thread nD τ)))
    (d3 : Vec Ideal S1x736x4096 .fp8e4m3) (d4 : Vec Ideal S1x736x32 .f32) (d5 : Vec Ideal S1x4096x256 .fp8e4m3) (d6 : Vec Ideal S1x32x96 .f32) (d7 : Vec Ideal S1x4096x256 .fp8e4m3) (d8 : Vec Ideal S1x32x96 .f32) (d9 : Vec Ideal S1x256x4096 .fp8e4m3) (d10 : Vec Ideal S1x96x32 .f32) (d13 : Vec Ideal S1x736x96 .f32) (d14 : Vec Ideal S736x4096 .bf16) (d17 : Vec Ideal S736x4096 .f32) (K : PUnit → sProp 𝕄) :
    iprop((arg2.view.loc (c : Thread nD τ) ↦{q} ft) ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ (∃ d, owns (c : Thread nD τ) arg11 fullShare d)
        ∗ (∃ d, owns (c : Thread nD τ) arg12 fullShare d)
        ∗ owns (c : Thread nD τ) arg13 fullShare d13
        ∗ owns (c : Thread nD τ) arg14 fullShare d14
        ∗ (∃ d, owns (c : Thread nD τ) arg15 fullShare d)
        ∗ (∃ d, owns (c : Thread nD τ) arg16 fullShare d)
        ∗ owns (c : Thread nD τ) arg17 fullShare d17
        ∗ (∃ d, owns (c : Thread nD τ) arg18 fullShare d)
        ∗ (iprop((arg2.view.loc (c : Thread nD τ) ↦{q} ft) ∗ owns (c : Thread nD τ) arg3 fullShare d3
              ∗ owns (c : Thread nD τ) arg4 fullShare d4
              ∗ owns (c : Thread nD τ) arg5 fullShare d5
              ∗ owns (c : Thread nD τ) arg6 fullShare d6
              ∗ owns (c : Thread nD τ) arg7 fullShare d7
              ∗ owns (c : Thread nD τ) arg8 fullShare d8
              ∗ owns (c : Thread nD τ) arg9 fullShare d9
              ∗ owns (c : Thread nD τ) arg10 fullShare d10
              ∗ (∃ e11 e12 e13 e14 e17, owns (c : Thread nD τ) arg11 fullShare e11
              ∗ owns (c : Thread nD τ) arg12 fullShare e12
              ∗ owns (c : Thread nD τ) arg13 fullShare e13
              ∗ owns (c : Thread nD τ) arg14 fullShare e14
              ∗ (∃ d, owns (c : Thread nD τ) arg15 fullShare d)
              ∗ (∃ d, owns (c : Thread nD τ) arg16 fullShare d)
              ∗ owns (c : Thread nD τ) arg17 fullShare e17
              ∗ (∃ d, owns (c : Thread nD τ) arg18 fullShare d)
              ∗ ⌜Step i (word c i arg2 ft) (fun R x => d14 (ix2 R x)) (fun R g => d13 (ix3 0 R g)) (fun R x => d17 (ix2 R x)) (bD i d5 d6 d7 d8) (dD i d9 d10) e11 e12 e13 e14 e17⌝)) -∗ K ⟨⟩))
      ⊢ wp frame (wpE (defs₀ (F := Ideal)) Variants.none c none) Set.univ
          (cc0_moe_ffn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ffn_eq_skeleton]; unfold cc0_moe_ffn_skel
  unfold owns
  iintro ⟨H2, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%d11, %f11, -, H11⟩, ⟨%d12, %f12, -, H12⟩, ⟨%f13, %q13, H13⟩, ⟨%f14, %q14, H14⟩, ⟨%d15, %f15, -, H15⟩, ⟨%d16, %f16, -, H16⟩, ⟨%f17, %q17, H17⟩, ⟨%d18, %f18, -, H18⟩, Hk⟩
  subst q3 q4 q5 q6 q7 q8 q9 q10 q13 q14 q17
  sl_exec (disch := first | assumption | exact chk1_all _)
  by_cases h2 : k0_cond2 (valRest.sl.r c i arg2 ft) = 1#1
  · sl_exec (disch := first | assumption | exact chk1_all _)
    try sl_step
    iapply Hk
    isplitl [H2]; · iexact H2
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _, _, _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; rfl
    isplitl [H18]
    · iexists _, _; isplitr; swap; · iexact H18
      ipureintro; rfl
    ipureintro
    refine ⟨?_, ?_, ?_, ?_, ?_⟩
    · exact (fun _ _ => rfl)
    · intro R j
      exact pass12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ (congrArg (fun z => z.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ _ _ (fun _ _ => rfl) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) R j (init12 arg12 _ R j)
    · intro R g
      exact pass13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ _ (congrArg (fun z => z.2.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ (fun _ _ => rfl) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) R g _ rfl
    · intro R x
      exact pass17 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (i 1) _ (chk1_all _) h2 _ _ _ _ _ _ _ _ (congrArg (fun z => z.2.2.1) (rem_nil Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (chk1_all _) h2 _ _ _ _ _ _ _ _ _)) _ _ _ (fun _ _ => rfl) (gateIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _) (downIn Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _) R x _ rfl
    · intro h3
      rw [dif_pos h3]
      refine cols16 arg11 f11 _ _ _ _ _ _ _ _ _ _ _ _ _ _ _ _ _ ?_ ?_ ?_ ?_ ?_ ?_ ?_ ?_ ?_ ?_ ?_ ?_ ?_ ?_ ?_ ?_
      · intro R j; exact (p107 _ _ R j).trans (maskLd arg17 _ _ 0 (by omega) _ R j)
      · intro R j; exact (p108 _ _ R j).trans (maskLd arg17 _ _ 256 (by omega) _ R j)
      · intro R j; exact (p109 _ _ R j).trans (maskLd arg17 _ _ 512 (by omega) _ R j)
      · intro R j; exact (p111 _ _ R j).trans (maskLd arg17 _ _ 768 (by omega) _ R j)
      · intro R j; exact (p112 _ _ R j).trans (maskLd arg17 _ _ 1024 (by omega) _ R j)
      · intro R j; exact (p113 _ _ R j).trans (maskLd arg17 _ _ 1280 (by omega) _ R j)
      · intro R j; exact (p115 _ _ R j).trans (maskLd arg17 _ _ 1536 (by omega) _ R j)
      · intro R j; exact (p116 _ _ R j).trans (maskLd arg17 _ _ 1792 (by omega) _ R j)
      · intro R j; exact (p117 _ _ R j).trans (maskLd arg17 _ _ 2048 (by omega) _ R j)
      · intro R j; exact (p118 _ _ R j).trans (maskLd arg17 _ _ 2304 (by omega) _ R j)
      · intro R j; exact (p119 _ _ R j).trans (maskLd arg17 _ _ 2560 (by omega) _ R j)
      · intro R j; exact (p120 _ _ R j).trans (maskLd arg17 _ _ 2816 (by omega) _ R j)
      · intro R j; exact (p121 _ _ R j).trans (maskLd arg17 _ _ 3072 (by omega) _ R j)
      · intro R j; exact (p13 _ _ R j).trans (maskLd arg17 _ _ 3328 (by omega) _ R j)
      · intro R j; exact (p14 _ _ R j).trans (maskLd arg17 _ _ 3584 (by omega) _ R j)
      · intro R j; exact (p15 _ _ R j).trans (maskLd arg17 _ _ 3840 (by omega) _ R j)
  · sl_exec (disch := first | assumption | exact chk1_all _)
    try sl_step
    iapply Hk
    isplitl [H2]; · iexact H2
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _, _, _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; isplitr; swap; · iexact H17
      ipureintro; rfl
    isplitl [H18]
    · iexists _, _; isplitr; swap; · iexact H18
      ipureintro; rfl
    ipureintro
    have hz := nb_zero _ h2
    refine ⟨?_, ?_, ?_, ?_, ?_⟩
    · exact (fun _ _ => rfl)
    · intro R j
      refine (init12 arg12 _ R j).trans ?_
      exact (okw_none _ hz R.val _ _ j).1.symm
    · intro R g
      refine Eq.symm (if_neg ?_)
      intro hlt; exact absurd (lt_of_lt_of_eq hlt (congrArg (fun z => 256 * z) hz)) (by omega)
    · intro R x
      exact (part_none _ hz R.val _ _ _ x _).symm
    · intro h3
      rw [dif_pos h3]
      refine cols16 arg11 f11 _ _ _ _ _ _ _ _ _ _ _ _ _ _ _ _ _ ?_ ?_ ?_ ?_ ?_ ?_ ?_ ?_ ?_ ?_ ?_ ?_ ?_ ?_ ?_ ?_
      · intro R j; exact (p107 _ _ R j).trans (maskLd arg17 _ _ 0 (by omega) _ R j)
      · intro R j; exact (p108 _ _ R j).trans (maskLd arg17 _ _ 256 (by omega) _ R j)
      · intro R j; exact (p109 _ _ R j).trans (maskLd arg17 _ _ 512 (by omega) _ R j)
      · intro R j; exact (p111 _ _ R j).trans (maskLd arg17 _ _ 768 (by omega) _ R j)
      · intro R j; exact (p112 _ _ R j).trans (maskLd arg17 _ _ 1024 (by omega) _ R j)
      · intro R j; exact (p113 _ _ R j).trans (maskLd arg17 _ _ 1280 (by omega) _ R j)
      · intro R j; exact (p115 _ _ R j).trans (maskLd arg17 _ _ 1536 (by omega) _ R j)
      · intro R j; exact (p116 _ _ R j).trans (maskLd arg17 _ _ 1792 (by omega) _ R j)
      · intro R j; exact (p117 _ _ R j).trans (maskLd arg17 _ _ 2048 (by omega) _ R j)
      · intro R j; exact (p118 _ _ R j).trans (maskLd arg17 _ _ 2304 (by omega) _ R j)
      · intro R j; exact (p119 _ _ R j).trans (maskLd arg17 _ _ 2560 (by omega) _ R j)
      · intro R j; exact (p120 _ _ R j).trans (maskLd arg17 _ _ 2816 (by omega) _ R j)
      · intro R j; exact (p121 _ _ R j).trans (maskLd arg17 _ _ 3072 (by omega) _ R j)
      · intro R j; exact (p13 _ _ R j).trans (maskLd arg17 _ _ 3328 (by omega) _ R j)
      · intro R j; exact (p14 _ _ R j).trans (maskLd arg17 _ _ 3584 (by omega) _ R j)
      · intro R j; exact (p15 _ _ R j).trans (maskLd arg17 _ _ 3840 (by omega) _ R j)

end Cert.KernelIdeal.Hand

end
-- ==== Proof.BodyValue.lean ====
/-
  The value's body obligation: the body's triples put under the proof data of Proof/Found.lean.
-/
module

public import proofs.«01_k».proof.Proof.Found
public import proofs.«01_k».proof.Proof.RunFirst
public import proofs.«01_k».proof.Proof.RunRest

@[expose] public section

set_option maxRecDepth 16384

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ)

/-- What is held before a point. -/
theorem phi_at (c : Dev nD) (t : Fin ((pcfg m).N + 1)) : (vdat m c).Φ t = phi m c t.val := rfl

set_option maxHeartbeats 8000000 in
/-- The body obligation of the value's proof data. -/
theorem vbody (c : Dev nD) : (vdat m c).BodyObligation (defs₀ (F := Ideal)) Variants.none () Set.univ := by
  intro t Y hY
  rw [bigSep_W0, bigSep_W0,
    show (defs₀ (F := Ideal) .tc (pcfg m).body ((pcfg m).bodyArgs t ((pcfg m).slots t))) = defs₀ (F := Ideal) .tc 0 (t, (pcfg m).slots t) from rfl, defs₀_row,
    phi_at, phi_at, Fin.val_succ, Fin.val_castSucc, show (vdat m c).owesAt () t.succ = (vdat m c).owesAt () t.castSucc from rfl]
  unfold phi
  by_cases h1 : k0_cond1 (grid0.coords t) = 1#1
  · iintro ⟨⟨%d14, %d17, HS0, HS1, HS2, HS3, HS4, Hg, %hI, HT⟩, HO, ⟨H0, H1, H2, H3, H4, H5, H6, H7, H8, H9, H10⟩⟩
    iapply (valFirst c (grid0.coords t) (Memref.whole main_arg2) _ _ _ _ _ _ _ _ _ _ _ _ _ _ _ _ _ _ _ _ _ _ _ _ _ _ _ _ _ _ _ _ _ h1 _ (tbl m (0 : Fin 1)) (Y 0) (Y 1) (Y 2) (Y 3) (Y 4) (Y 5) (Y 6) (Y 7) _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexists _; iexact HS0
    isplitl [HS1]; · iexact HS1
    isplitl [HS2]; · iexact HS2
    isplitl [HS3]; · iexists _; iexact HS3
    isplitl [HS4]; · iexact HS4
    iintro ⟨HT, H0, H1, H2, H3, H4, H5, H6, H7, ⟨%e11, %e12, %e13, %e14, %e17, H8, H9, H10, HS0, HS1, HS2, HS3, HS4, %hs⟩⟩
    have hp : P8 m c t e11 ∧ P9 m c t e12 ∧ P10 m c t e13 ∧ Inv m c (t.val + 1) e14 e17 :=
      step_post m c t _ _ _ _ _ _ _ _ _ _ _ hs (grid0.coords t 0) (grid0.coords t 1) rfl rfl (word_eq m c t) (found_cols m c t Y hY)
        (found_down m c t Y hY) (fun r => found_rows m c t Y hY _ _ rfl rfl r) (fun r g => (scales_own m c _ r (grid0.coords t 1) g (by rw [(cond1_iff t).mp h1]; exact Nat.zero_le _)).symm) (fun r x => by rw [(cond1_iff t).mp h1]; exact (psum_zero _).symm)
    isplitl [HS0 HS1 HS2 HS3 HS4 Hg HT]
    · iexists e14; iexists e17
      isplitl [HS0]; · iexact HS0
      isplitl [HS1]; · iexact HS1
      isplitl [HS2]; · iexact HS2
      isplitl [HS3]; · iexact HS3
      isplitl [HS4]; · iexact HS4
      isplitl [Hg]; · iexact Hg
      isplitr; · ipureintro; exact hp.2.2.2
      iexact HT
    isplitl [HO]; · iexact HO
    isplitl [H0]; · iexists (Y 0); isplitr; · ipureintro; exact rfl
                    iexact H0
    isplitl [H1]; · iexists (Y 1); isplitr; · ipureintro; exact rfl
                    iexact H1
    isplitl [H2]; · iexists (Y 2); isplitr; · ipureintro; exact rfl
                    iexact H2
    isplitl [H3]; · iexists (Y 3); isplitr; · ipureintro; exact rfl
                    iexact H3
    isplitl [H4]; · iexists (Y 4); isplitr; · ipureintro; exact rfl
                    iexact H4
    isplitl [H5]; · iexists (Y 5); isplitr; · ipureintro; exact rfl
                    iexact H5
    isplitl [H6]; · iexists (Y 6); isplitr; · ipureintro; exact rfl
                    iexact H6
    isplitl [H7]; · iexists (Y 7); isplitr; · ipureintro; exact rfl
                    iexact H7
    isplitl [H8]; · iexists e11; isplitr; · ipureintro; exact hp.1
                    iexact H8
    isplitl [H9]; · iexists e12; isplitr; · ipureintro; exact hp.2.1
                    iexact H9
    iexists e13; isplitr; · ipureintro; exact hp.2.2.1
    iexact H10
  · iintro ⟨⟨%d14, %d17, HS0, HS1, HS2, HS3, HS4, Hg, %hI, HT⟩, HO, ⟨H0, H1, H2, H3, H4, H5, H6, H7, H8, H9, H10⟩⟩
    iapply (valRest c (grid0.coords t) (Memref.whole main_arg2) _ _ _ _ _ _ _ _ _ _ _ _ _ _ _ _ _ _ _ _ _ _ _ _ _ _ _ _ _ _ _ _ _ h1 _ (tbl m (0 : Fin 1)) (Y 0) (Y 1) (Y 2) (Y 3) (Y 4) (Y 5) (Y 6) (Y 7) (Y 10) d14 d17 _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨HT, H0, H1, H2, H3, H4, H5, H6, H7, ⟨%e11, %e12, %e13, %e14, %e17, H8, H9, H10, HS0, HS1, HS2, HS3, HS4, %hs⟩⟩
    have hf : (grid0.coords t 1).val ≠ 0 := fun h => h1 ((cond1_iff t).mpr h)
    have hne : t.val % 48 ≠ 0 := by rw [← g1 t]; exact hf
    have hp : P8 m c t e11 ∧ P9 m c t e12 ∧ P10 m c t e13 ∧ Inv m c (t.val + 1) e14 e17 :=
      step_post m c t _ _ _ _ _ _ _ _ _ _ _ hs (grid0.coords t 0) (grid0.coords t 1) rfl rfl (word_eq m c t) (found_cols m c t Y hY)
        (found_down m c t Y hY) (fun r => funext fun k => (hI hne _ (g0 t) r).1 k) (fun r g => found_scales m c t Y hY hf r g) (fun r x => ((hI hne _ (g0 t) r).2 x).trans (by rw [g1 t]))
    isplitl [HS0 HS1 HS2 HS3 HS4 Hg HT]
    · iexists e14; iexists e17
      isplitl [HS0]; · iexact HS0
      isplitl [HS1]; · iexact HS1
      isplitl [HS2]; · iexact HS2
      isplitl [HS3]; · iexact HS3
      isplitl [HS4]; · iexact HS4
      isplitl [Hg]; · iexact Hg
      isplitr; · ipureintro; exact hp.2.2.2
      iexact HT
    isplitl [HO]; · iexact HO
    isplitl [H0]; · iexists (Y 0); isplitr; · ipureintro; exact rfl
                    iexact H0
    isplitl [H1]; · iexists (Y 1); isplitr; · ipureintro; exact rfl
                    iexact H1
    isplitl [H2]; · iexists (Y 2); isplitr; · ipureintro; exact rfl
                    iexact H2
    isplitl [H3]; · iexists (Y 3); isplitr; · ipureintro; exact rfl
                    iexact H3
    isplitl [H4]; · iexists (Y 4); isplitr; · ipureintro; exact rfl
                    iexact H4
    isplitl [H5]; · iexists (Y 5); isplitr; · ipureintro; exact rfl
                    iexact H5
    isplitl [H6]; · iexists (Y 6); isplitr; · ipureintro; exact rfl
                    iexact H6
    isplitl [H7]; · iexists (Y 7); isplitr; · ipureintro; exact rfl
                    iexact H7
    isplitl [H8]; · iexists e11; isplitr; · ipureintro; exact hp.1
                    iexact H8
    isplitl [H9]; · iexists e12; isplitr; · ipureintro; exact hp.2.1
                    iexact H9
    iexists e13; isplitr; · ipureintro; exact hp.2.2.1
    iexact H10

end Cert.KernelIdeal.Hand

end
-- ==== Proof.RunValue.lean ====
/-
  The value: every execution of the idealized kernel ends with the three results of Proof/Spec.lean in its result arrays.
-/
module

public import proofs.«01_k».proof.Proof.BodyValue

@[expose] public section

set_option maxRecDepth 16384

noncomputable section

namespace Cert.KernelIdeal.Hand

open Cert.KernelIdeal Cert.KernelIdeal.Gen Cert.Spec Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ) (ρ : Dev nD → PrngReg)

/-- The launch's scratch, register and table are what is held before the first point. -/
theorem vin (c : Dev nD) : iprop(Pipeline.ΦA (U := UR sig nD τ) spec0 c ∗ Pipeline.ΦT pre0 (tbl m) c) ⊢ (phi m c 0 : sProp 𝕄) := by
  rw [rest_eq, table_eq]
  unfold phi
  iintro ⟨⟨⟨⟨%d14, HS0⟩, HS1, HS2, ⟨%d17, HS3⟩, HS4⟩, Hg⟩, HT⟩
  iexists d14; iexists d17
  isplitl [HS0]; · iexact HS0
  isplitl [HS1]; · iexact HS1
  isplitl [HS2]; · iexact HS2
  isplitl [HS3]; · iexact HS3
  isplitl [HS4]; · iexact HS4
  isplitl [Hg]; · iexact Hg
  isplitr; · ipureintro; exact fun h => absurd rfl h
  iexact HT

/-- What is held after the last point is the launch's scratch and register at anything. -/
theorem vout (c : Dev nD) (t : ℕ) : (phi m c t : sProp 𝕄) ⊢ Pipeline.ΦA (U := UR sig nD τ) spec0 c := by
  rw [rest_eq]
  unfold phi
  iintro ⟨%d14, %d17, HS0, HS1, HS2, HS3, HS4, Hg, -, HT⟩
  isplitl [HS0 HS1 HS2 HS3 HS4]
  · isplitl [HS0]; · iexists d14; iexact HS0
    isplitl [HS1]; · iexact HS1
    isplitl [HS2]; · iexact HS2
    isplitl [HS3]; · iexists d17; iexact HS3
    iexact HS4
  iexact Hg

set_option backward.isDefEq.respectTransparency.types false in
set_option maxHeartbeats 800000 in
/-- The run over the value's proof data. -/
theorem vrun : θ_run defs (onTc (τ := τ) (main (F := Ideal))) (s₀ m ρ)
    (fun r => RDat.FramePost (pcfg m) (vdat m) (V m) r ∧ r.2.sem = fun _ => 0) :=
  RDat.θ_run_frameP_track (Q' := _) (pcfgs (F := Ideal)) (adm m) (0 : Fin 1) launch0 defs₀ Variants.none (vdat m) m ρ main
    (hbody := vbody m) (hshare := fun c w => (vdat m c).share_full (fun _ => rfl) w)
    (howed := fun _ _ => rfl) (V := V m) (hmain := hmain m Variants.none) (hA := fun _ _ => rfl) (hpf := fun c k => tbl_eq m c k)
    (hin := fun c => vin m c) (hout := fun c => vout m c _)

/-- The first result of the launch's arguments. -/
abbrev YA (c : Dev nD) : Buf (Elt Ideal) ((c : Thread nD τ).loc main_v0_0) :=
  Spec.Y (V m c main_arg0) (V m c main_arg1) (cntA m c) (V m c main_arg3) (V m c main_arg4) (V m c main_arg5) (V m c main_arg6) (V m c main_arg7) (V m c main_arg8)
/-- The second result of the launch's arguments. -/
abbrev HCA (c : Dev nD) : Buf (Elt Ideal) ((c : Thread nD τ).loc main_v0_1) :=
  Spec.HC (V m c main_arg0) (V m c main_arg1) (cntA m c) (V m c main_arg3) (V m c main_arg4) (V m c main_arg5) (V m c main_arg6)
/-- The third result of the launch's arguments. -/
abbrev HSA (c : Dev nD) : Buf (Elt Ideal) ((c : Thread nD τ).loc main_v0_2) :=
  Spec.HS (V m c main_arg0) (V m c main_arg1) (cntA m c) (V m c main_arg3) (V m c main_arg4) (V m c main_arg5) (V m c main_arg6)

/-- A coordinate in a block at index zero. -/
theorem at_zero (i n y z : ℕ) (hi : i = 0) (h : y = z) : i * n + y = z := by rw [hi, h, Nat.zero_mul, Nat.zero_add]

/-- The last of three coordinates, when it is given as a number. -/
theorem third_val {p q r : ℕ} (a : Fin p) (b : Fin q) (v : ℕ) (h : v < r) : (ix3 a b (⟨v, h⟩ : Fin r) (2 : Fin 3)).val = v := rfl

/-- The first result at coordinates. -/
theorem Y_at (c : Dev nD) (e : Fin 7) (r : Fin 732) (x : Fin 4096) : YA m c (ix3 e r x) = ∑ f : Fin 48, ypartA m c e r x f := by
  unfold YA Spec.Y; rfl

/-- The first result's block at the last point of an expert, at coordinates. -/
theorem P8_at (c : Dev nD) (t : Fin grid0.N) (X : Vec Ideal S1x736x4096 .bf16) (hX : P8 m c t X) (h : (grid0.coords t 1).val = 47) (r : Fin 732) (x : Fin 4096) :
    (X (ix3 0 (up r) x) : EReal) = ∑ f : Fin 48, ypartA m c (grid0.coords t 0) r x f := by
  unfold P8 at hX; exact hX h r x

/-- The first result's block at the last point of an expert, placed in the array. -/
theorem place8 (c : Dev nD) (t : Fin grid0.N) (X : Vec Ideal S1x736x4096 .bf16) (hX : P8 m c t X) (h47 : t.val % 48 = 47)
    (y : (((pcfg m).win 8).xblock (grid0.coords t)).Idx) :
    (X (((pcfg m).win 8).xinj (grid0.coords t) y) : EReal) = YA m c ((((pcfg m).win 8).blk t).view.emb y) := by
  have hx := (by decide +kernel : ∀ t : Fin grid0.N, ∀ a : Fin 3, ((pcfg mz).win 8).xsize (grid0.coords t) a = ![1, 732, 4096] a) t
  have hi := (by decide +kernel : ∀ t : Fin grid0.N, ∀ a : Fin 3, ((pcfg mz).win 8).index t a = ![(grid0.coords t 0).val, 0, 0] a) t
  have y0 : (y (0 : Fin 3)).val < 1 := lt_of_lt_of_eq (y (0 : Fin 3)).isLt (hx 0)
  have y1 : (y (1 : Fin 3)).val < 732 := lt_of_lt_of_eq (y (1 : Fin 3)).isLt (hx 1)
  have y2 : (y (2 : Fin 3)).val < 4096 := lt_of_lt_of_eq (y (2 : Fin 3)).isLt (hx 2)
  have e1 : ((((pcfg m).win 8).xinj (grid0.coords t) y : S1x736x4096.Idx)) = ix3 0 (up ⟨(y (1 : Fin 3)).val, y1⟩) ⟨(y (2 : Fin 3)).val, y2⟩ := by
    funext (a : Fin 3)
    match a with
    | 0 => exact Fin.ext (by show (y (0 : Fin 3)).val = 0; omega)
    | 1 => rfl
    | 2 => rfl
  have e2 : ((((pcfg m).win 8).blk t).view.emb y : S7x732x4096.Idx) = ix3 (grid0.coords t 0) ⟨(y (1 : Fin 3)).val, y1⟩ ⟨(y (2 : Fin 3)).val, y2⟩ := by
    funext (a : Fin 3)
    refine Fin.ext ((((pcfg m).win 8).rect_emb_val t _ a rfl).trans ((congrArg (· * _ + _) (hi a)).trans ?_))
    match a with
    | 0 => show (grid0.coords t 0).val * 1 + (y (0 : Fin 3)).val = (grid0.coords t 0).val; omega
    | 1 => exact at_zero _ _ _ _ rfl rfl
    | 2 => exact at_zero _ _ _ _ rfl (third_val _ _ _ y2).symm
  refine (congrArg X e1).trans ?_
  refine Eq.trans ?_ (congrArg (YA m c) e2).symm
  have hf : (grid0.coords t 1).val = 47 := by have := g1 t; omega
  have hz := P8_at m c t X hX hf
  exact (hz ⟨(y (1 : Fin 3)).val, y1⟩ ⟨(y (2 : Fin 3)).val, y2⟩).trans (Y_at m c _ _ _).symm

/-- The second result's block at a point, placed in the array. -/
theorem place9 (c : Dev nD) (t : Fin grid0.N) (X : Vec Ideal S1x736x256 .fp8e4m3) (hX : P9 m c t X)
    (y : (((pcfg m).win 9).xblock (grid0.coords t)).Idx) :
    (X (((pcfg m).win 9).xinj (grid0.coords t) y) : EReal) = HCA m c ((((pcfg m).win 9).blk t).view.emb y) := by
  have hx := (by decide +kernel : ∀ t : Fin grid0.N, ∀ a : Fin 3, ((pcfg mz).win 9).xsize (grid0.coords t) a = ![1, 732, 256] a) t
  have hi := (by decide +kernel : ∀ t : Fin grid0.N, ∀ a : Fin 3, ((pcfg mz).win 9).index t a = ![(grid0.coords t 0).val, 0, (grid0.coords t 1).val] a) t
  have hf : (grid0.coords t 1).val < 48 := (grid0.coords t 1).isLt
  have y0 : (y (0 : Fin 3)).val < 1 := lt_of_lt_of_eq (y (0 : Fin 3)).isLt (hx 0)
  have y1 : (y (1 : Fin 3)).val < 732 := lt_of_lt_of_eq (y (1 : Fin 3)).isLt (hx 1)
  have y2 : (y (2 : Fin 3)).val < 256 := lt_of_lt_of_eq (y (2 : Fin 3)).isLt (hx 2)
  have e1 : ((((pcfg m).win 9).xinj (grid0.coords t) y : S1x736x256.Idx)) = ix3 0 (up ⟨(y (1 : Fin 3)).val, y1⟩) ⟨(y (2 : Fin 3)).val, y2⟩ := by
    funext (a : Fin 3)
    match a with
    | 0 => exact Fin.ext (by show (y (0 : Fin 3)).val = 0; omega)
    | 1 => rfl
    | 2 => rfl
  have e2 : ((((pcfg m).win 9).blk t).view.emb y : S7x732x12288.Idx)
      = ix3 (grid0.coords t 0) ⟨(y (1 : Fin 3)).val, y1⟩ ⟨256 * (grid0.coords t 1).val + (y (2 : Fin 3)).val, by omega⟩ := by
    funext (a : Fin 3)
    refine Fin.ext ((((pcfg m).win 9).rect_emb_val t _ a rfl).trans ((congrArg (· * _ + _) (hi a)).trans ?_))
    match a with
    | 0 => show (grid0.coords t 0).val * 1 + (y (0 : Fin 3)).val = (grid0.coords t 0).val; omega
    | 1 => exact at_zero _ _ _ _ rfl rfl
    | 2 => show (grid0.coords t 1).val * 256 + (y (2 : Fin 3)).val = 256 * (grid0.coords t 1).val + (y (2 : Fin 3)).val; omega
  refine (congrArg X e1).trans ?_
  refine Eq.trans ?_ (congrArg (HCA m c) e2).symm
  refine (hX _ _).trans ?_
  show codeA m c _ _ _ _ = codeA m c _ _ _ _
  congr 1
  · exact Fin.ext (by show (grid0.coords t 1).val = (256 * (grid0.coords t 1).val + (y (2 : Fin 3)).val) / 256; omega)
  · exact Fin.ext (by show (y (2 : Fin 3)).val = (256 * (grid0.coords t 1).val + (y (2 : Fin 3)).val) % 256; omega)

/-- The third result's block at the last point of an expert, placed in the array. -/
theorem place10 (c : Dev nD) (t : Fin grid0.N) (X : Vec Ideal S1x736x96 .f32) (hX : P10 m c t X) (h47 : t.val % 48 = 47)
    (y : (((pcfg m).win 10).xblock (grid0.coords t)).Idx) :
    (X (((pcfg m).win 10).xinj (grid0.coords t) y) : EReal) = HSA m c ((((pcfg m).win 10).blk t).view.emb y) := by
  have hx := (by decide +kernel : ∀ t : Fin grid0.N, ∀ a : Fin 3, ((pcfg mz).win 10).xsize (grid0.coords t) a = ![1, 732, 96] a) t
  have hi := (by decide +kernel : ∀ t : Fin grid0.N, ∀ a : Fin 3, ((pcfg mz).win 10).index t a = ![(grid0.coords t 0).val, 0, 0] a) t
  have hg := g1 t
  have y0 : (y (0 : Fin 3)).val < 1 := lt_of_lt_of_eq (y (0 : Fin 3)).isLt (hx 0)
  have y1 : (y (1 : Fin 3)).val < 732 := lt_of_lt_of_eq (y (1 : Fin 3)).isLt (hx 1)
  have y2 : (y (2 : Fin 3)).val < 96 := lt_of_lt_of_eq (y (2 : Fin 3)).isLt (hx 2)
  have e1 : ((((pcfg m).win 10).xinj (grid0.coords t) y : S1x736x96.Idx)) = ix3 0 (up ⟨(y (1 : Fin 3)).val, y1⟩) ⟨(y (2 : Fin 3)).val, y2⟩ := by
    funext (a : Fin 3)
    match a with
    | 0 => exact Fin.ext (by show (y (0 : Fin 3)).val = 0; omega)
    | 1 => rfl
    | 2 => rfl
  have e2 : ((((pcfg m).win 10).blk t).view.emb y : S7x732x96.Idx) = ix3 (grid0.coords t 0) ⟨(y (1 : Fin 3)).val, y1⟩ ⟨(y (2 : Fin 3)).val, y2⟩ := by
    funext (a : Fin 3)
    refine Fin.ext ((((pcfg m).win 10).rect_emb_val t _ a rfl).trans ((congrArg (· * _ + _) (hi a)).trans ?_))
    match a with
    | 0 => show (grid0.coords t 0).val * 1 + (y (0 : Fin 3)).val = (grid0.coords t 0).val; omega
    | 1 => exact at_zero _ _ _ _ rfl rfl
    | 2 => show 0 * 96 + (y (2 : Fin 3)).val = (y (2 : Fin 3)).val; omega
  refine (congrArg X e1).trans ?_
  refine Eq.trans ?_ (congrArg (HSA m c) e2).symm
  refine (hX _ _).trans ?_
  unfold scales
  exact if_pos (by show (y (2 : Fin 3)).val < 2 * ((grid0.coords t 1).val + 1); omega)

/-- The result arrays after the run. -/
theorem finals (c : Dev nD) (r : PUnit × MemSt nD τ sig (Elt Ideal)) (h : RDat.FramePost (pcfg m) (vdat m) (V m) r) :
    r.2.mem ((c.tc : Thread nD τ).loc main_v0_0) = YA m c ∧ r.2.mem ((c.tc : Thread nD τ).loc main_v0_1) = HCA m c
      ∧ r.2.mem ((c.tc : Thread nD τ).loc main_v0_2) = HSA m c := by
  obtain ⟨after, hL, hA⟩ := h.exists_exact c
  refine ⟨(hA 8).trans ?_, (hA 9).trans ?_, (hA 10).trans ?_⟩
  · refine ((vdat m c).withAfter after).arrAt_eq_of_covers 8 (YA m c) (cov8 m) (fun t hf y => ?_) (Memref.isWhole_whole _)
    obtain ⟨Z, -, hZ⟩ := hL 8 t hf
    exact place8 m c t (after 8 t) hZ (flush8 m t hf) y
  · refine ((vdat m c).withAfter after).arrAt_eq_of_covers 9 (HCA m c) (cov9 m) (fun t hf y => ?_) (Memref.isWhole_whole _)
    obtain ⟨Z, -, hZ⟩ := hL 9 t hf
    exact place9 m c t (after 9 t) hZ y
  · refine ((vdat m c).withAfter after).arrAt_eq_of_covers 10 (HSA m c) (cov10 m) (fun t hf y => ?_) (Memref.isWhole_whole _)
    obtain ⟨Z, -, hZ⟩ := hL 10 t hf
    exact place10 m c t (after 10 t) hZ (flush10 m t hf) y

/-- Every execution ends with the three results in the result arrays and the arguments as they were. -/
theorem value : θ_run defs (onTc (τ := τ) (main (F := Ideal))) ⟨m, fun _ => 0, ρ⟩ (fun r => ∀ c : Dev nD,
      r.2.mem ((c.tc : Thread nD τ).loc main_v0_0) = YA m c
      ∧ r.2.mem ((c.tc : Thread nD τ).loc main_v0_1) = HCA m c
      ∧ r.2.mem ((c.tc : Thread nD τ).loc main_v0_2) = HSA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(finals m c r h.1).1, (finals m c r h.1).2.1, (finals m c r h.1).2.2,
    RDat.FramePost.arr_in h.1 c (0 : Fin 11) rfl, RDat.FramePost.arr_in h.1 c (1 : Fin 11) rfl,
    (h.1 c).2 main_arg2 arg2_rest,
    RDat.FramePost.arr_in h.1 c (2 : Fin 11) rfl, RDat.FramePost.arr_in h.1 c (3 : Fin 11) rfl, RDat.FramePost.arr_in h.1 c (4 : Fin 11) rfl,
    RDat.FramePost.arr_in h.1 c (5 : Fin 11) rfl, RDat.FramePost.arr_in h.1 c (6 : Fin 11) rfl, RDat.FramePost.arr_in h.1 c (7 : Fin 11) rfl⟩) (vrun m ρ)

end Cert.KernelIdeal.Hand

end
-- ==== Proof.RefValue.lean ====
/-
  The reference's three results are those of Proof/Spec.lean: its payload functions read at an index.
-/
module

public import proofs.«01_k».proof.Proof.Spec
public import proofs.«01_k».proof.Proof.Gen.ReferenceIdeal.Value
public import Idealize.ShloMosaic.Lib.Pointwise
public import Idealize.ShloMosaic.Lib.WordCmp

@[expose] public section

noncomputable section

namespace Cert.ReferenceIdeal.Hand

open Cert.ReferenceIdeal Cert.ReferenceIdeal.Gen Cert.Quant Cert.Rows Cert.Spec
open Idealize.ShloMosaic

set_option maxRecDepth 16384

/-- The ideal power of two. -/
theorem fexp2 {φ : FTy} (x : Ideal φ) : FloatOps.exp2 (F := Ideal) x = Ideal.exp2 x := rfl

/-- The ideal value of a word. -/
theorem fsitofp (w : BitVec 32) : FloatOps.sitofp (F := Ideal) .f32 w = ((w.toInt : ℝ) : EReal) := rfl

/-- A row is valid where it is below the count and in a whole block. -/
theorem valid_eq (cnt : Vec Ideal S7 .i32) (e : Fin 7) (R : Fin 732) :
    k0_pay2 (F := Ideal) cnt (ix3 e R 0) = okw (cnt (ix1 e)) R.val := by
  pointwise [k0_pay2]
  show IntOp.andi (below (cnt (ix1 e)) R.val) (IntOp.cmpi .slt (BitVec.ofNat 32 R.val) (IntOp.muli (Words.blocks (cnt (ix1 e))) 256#32)) = _
  obtain ⟨h1, h2⟩ := Words.blocks_range (cnt (ix1 e))
  have hm : (IntOp.muli (Words.blocks (cnt (ix1 e))) 256#32).toInt = (Words.blocks (cnt (ix1 e))).toInt * 256 := by
    show (Words.blocks (cnt (ix1 e)) * 256#32).toInt = _
    rw [BitVec.toInt_mul]
    show ((Words.blocks (cnt (ix1 e))).toInt * 256).bmod (2 ^ 32) = _
    rw [Int.bmod_eq_of_le] <;> omega
  have hR : (BitVec.ofNat 32 R.val).toInt = R.val := by
    rw [BitVec.toInt_eq_toNat_of_lt] <;> rw [BitVec.toNat_ofNat] <;> omega
  have hc : IntOp.cmpi .slt (BitVec.ofNat 32 R.val) (IntOp.muli (Words.blocks (cnt (ix1 e))) 256#32)
      = if R.val < 256 * nblocks (cnt (ix1 e)) then 1#1 else 0#1 := by
    rw [WordCmp.cmpi_slt_eq, hm, hR]
    unfold nblocks
    split
    · rw [decide_eq_true (by omega)]; rfl
    · rw [decide_eq_false (by omega)]; rfl
  rw [hc]
  unfold okw
  split
  · generalize below (cnt (ix1 e)) R.val = w
    show w &&& 1#1 = w
    revert w; decide
  · generalize below (cnt (ix1 e)) R.val = w
    show w &&& 0#1 = 0#1
    revert w; decide

/-- The hidden value of group `g`, lane `l`. -/
theorem hid_eq (ok : IVec S7x732x1 1) (x : Vec Ideal S7x732x4096 .fp8e4m3) (xs : Vec Ideal S7x732x32 .f32)
    (wg : Vec Ideal S7x4096x12288 .fp8e4m3) (sg : Vec Ideal S7x32x96 .f32) (wu : Vec Ideal S7x4096x12288 .fp8e4m3)
    (su : Vec Ideal S7x32x96 .f32) (e : Fin 7) (R : Fin 732) (g : Fin 96) (l : Fin 128) :
    k0_pay5 ok (k0_pay3 x) (k0_pay4 xs) wg sg wu su (ix4 e R g l)
      = hid (ok (ix3 e R 0)) (xrow x xs e R) (wboth wg sg wu su e ⟨g.val / 2, by omega⟩)
          ⟨128 * (g.val % 2) + l.val, by omega⟩ := by
  pointwise [k0_pay5, k0_pay3, k0_pay4]
  unfold hid act dot wboth wcol xrow
  have e1 : g.val * 128 + l.val = 256 * (g.val / 2) + (128 * (g.val % 2) + l.val) := by omega
  have e2 : (⟨2 * (g.val / 2) + (128 * (g.val % 2) + l.val) / 128, by omega⟩ : Fin 96) = g := Fin.ext (by show 2 * (g.val / 2) + (128 * (g.val % 2) + l.val) / 128 = g.val; omega)
  have h1 : 128 * (g.val % 2) + l.val < 256 := by omega
  have h2 : ¬ 256 + (128 * (g.val % 2) + l.val) < 256 := by omega
  simp only [h1, h2, dif_pos, dif_neg, not_false_eq_true, Nat.add_sub_cancel_left, e1, e2]

/-- A group's peak over 448. -/
theorem peak_eq (ok : IVec S7x732x1 1) (v41 : FVec Ideal S7x732x32x128 .bf16) (v42 : FVec Ideal S7x732x32 .bf16)
    (wg : Vec Ideal S7x4096x12288 .fp8e4m3) (sg : Vec Ideal S7x32x96 .f32) (wu : Vec Ideal S7x4096x12288 .fp8e4m3)
    (su : Vec Ideal S7x32x96 .f32) (e : Fin 7) (R : Fin 732) (g : Fin 96) :
    k0_pay8 ok v41 v42 wg sg wu su (ix4 e R g 0) = peak fun l => k0_pay5 ok v41 v42 wg sg wu su (ix4 e R g l) := by
  unfold k0_pay8 k0_pay6
  generalize k0_pay5 ok v41 v42 wg sg wu su = h
  have key : ∀ X : FVec Ideal S7x732x96 .f32, shapeCast S7x732x96x1 X shapeCasts_S7x732x96_S7x732x96x1 (ix4 e R g 0)
      = X (ix3 e R g) := by intro X; pointwise
  have hl : ∀ l : Fin 128, reduces_S7x732x96x128_S7x732x96.lift (ix3 e R g) l = ix4 e R g l := by
    intro l; funext c; apply Fin.ext; fin_cases c <;> rfl
  have hM := Ideal.multiReduction_maximumf_single (absf h) 0xFF800000#32 reduces_S7x732x96x128_S7x732x96 (.inl rfl) rfl (ix3 e R g)
  have hS : (absf h ∘ reduces_S7x732x96x128_S7x732x96.lift (ix3 e R g)) = fun l : Fin 128 => FloatOps.absf (F := Ideal) (φ := .f32) (h (ix4 e R g l)) := by
    funext l; exact congrArg (fun i => FloatOps.absf (F := Ideal) (φ := .f32) (h i)) (hl l)
  rw [hS] at hM
  unfold peak
  refine (key _).trans ?_
  rw [ValueIdx.mulf_apply]
  refine (congrArg (· * Ideal.ofBits .f32 0x3B124925#32) hM).trans ?_
  rfl

/-- A group's peak over 448, before it gets a last axis of one. -/
theorem peak3_eq (ok : IVec S7x732x1 1) (v41 : FVec Ideal S7x732x32x128 .bf16) (v42 : FVec Ideal S7x732x32 .bf16)
    (wg : Vec Ideal S7x4096x12288 .fp8e4m3) (sg : Vec Ideal S7x32x96 .f32) (wu : Vec Ideal S7x4096x12288 .fp8e4m3)
    (su : Vec Ideal S7x32x96 .f32) (e : Fin 7) (R : Fin 732) (g : Fin 96) :
    k0_pay6 ok v41 v42 wg sg wu su (ix3 e R g) = k0_pay8 ok v41 v42 wg sg wu su (ix4 e R g 0) := by
  have key : ∀ X : FVec Ideal S7x732x96 .f32, shapeCast S7x732x96x1 X shapeCasts_S7x732x96_S7x732x96x1 (ix4 e R g 0)
      = X (ix3 e R g) := by intro X; pointwise
  unfold k0_pay8
  exact (key _).symm

/-- The candidates of the exponent search. -/
theorem p6 (k : Fin 252) : k0_pay7 (F := Ideal) (ix4 0 0 0 k) = (((BitVec.ofNat 32 k.val).toInt : ℝ) : EReal) - Ideal.ofBits .f32 0x42FC0000#32 := by
  have key : iota .tc S1x1x1x252 32 [3] iota_S1x1x1x252_d3_w32 (ix4 0 0 0 k) = BitVec.ofNat 32 k.val := by pointwise
  unfold k0_pay7
  dsimp only
  rw [ValueIdx.subf_apply, ValueIdx.sitofp_apply, key, fsitofp]
  rfl

/-- The exponent. -/
theorem exp_eq (v78 : FVec Ideal S7x732x96 .f32) (v83 : FVec Ideal S7x732x96x1 .f32) (e : Fin 7) (R : Fin 732) (g : Fin 96)
    (hv : v78 (ix3 e R g) = v83 (ix4 e R g 0)) :
    k0_pay10 v78 k0_pay7 v83 k0_pay9 (ix3 e R g) = rexpOf (v83 (ix4 e R g 0)) := by
  have k1 : ∀ (X : FVec Ideal S7x732x96x1 .f32) (k : Fin 252), broadcastTo S7x732x96x252 X broadcasts_S7x732x96x1_S7x732x96x252 (ix4 e R g k)
      = X (ix4 e R g 0) := by intro X k; pointwise
  have k2 : ∀ (X : FVec Ideal S1x1x1x252 .f32) (k : Fin 252), broadcastTo S7x732x96x252 X broadcasts_S1x1x1x252_S7x732x96x252 (ix4 e R g k)
      = X (ix4 0 0 0 k) := by intro X k; pointwise
  have k3 : ∀ (X : FVec Ideal S1x1x1x252 .f32) (k : Fin 252), shapeCast S1x1x1x252 X shapeCasts_S1x1x1x252_S1x1x1x252 (ix4 0 0 0 k)
      = X (ix4 0 0 0 k) := by intro X k; pointwise
  have hl : ∀ l : Fin 252, reduces_S7x732x96x252_S7x732x96.lift (ix3 e R g) l = ix4 e R g l := by
    intro l; funext c; apply Fin.ext; fin_cases c <;> rfl
  have h8 : ∀ k, k0_pay9 (F := Ideal) (ix4 0 0 0 k) = Ideal.exp2 ((((BitVec.ofNat 32 k.val).toInt : ℝ) : EReal) - Ideal.ofBits .f32 0x42FC0000#32) := by
    intro k; unfold k0_pay9; rw [exp2_apply, fexp2, p6]
  have h6 := p6
  rw [← rexp_eq]
  unfold k0_pay10 rexp
  generalize k0_pay7 (F := Ideal) = q6 at *
  generalize k0_pay9 (F := Ideal) = q8 at *
  set src : FVec Ideal S7x732x96x252 .f32 := select (cmpf .oge (broadcastTo S7x732x96x252 v83 broadcasts_S7x732x96x1_S7x732x96x252)
        (broadcastTo S7x732x96x252 q8 broadcasts_S1x1x1x252_S7x732x96x252))
        (broadcastTo S7x732x96x252 (shapeCast S1x1x1x252 (addf q6 (broadcast S1x1x1x252 (Scalar.ofBits .f32 0x3F800000#32))) shapeCasts_S1x1x1x252_S1x1x1x252) broadcasts_S1x1x1x252_S7x732x96x252)
        (broadcast S7x732x96x252 (Scalar.ofBits .f32 0xFF800000#32)) with hsrc
  have hsv : ∀ k, src (ix4 e R g k) = Scalar.select (Ideal.cmp .oge (v83 (ix4 e R g 0)) (Ideal.exp2 ((((BitVec.ofNat 32 k.val).toInt : ℝ):EReal) - Ideal.ofBits .f32 0x42FC0000#32))) ((((BitVec.ofNat 32 k.val).toInt : ℝ):EReal) - Ideal.ofBits .f32 0x42FC0000#32 + Ideal.ofBits .f32 0x3F800000#32) (Ideal.ofBits .f32 0xFF800000#32) := by
    intro k
    rw [hsrc, ValueIdx.select_apply, ValueIdx.cmpf_apply, k1, k2, k2, k3, h8, ValueIdx.addf_apply, h6]
    rfl
  have hM := Ideal.multiReduction_maximumf_single src 0xFF800000#32 reduces_S7x732x96x252_S7x732x96 (.inl rfl) rfl (ix3 e R g)
  have hS : (src ∘ reduces_S7x732x96x252_S7x732x96.lift (ix3 e R g)) = fun k => Scalar.select (Ideal.cmp .oge (v83 (ix4 e R g 0)) (Ideal.exp2 ((((BitVec.ofNat 32 k.val).toInt : ℝ):EReal) - Ideal.ofBits .f32 0x42FC0000#32))) ((((BitVec.ofNat 32 k.val).toInt : ℝ):EReal) - Ideal.ofBits .f32 0x42FC0000#32 + Ideal.ofBits .f32 0x3F800000#32) (Ideal.ofBits .f32 0xFF800000#32) := by
    funext l; exact (congrArg src (hl l)).trans (hsv l)
  rw [hS] at hM
  clear_value src
  rw [ValueIdx.select_apply, ValueIdx.cmpf_apply, Ideal.cmpf_def, hv]
  refine Eq.trans ?_ (congrArg (fun M => Scalar.select (Ideal.cmp .olt (v83 (ix4 e R g 0)) (Ideal.ofBits .f32 0x00800000#32)) (Ideal.ofBits .f32 0x00000000#32) M) hM)
  rfl

/-- A code. -/
theorem code_eq (h : FVec Ideal S7x732x96x128 .f32) (a b : FVec Ideal S1x1x1x252 .f32) (u : FVec Ideal S7x732x96 .f32) (v83 : FVec Ideal S7x732x96x1 .f32) (e : Fin 7) (R : Fin 732) (G : Fin 12288) :
    k0_pay12 h u a v83 b (ix3 e R G)
      = clip (h (ix4 e R ⟨G.val / 128, by omega⟩ ⟨G.val % 128, by omega⟩) * Ideal.exp2 (0 - k0_pay10 u a v83 b (ix3 e R ⟨G.val / 128, by omega⟩))) := by
  have key : ∀ X : FVec Ideal S7x732x96x128 .fp8e4m3, shapeCast S7x732x12288 X shapeCasts_S7x732x96x128_S7x732x12288 (ix3 e R G)
      = X (ix4 e R ⟨G.val / 128, by omega⟩ ⟨G.val % 128, by omega⟩) := by intro X; pointwise
  have key2 : ∀ X : FVec Ideal S7x732x96 .f32, broadcastTo S7x732x96x128 (shapeCast S7x732x96x1 X shapeCasts_S7x732x96_S7x732x96x1)
        broadcasts_S7x732x96x1_S7x732x96x128 (ix4 e R ⟨G.val / 128, by omega⟩ ⟨G.val % 128, by omega⟩)
      = X (ix3 e R ⟨G.val / 128, by omega⟩) := by intro X; pointwise
  unfold k0_pay12
  refine (key _).trans ?_
  generalize k0_pay10 u a v83 b = q
  rw [ValueIdx.truncf_apply, ValueIdx.minimumf_apply, ValueIdx.maximumf_apply, ValueIdx.mulf_apply, key2, exp2_apply, fexp2,
    ValueIdx.subf_apply, ValueIdx.broadcast_apply, ValueIdx.broadcast_apply, ValueIdx.broadcast_apply]
  unfold clip
  rw [← Ideal.ofBits_zero_f32]
  rfl

/-- The result row. -/
theorem y_eq (ok : IVec S7x732x1 1) (p : FVec Ideal S7x732x4096 .f32) (e : Fin 7) (R : Fin 732) (c : Fin 4096) :
    k0_pay1 ok p (Scalar.ofBits .f32 0x00000000#32) (ix3 e R c) = Scalar.select (ok (ix3 e R 0)) (p (ix3 e R c)) 0 := by
  have key : ∀ X : IVec S7x732x1 1, broadcastTo S7x732x4096 (shapeCast S7x732x1 X shapeCasts_S7x732x1_S7x732x1)
        broadcasts_S7x732x1_S7x732x4096 (ix3 e R c) = X (ix3 e R 0) := by intro X; pointwise
  unfold k0_pay1
  show Scalar.select (broadcastTo S7x732x4096 (shapeCast S7x732x1 ok shapeCasts_S7x732x1_S7x732x1)
        broadcasts_S7x732x1_S7x732x4096 (ix3 e R c)) (p (ix3 e R c)) (Ideal.ofBits .f32 0#32) = _
  rw [key, Ideal.ofBits_zero_f32]

/-- A scale. -/
theorem scale_eq (a b : FVec Ideal S1x1x1x252 .f32) (u : FVec Ideal S7x732x96 .f32) (v83 : FVec Ideal S7x732x96x1 .f32) (e : Fin 7) (R : Fin 732) (g : Fin 96) :
    k0_pay11 u a v83 b (ix3 e R g) = Ideal.exp2 (k0_pay10 u a v83 b (ix3 e R g)) := by
  unfold k0_pay11
  rw [exp2_apply, fexp2]

/-- The down product at an index. -/
theorem prod_eq (h : FVec Ideal S7x732x96x128 .f32) (a b : FVec Ideal S1x1x1x252 .f32) (u : FVec Ideal S7x732x96 .f32) (v83 : FVec Ideal S7x732x96x1 .f32) (wd : Vec Ideal S7x12288x4096 .fp8e4m3)
    (sd : Vec Ideal S7x96x32 .f32) (e : Fin 7) (R : Fin 732) (c : Fin 4096) :
    k0_pay13 h u a v83 b wd sd (ix3 e R c)
      = ∑ x : Fin 12288, k0_pay12 h u a v83 b (ix3 e R x) * k0_pay11 u a v83 b (ix3 e R ⟨x.val / 128, by omega⟩)
          * (wd (ix3 e x c) * sd (ix3 e ⟨x.val / 128, by omega⟩ ⟨c.val / 128, by omega⟩)) := by
  unfold k0_pay13
  generalize k0_pay12 h u a v83 b = q
  generalize k0_pay11 u a v83 b = s
  pointwise

/-- An index of rank 3 is its coordinates. -/
theorem ix3_eta {a b c : ℕ} (i : (⟨3, ![a, b, c]⟩ : Shape).Idx) : ∃ (x : Fin a) (y : Fin b) (z : Fin c), i = ix3 x y z :=
  ⟨i 0, i 1, i 2, by funext q; fin_cases q <;> rfl⟩

/-- A sum over the hidden columns by blocks of 256. -/
theorem sum_blocks (F : Fin 12288 → EReal) : ∑ x, F x = ∑ f : Fin 48, ∑ j : Fin 256, F ⟨256 * f.val + j.val, by omega⟩ := by
  rw [← (finProdFinEquiv (m := 48) (n := 256)).sum_comp F, Fintype.sum_prod_type]
  refine Finset.sum_congr rfl fun f _ => Finset.sum_congr rfl fun j _ => congrArg F (Fin.ext ?_)
  show j.val + 256 * f.val = 256 * f.val + j.val
  omega

section

variable (a0 : Vec Ideal S7x732x4096 .fp8e4m3) (a1 : Vec Ideal S7x732x32 .f32) (a2 : Vec Ideal S7 .i32) (a3 : Vec Ideal S7x4096x12288 .fp8e4m3)
  (a4 : Vec Ideal S7x32x96 .f32) (a5 : Vec Ideal S7x4096x12288 .fp8e4m3) (a6 : Vec Ideal S7x32x96 .f32) (a7 : Vec Ideal S7x12288x4096 .fp8e4m3)
  (a8 : Vec Ideal S7x96x32 .f32)

/-- A load of a whole array is the array. -/
theorem ld_all : View.ld a0 r0_1 = a0 ∧ View.ld a1 r0_2 = a1 ∧ View.ld a2 r0_0 = a2 ∧ View.ld a3 r0_3 = a3 ∧ View.ld a4 r0_4 = a4
    ∧ View.ld a7 r0_5 = a7 ∧ View.ld a8 r0_6 = a8 := by
  refine ⟨View.ld_unit_zero ?_ _ _, View.ld_unit_zero ?_ _ _, View.ld_unit_zero ?_ _ _, View.ld_unit_zero ?_ _ _, View.ld_unit_zero ?_ _ _,
    View.ld_unit_zero ?_ _ _, View.ld_unit_zero ?_ _ _⟩ <;> (funext q; fin_cases q <;> rfl)

/-- A group's peak over 448, of the arguments. -/
theorem grp_eq (e : Fin 7) (R : Fin 732) (g : Fin 96) :
    k0_pay8 (k0_pay2 (F := Ideal) a2) (k0_pay3 a0) (k0_pay4 a1) a3 a4 a5 a6 (ix4 e R g 0)
      = grp (okw (a2 (ix1 e)) R.val) (xrow a0 a1 e R) (wboth a3 a4 a5 a6 e ⟨g.val / 2, by omega⟩) ⟨g.val % 2, by omega⟩ := by
  rw [peak_eq]
  unfold grp
  refine congrArg peak (funext fun l => ?_)
  rw [hid_eq, valid_eq]

/-- The reference's scales. -/
theorem scale_val (e : Fin 7) (R : Fin 732) (g : Fin 96) :
    k0_pay11 (k0_pay6 (k0_pay2 (F := Ideal) a2) (k0_pay3 a0) (k0_pay4 a1) a3 a4 a5 a6) k0_pay7 (k0_pay8 (k0_pay2 (F := Ideal) a2) (k0_pay3 a0) (k0_pay4 a1) a3 a4 a5 a6) k0_pay9 (ix3 e R g)
      = Spec.scale a0 a1 a2 a3 a4 a5 a6 e R ⟨g.val / 2, by omega⟩ ⟨g.val % 2, by omega⟩ := by
  rw [scale_eq, exp_eq _ _ _ _ _ (peak3_eq _ _ _ _ _ _ _ _ _ _), exp2_rexp, grp_eq]
  rfl

/-- The reference's codes. -/
theorem code_val (e : Fin 7) (R : Fin 732) (G : Fin 12288) :
    k0_pay12 (k0_pay5 (k0_pay2 (F := Ideal) a2) (k0_pay3 a0) (k0_pay4 a1) a3 a4 a5 a6) (k0_pay6 (k0_pay2 (F := Ideal) a2) (k0_pay3 a0) (k0_pay4 a1) a3 a4 a5 a6) k0_pay7
        (k0_pay8 (k0_pay2 (F := Ideal) a2) (k0_pay3 a0) (k0_pay4 a1) a3 a4 a5 a6) k0_pay9 (ix3 e R G)
      = Spec.code a0 a1 a2 a3 a4 a5 a6 e R ⟨G.val / 256, by omega⟩ ⟨G.val % 256, by omega⟩ := by
  rw [code_eq, exp_eq _ _ _ _ _ (peak3_eq _ _ _ _ _ _ _ _ _ _), exp2_neg_rexp, grp_eq, hid_eq, valid_eq]
  unfold Spec.code cod
  have h1 : (⟨G.val / 128 / 2, by omega⟩ : Fin 48) = ⟨G.val / 256, by omega⟩ := Fin.ext (by show G.val / 128 / 2 = G.val / 256; omega)
  have h2 : (⟨128 * (G.val / 128 % 2) + G.val % 128, by omega⟩ : Fin 256) = ⟨G.val % 256, by omega⟩ :=
    Fin.ext (by show 128 * (G.val / 128 % 2) + G.val % 128 = G.val % 256; omega)
  have h3 : (⟨G.val / 128 % 2, by omega⟩ : Fin 2) = grpOf ⟨G.val % 256, by omega⟩ :=
    Fin.ext (by show G.val / 128 % 2 = G.val % 256 / 128; omega)
  rw [h1, h2, h3]

/-- The third result is the specification's. -/
theorem G11_eq : Cert.ReferenceIdeal.Value.G11 a0 a1 a2 a3 a4 a5 a6 a7 a8 = Spec.HS a0 a1 a2 a3 a4 a5 a6 := by
  funext i
  obtain ⟨e, R, g, rfl⟩ := ix3_eta i
  obtain ⟨l0, l1, l2, l3, l4, l7, l8⟩ := ld_all a0 a1 a2 a3 a4 a7 a8
  obtain ⟨-, -, -, l5, l6, -, -⟩ := ld_all a0 a1 a2 a5 a6 a7 a8
  unfold Cert.ReferenceIdeal.Value.G11 k0_pay18 k0_pay19 k0_pay20 k0_pay21 k0_pay14 k0_pay15 k0_pay16
  rw [l0, l1, l2, l3, l4, l5, l6, scale_val]
  rfl

/-- The second result is the specification's. -/
theorem G10_eq : Cert.ReferenceIdeal.Value.G10 a0 a1 a2 a3 a4 a5 a6 a7 a8 = Spec.HC a0 a1 a2 a3 a4 a5 a6 := by
  funext i
  obtain ⟨e, R, g, rfl⟩ := ix3_eta i
  obtain ⟨l0, l1, l2, l3, l4, l7, l8⟩ := ld_all a0 a1 a2 a3 a4 a7 a8
  obtain ⟨-, -, -, l5, l6, -, -⟩ := ld_all a0 a1 a2 a5 a6 a7 a8
  unfold Cert.ReferenceIdeal.Value.G10 k0_pay17 k0_pay18 k0_pay19 k0_pay20 k0_pay21 k0_pay14 k0_pay15 k0_pay16
  rw [l0, l1, l2, l3, l4, l5, l6, code_val]
  rfl

/-- The first result is the specification's. -/
theorem G9_eq : Cert.ReferenceIdeal.Value.G9 a0 a1 a2 a3 a4 a5 a6 a7 a8 = Spec.Y a0 a1 a2 a3 a4 a5 a6 a7 a8 := by
  funext i
  obtain ⟨e, R, c, rfl⟩ := ix3_eta i
  obtain ⟨l0, l1, l2, l3, l4, l7, l8⟩ := ld_all a0 a1 a2 a3 a4 a7 a8
  obtain ⟨-, -, -, l5, l6, -, -⟩ := ld_all a0 a1 a2 a5 a6 a7 a8
  unfold Cert.ReferenceIdeal.Value.G9 k0_pay17 k0_pay18 k0_pay19 k0_pay20 k0_pay21 k0_pay14 k0_pay15 k0_pay16
  rw [l0, l1, l2, l3, l4, l5, l6, y_eq, prod_eq, valid_eq, sum_blocks]
  show _ = ∑ f : Fin 48, Spec.ypart a0 a1 a2 a3 a4 a5 a6 a7 a8 e R f c
  have hb : okw (a2 (ix1 e)) R.val = 0#1 ∨ okw (a2 (ix1 e)) R.val = 1#1 := by
    generalize okw (a2 (ix1 e)) R.val = w; revert w; decide
  rcases hb with hb | hb
  · have : ∀ f, Spec.ypart a0 a1 a2 a3 a4 a5 a6 a7 a8 e R f c = 0 := by
      intro f; unfold Spec.ypart; rw [hb, part_zero]
    simp only [this, Finset.sum_const_zero]
    rw [hb, Scalar.select, if_neg (by decide)]
  · rw [hb, Scalar.select, if_pos (by decide)]
    refine Finset.sum_congr rfl fun f _ => ?_
    unfold Spec.ypart part
    refine Finset.sum_congr rfl fun j _ => ?_
    rw [code_val, scale_val]
    have h1 : (⟨(256 * f.val + j.val) / 256, by omega⟩ : Fin 48) = f := Fin.ext (by show (256 * f.val + j.val) / 256 = f.val; omega)
    have h2 : (⟨(256 * f.val + j.val) % 256, by omega⟩ : Fin 256) = j := Fin.ext (by show (256 * f.val + j.val) % 256 = j.val; omega)
    have h3 : (⟨(256 * f.val + j.val) / 128 / 2, by omega⟩ : Fin 48) = f := Fin.ext (by show (256 * f.val + j.val) / 128 / 2 = f.val; omega)
    have h4 : (⟨(256 * f.val + j.val) / 128 % 2, by omega⟩ : Fin 2) = grpOf j := Fin.ext (by show (256 * f.val + j.val) / 128 % 2 = j.val / 128; omega)
    have h5 : (⟨(256 * f.val + j.val) / 128, by omega⟩ : Fin 96) = ⟨2 * f.val + j.val / 128, by omega⟩ :=
      Fin.ext (by show (256 * f.val + j.val) / 128 = 2 * f.val + j.val / 128; omega)
    rw [h1, h2, h3, h4, h5]
    rfl

end

end Cert.ReferenceIdeal.Hand

end
-- ==== Proof.Equal.lean ====
/-
  The idealized kernel and the idealized reference, from memories agreeing on the arguments, end with the same three results:
  each ends with those of Proof/Spec.lean.
-/
module

public import proofs.«01_k».proof.Defs
public import proofs.«01_k».proof.Proof.RunValue
public import proofs.«01_k».proof.Proof.RefValue

@[expose] public section

noncomputable section

namespace Cert.Equal

open Idealize.ShloMosaic Idealize.ShloMosaic.TcCoe Idealize.SL.Sem
open Cert.Spec (Arr)

section

variable {a0 b0 : Arr 7 732 4096} {a1 b1 : Arr 7 732 32} {a2 b2 : (⟨1, ![7]⟩ : Shape).Idx → BitVec 32} {a3 b3 : Arr 7 4096 12288}
  {a4 b4 : Arr 7 32 96} {a5 b5 : Arr 7 4096 12288} {a6 b6 : Arr 7 32 96} {a7 b7 : Arr 7 12288 4096} {a8 b8 : Arr 7 96 32}

/-- Equal arguments make equal first results. -/
theorem Y_congr (h0 : a0 = b0) (h1 : a1 = b1) (h2 : a2 = b2) (h3 : a3 = b3) (h4 : a4 = b4) (h5 : a5 = b5) (h6 : a6 = b6) (h7 : a7 = b7)
    (h8 : a8 = b8) : Spec.Y a0 a1 a2 a3 a4 a5 a6 a7 a8 = Spec.Y b0 b1 b2 b3 b4 b5 b6 b7 b8 := by
  rw [h0, h1, h2, h3, h4, h5, h6, h7, h8]

/-- Equal arguments make equal codes. -/
theorem HC_congr (h0 : a0 = b0) (h1 : a1 = b1) (h2 : a2 = b2) (h3 : a3 = b3) (h4 : a4 = b4) (h5 : a5 = b5) (h6 : a6 = b6) :
    Spec.HC a0 a1 a2 a3 a4 a5 a6 = Spec.HC b0 b1 b2 b3 b4 b5 b6 := by
  rw [h0, h1, h2, h3, h4, h5, h6]

/-- Equal arguments make equal scales. -/
theorem HS_congr (h0 : a0 = b0) (h1 : a1 = b1) (h2 : a2 = b2) (h3 : a3 = b3) (h4 : a4 = b4) (h5 : a5 = b5) (h6 : a6 = b6) :
    Spec.HS a0 a1 a2 a3 a4 a5 a6 = Spec.HS b0 b1 b2 b3 b4 b5 b6 := by
  rw [h0, h1, h2, h3, h4, h5, h6]

end

/-- The idealized kernel and the idealized reference end with equal results and unchanged arguments. -/
theorem algebraic :
    algebraic_KernelIdeal_ReferenceIdeal (hKernelIdeal := Cert.KernelIdeal.Gen.facts) (hReferenceIdeal := Cert.ReferenceIdeal.Gen.facts) := by
  intro m g m' g' _ hA
  refine ⟨Cert.KernelIdeal.Hand.YA m, Cert.KernelIdeal.Hand.HCA m, Cert.KernelIdeal.Hand.HSA m, Cert.KernelIdeal.Hand.value m g, ?_⟩
  refine (θ_run _ _ _).mono (fun r h c => ?_) (Cert.ReferenceIdeal.Value.run (F := Ideal) m' g')
  obtain ⟨h9, h10, h11, hK⟩ := h c
  obtain ⟨e0, e1, e2, e3, e4, e5, e6, e7, e8⟩ := hA c
  refine ⟨?_, ?_, ?_, hK⟩
  · exact (h9.trans (Cert.ReferenceIdeal.Hand.G9_eq _ _ _ _ _ _ _ _ _)).trans (Y_congr e0 e1 e2 e3 e4 e5 e6 e7 e8)
  · exact (h10.trans (Cert.ReferenceIdeal.Hand.G10_eq _ _ _ _ _ _ _ _ _)).trans (HC_congr e0 e1 e2 e3 e4 e5 e6)
  · exact (h11.trans (Cert.ReferenceIdeal.Hand.G11_eq _ _ _ _ _ _ _ _ _)).trans (HS_congr e0 e1 e2 e3 e4 e5 e6)

end Cert.Equal

end
-- ==== Proof.lean ====
module

public import proofs.«01_k».proof.Defs
public import proofs.«01_k».proof.Proof.FrameKernel
public import proofs.«01_k».proof.Proof.FrameKernelIdeal
public import proofs.«01_k».proof.Proof.Equal
public import proofs.«01_k».proof.Proof.Gen.ReferenceIdeal
public import proofs.«01_k».proof.Proof.Gen.ReferenceIdeal.Frame
public import proofs.«01_k».proof.Proof.Gen.ReferenceIdeal.Value

@[expose] public section

noncomputable section

theorem Cert.Proof.claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, Cert.Equal.algebraic⟩

end
